-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_scores [hPre_finite_scores : Cert.Pre_finite_scores.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_scores.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_scores [hPre_finite_scores : Cert.Pre_finite_scores.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_scores.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite_scores [hKernel6Ideal : Cert.Kernel6Ideal.Facts] [hPre_finite_scores : Cert.Pre_finite_scores.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_scores m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite_scores [hReference6Ideal : Cert.Reference6Ideal.Facts] [hPre_finite_scores : Cert.Pre_finite_scores.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_scores m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v44) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def algebraic_Kernel6Ideal_Reference6Ideal_pre_finite_scores [hKernel6Ideal : Cert.Kernel6Ideal.Facts] [hReference6Ideal : Cert.Reference6Ideal.Facts] [hPre_finite_scores : Cert.Pre_finite_scores.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_scores m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v144) = v0 c
          ∧ r.2.mem ((c.tc : Thread Cert.Reference6Ideal.nD Cert.Reference6Ideal.τ).loc Cert.Reference6Ideal.main_v143) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6Ideal : Cert.Kernel6Ideal.Facts) (hReference6Ideal : Cert.Reference6Ideal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6Ideal (hKernel6Ideal := hKernel6Ideal)
    ∧ quiescent_Kernel6Ideal_pre_finite_scores (hKernel6Ideal := hKernel6Ideal) (hPre_finite_scores := hPre_finite_scores)
    ∧ quiescent_Reference6Ideal (hReference6Ideal := hReference6Ideal)
    ∧ quiescent_Reference6Ideal_pre_finite_scores (hReference6Ideal := hReference6Ideal) (hPre_finite_scores := hPre_finite_scores)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ algebraic_Kernel6Ideal_Reference6Ideal_pre_finite_scores (hKernel6Ideal := hKernel6Ideal) (hReference6Ideal := hReference6Ideal) (hPre_finite_scores := hPre_finite_scores)
-- ==== Pre_finite_scores.lean ====
abbrev S2x2048x1024 : Shape := ⟨3, ![2, 2048, 1024]⟩
abbrev S4096x512 : Shape := ⟨2, ![4096, 512]⟩
abbrev S4096x3328 : Shape := ⟨2, ![4096, 3328]⟩
abbrev S512x512 : Shape := ⟨2, ![512, 512]⟩
abbrev S4x128x128 : Shape := ⟨3, ![4, 128, 128]⟩
abbrev S4x128 : Shape := ⟨2, ![4, 128]⟩
abbrev S1x256 : Shape := ⟨2, ![1, 256]⟩
abbrev S1024x1024 : Shape := ⟨2, ![1024, 1024]⟩
abbrev S1024 : Shape := ⟨1, ![1024]⟩
abbrev S4096x256 : Shape := ⟨2, ![4096, 256]⟩
abbrev S512x256 : Shape := ⟨2, ![512, 256]⟩
abbrev S4608x256 : Shape := ⟨2, ![4608, 256]⟩
abbrev S_ : Shape := ⟨0, ![]⟩

class Facts : Prop where
  slices_S4096x3328_S4096x256_0_2816 : S4096x3328.Slices ![0, 2816] S4096x256
  slices_S512x512_S512x256_0_0 : S512x512.Slices ![0, 0] S512x256
  concatenates_S4096x256_S512x256_S4608x256_d0 : Shape.Concatenates [S4096x256, S512x256] S4608x256 0
  bcast_S_S4608x256 : S_.BroadcastsInDim S4608x256 (![] : Fin 0 → Fin S4608x256.rank)

variable [Facts]

def fn {F : FTy → Type} [FloatOps F] (main_arg0 : FVec F S2x2048x1024 .f32) (main_arg1 : FVec F S2x2048x1024 .f32) (main_arg2 : FVec F S4096x512 .f32) (main_arg3 : FVec F S4096x3328 .f32) (main_arg4 : FVec F S512x512 .f32) (main_arg5 : FVec F S4x128x128 .f32) (main_arg6 : FVec F S4x128 .f32) (main_arg7 : FVec F S1x256 .f32) (main_arg8 : FVec F S1024x1024 .f32) (main_arg9 : FVec F S1024 .f32) : IVec S4608x256 1 :=
  let main_v0 : FVec F S4096x256 .f32 := (extractStridedSlice S4096x256 ![0, 2816] · slices_S4096x3328_S4096x256_0_2816) main_arg3
  let main_v1 : FVec F S512x256 .f32 := (extractStridedSlice S512x256 ![0, 0] · slices_S512x512_S512x256_0_0) main_arg4
  let main_v2 : FVec F S4608x256 .f32 := (fun a b => concatenate S4608x256 0 [⟨S4096x256, a⟩, ⟨S512x256, b⟩] concatenates_S4096x256_S512x256_S4608x256_d0) main_v0 main_v1
  let main_v3 : FVec F S4608x256 .f32 := Host.absf main_v2
  let main_cst : FVec F S_ .f32 := constant S_ .f32 0x7F800000#32
  let main_v4 : FVec F S4608x256 .f32 := broadcastInDim S4608x256 ![] bcast_S_S4608x256 main_cst
  let main_v5 : IVec S4608x256 1 := cmpf .olt main_v3 main_v4
  main_v5
-- ==== Kernel.lean ====
abbrev S2x2048x1024 : Shape := ⟨3, ![2, 2048, 1024]⟩
abbrev S4096x1024 : Shape := ⟨2, ![4096, 1024]⟩
abbrev S4096x512 : Shape := ⟨2, ![4096, 512]⟩
abbrev S4096x1792 : Shape := ⟨2, ![4096, 1792]⟩
abbrev S1x1024 : Shape := ⟨2, ![1, 1024]⟩
abbrev S1024x3328 : Shape := ⟨2, ![1024, 3328]⟩
abbrev S3328x1024 : Shape := ⟨2, ![3328, 1024]⟩
abbrev S512x512 : Shape := ⟨2, ![512, 512]⟩
abbrev S512x1792 : Shape := ⟨2, ![512, 1792]⟩
abbrev S512x1024 : Shape := ⟨2, ![512, 1024]⟩
abbrev S256x512 : Shape := ⟨2, ![256, 512]⟩
abbrev S256x1024 : Shape := ⟨2, ![256, 1024]⟩
abbrev S256x1792 : Shape := ⟨2, ![256, 1792]⟩
abbrev S1792x1024 : Shape := ⟨2, ![1792, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 17
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x1792, .bf16⟩
  | .hbm, ⟨6, _⟩ => ⟨S1x1024, .f32⟩
  | .hbm, ⟨7, _⟩ => ⟨S1024x3328, .f32⟩
  | .hbm, ⟨8, _⟩ => ⟨S3328x1024, .f32⟩
  | .hbm, ⟨9, _⟩ => ⟨S3328x1024, .bf16⟩
  | .hbm, ⟨10, _⟩ => ⟨S4096x1024, .f32⟩
  | .hbm, ⟨11, _⟩ => ⟨S4096x1024, .f32⟩
  | .hbm, ⟨12, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1792, .bf16⟩
  | .local _ .vmem, ⟨7, _⟩ => ⟨S512x1792, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S3328x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3328x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S2x2048x1024 : Shape := ⟨3, ![2, 2048, 1024]⟩
abbrev S4096x1024 : Shape := ⟨2, ![4096, 1024]⟩
abbrev S4096x512 : Shape := ⟨2, ![4096, 512]⟩
abbrev S4096x1792 : Shape := ⟨2, ![4096, 1792]⟩
abbrev S1x1024 : Shape := ⟨2, ![1, 1024]⟩
abbrev S1024x3328 : Shape := ⟨2, ![1024, 3328]⟩
abbrev S4096x3328 : Shape := ⟨2, ![4096, 3328]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x3328 : Shape := ⟨3, ![2, 2048, 3328]⟩
abbrev S3328x1024 : Shape := ⟨2, ![3328, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x1792, .bf16⟩
  | .hbm, ⟨6, _⟩ => ⟨S1x1024, .f32⟩
  | .hbm, ⟨7, _⟩ => ⟨S1024x3328, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x1792, .f32⟩
  | .hbm, ⟨12, _⟩ => ⟨S4096x3328, .f32⟩
  | .hbm, ⟨13, _⟩ => ⟨S1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1024, .f32⟩
  | .hbm, ⟨30, _⟩ => ⟨S2x2048x1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S2x2048x3328, .f32⟩
  | .hbm, ⟨35, _⟩ => ⟨S2x2048x3328, .f32⟩
  | .hbm, ⟨36, _⟩ => ⟨S3328x1024, .f32⟩
  | .hbm, ⟨37, _⟩ => ⟨S1024x3328, .f32⟩
  | .hbm, ⟨38, _⟩ => ⟨S2x2048x1024, .f32⟩
  | .hbm, ⟨39, _⟩ => ⟨S2x2048x1024, .f32⟩
  | .hbm, ⟨40, _⟩ => ⟨S_, .f32⟩
  | .hbm, ⟨41, _⟩ => ⟨S1024, .f32⟩
  | .hbm, ⟨42, _⟩ => ⟨S1x1x1024, .f32⟩
  | .hbm, ⟨43, _⟩ => ⟨S2x2048x1024, .f32⟩
  | .hbm, ⟨44, _⟩ => ⟨S2x2048x1024, .f32⟩
  | .hbm, ⟨45, _⟩ => ⟨S_, .f32⟩
  | .hbm, ⟨46, _⟩ => ⟨S1024, .f32⟩
  | .hbm, ⟨47, _⟩ => ⟨S2x2048x1024, .f32⟩
  | .hbm, ⟨48, _⟩ => ⟨S_, .f32⟩
  | .hbm, ⟨49, _⟩ => ⟨S2x2048, .f32⟩
  | .hbm, ⟨50, _⟩ => ⟨S2x2048x1, .f32⟩
  | .hbm, ⟨51, _⟩ => ⟨S2x2048x1024, .f32⟩
  | .hbm, ⟨52, _⟩ => ⟨S2x2048x1024, .f32⟩
  | .hbm, ⟨53, _⟩ => ⟨S2x2048x1, .f32⟩
  | .hbm, ⟨54, _⟩ => ⟨S_, .f32⟩
  | .hbm, ⟨55, _⟩ => ⟨S2x2048x1, .f32⟩
  | .hbm, ⟨56, _⟩ => ⟨S2x2048x1, .f32⟩
  | .hbm, ⟨57, _⟩ => ⟨S_, .f32⟩
  | .hbm, ⟨58, _⟩ => ⟨S2x2048, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S1x1024, .f32⟩
  | .hbm, ⟨65, _⟩ => ⟨S4096x1024, .f32⟩
  | .hbm, ⟨66, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel2.lean ====
abbrev S2x2048x1024 : Shape := ⟨3, ![2, 2048, 1024]⟩
abbrev S1x1024 : Shape := ⟨2, ![1, 1024]⟩
abbrev S1024x3328 : Shape := ⟨2, ![1024, 3328]⟩
abbrev S3328x1024 : Shape := ⟨2, ![3328, 1024]⟩
abbrev S4096x1024 : Shape := ⟨2, ![4096, 1024]⟩
abbrev S4096x3328 : Shape := ⟨2, ![4096, 3328]⟩
abbrev S512x1024 : Shape := ⟨2, ![512, 1024]⟩
abbrev S512x3328 : Shape := ⟨2, ![512, 3328]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1024x3328, .f32⟩
  | .hbm, ⟨3, _⟩ => ⟨S3328x1024, .f32⟩
  | .hbm, ⟨4, _⟩ => ⟨S3328x1024, .bf16⟩
  | .hbm, ⟨5, _⟩ => ⟨S4096x1024, .f32⟩
  | .hbm, ⟨6, _⟩ => ⟨S4096x3328, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3328x1024, .bf16⟩
  | .local _ .vmem, ⟨4, _⟩ => ⟨S512x3328, .f32⟩
  | .local _ .vmem, ⟨5, _⟩ => ⟨S512x3328, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3328x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3328 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S2x2048x1024 : Shape := ⟨3, ![2, 2048, 1024]⟩
abbrev S1x1024 : Shape := ⟨2, ![1, 1024]⟩
abbrev S1024x3328 : Shape := ⟨2, ![1024, 3328]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x3328 : Shape := ⟨3, ![2, 2048, 3328]⟩
abbrev S4096x3328 : Shape := ⟨2, ![4096, 3328]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1024x3328, .f32⟩
  | .hbm, ⟨3, _⟩ => ⟨S1024, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x2048x3328, .f32⟩
  | .hbm, ⟨21, _⟩ => ⟨S4096x3328, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel3.lean ====
abbrev S2x2048x1024 : Shape := ⟨3, ![2, 2048, 1024]⟩
abbrev S4096x512 : Shape := ⟨2, ![4096, 512]⟩
abbrev S4096x1792 : Shape := ⟨2, ![4096, 1792]⟩
abbrev S1x1024 : Shape := ⟨2, ![1, 1024]⟩
abbrev S1024x3328 : Shape := ⟨2, ![1024, 3328]⟩
abbrev S4096x1024 : Shape := ⟨2, ![4096, 1024]⟩
abbrev S3328x1024 : Shape := ⟨2, ![3328, 1024]⟩
abbrev S512x512 : Shape := ⟨2, ![512, 512]⟩
abbrev S512x1792 : Shape := ⟨2, ![512, 1792]⟩
abbrev S512x1024 : Shape := ⟨2, ![512, 1024]⟩
abbrev S512 : Shape := ⟨1, ![512]⟩
abbrev S512x1 : Shape := ⟨2, ![512, 1]⟩
abbrev S1792x1024 : Shape := ⟨2, ![1792, 1024]⟩

abbrev nBuf : Space → Nat
  | .hbm => 9
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x1792, .bf16⟩
  | .hbm, ⟨5, _⟩ => ⟨S1x1024, .f32⟩
  | .hbm, ⟨6, _⟩ => ⟨S1024x3328, .f32⟩
  | .hbm, ⟨7, _⟩ => ⟨S4096x1024, .f32⟩
  | .hbm, ⟨8, _⟩ => ⟨S3328x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1792, .bf16⟩
  | .local _ .vmem, ⟨7, _⟩ => ⟨S512x1792, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S3328x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3328x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S2x2048x1024 : Shape := ⟨3, ![2, 2048, 1024]⟩
abbrev S4096x512 : Shape := ⟨2, ![4096, 512]⟩
abbrev S4096x1792 : Shape := ⟨2, ![4096, 1792]⟩
abbrev S1x1024 : Shape := ⟨2, ![1, 1024]⟩
abbrev S1024x3328 : Shape := ⟨2, ![1024, 3328]⟩
abbrev S4096x3328 : Shape := ⟨2, ![4096, 3328]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x3328 : Shape := ⟨3, ![2, 2048, 3328]⟩
abbrev S3328x1024 : Shape := ⟨2, ![3328, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x1792, .bf16⟩
  | .hbm, ⟨5, _⟩ => ⟨S1x1024, .f32⟩
  | .hbm, ⟨6, _⟩ => ⟨S1024x3328, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x1792, .f32⟩
  | .hbm, ⟨11, _⟩ => ⟨S4096x3328, .f32⟩
  | .hbm, ⟨12, _⟩ => ⟨S1024, .f32⟩
  | .hbm, ⟨13, _⟩ => ⟨S2x2048x1024, .f32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1024, .f32⟩
  | .hbm, ⟨29, _⟩ => ⟨S2x2048x1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S2x2048x3328, .f32⟩
  | .hbm, ⟨34, _⟩ => ⟨S2x2048x3328, .f32⟩
  | .hbm, ⟨35, _⟩ => ⟨S3328x1024, .f32⟩
  | .hbm, ⟨36, _⟩ => ⟨S1024x3328, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S1024, .f32⟩
  | .hbm, ⟨41, _⟩ => ⟨S1x1x1024, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S1024, .f32⟩
  | .hbm, ⟨46, _⟩ => ⟨S2x2048x1024, .f32⟩
  | .hbm, ⟨47, _⟩ => ⟨S_, .f32⟩
  | .hbm, ⟨48, _⟩ => ⟨S2x2048, .f32⟩
  | .hbm, ⟨49, _⟩ => ⟨S2x2048x1, .f32⟩
  | .hbm, ⟨50, _⟩ => ⟨S2x2048x1024, .f32⟩
  | .hbm, ⟨51, _⟩ => ⟨S2x2048x1024, .f32⟩
  | .hbm, ⟨52, _⟩ => ⟨S2x2048x1, .f32⟩
  | .hbm, ⟨53, _⟩ => ⟨S_, .f32⟩
  | .hbm, ⟨54, _⟩ => ⟨S2x2048x1, .f32⟩
  | .hbm, ⟨55, _⟩ => ⟨S2x2048x1, .f32⟩
  | .hbm, ⟨56, _⟩ => ⟨S_, .f32⟩
  | .hbm, ⟨57, _⟩ => ⟨S2x2048, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S2x2048x1024, .f32⟩
  | .hbm, ⟨63, _⟩ => ⟨S1x1024, .f32⟩
  | .hbm, ⟨64, _⟩ => ⟨S3328x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel4.lean ====
abbrev S2x256x1024 : Shape := ⟨3, ![2, 256, 1024]⟩
abbrev S1x1024 : Shape := ⟨2, ![1, 1024]⟩
abbrev S1024x512 : Shape := ⟨2, ![1024, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 4
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1024x512, .f32⟩
  | .hbm, ⟨3, _⟩ => ⟨S512x1024, .f32⟩
  | .hbm, ⟨4, _⟩ => ⟨S1024x512, .bf16⟩
  | .hbm, ⟨5, _⟩ => ⟨S512x512, .f32⟩
  | .local _ .vmem, ⟨0, _⟩ => ⟨S512x1024, .f32⟩
  | .local _ .vmem, ⟨1, _⟩ => ⟨S1x1024, .f32⟩
  | .local _ .vmem, ⟨2, _⟩ => ⟨S1024x512, .bf16⟩
  | .local _ .vmem, ⟨3, _⟩ => ⟨S512x512, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference4Ideal.lean ====
abbrev S2x256x1024 : Shape := ⟨3, ![2, 256, 1024]⟩
abbrev S1x1024 : Shape := ⟨2, ![1, 1024]⟩
abbrev S1024x512 : Shape := ⟨2, ![1024, 512]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x512 : Shape := ⟨3, ![2, 256, 512]⟩
abbrev S512x512 : Shape := ⟨2, ![512, 512]⟩

abbrev nBuf : Space → Nat
  | .hbm => 22
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1024x512, .f32⟩
  | .hbm, ⟨3, _⟩ => ⟨S1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S2x256x512, .f32⟩
  | .hbm, ⟨21, _⟩ => ⟨S512x512, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S2x256x1024 : Shape := ⟨3, ![2, 256, 1024]⟩
abbrev S1x1024 : Shape := ⟨2, ![1, 1024]⟩
abbrev S1024x512 : Shape := ⟨2, ![1024, 512]⟩
abbrev S512x512 : Shape := ⟨2, ![512, 512]⟩
abbrev S512x1024 : Shape := ⟨2, ![512, 1024]⟩
abbrev S4x256x512 : Shape := ⟨3, ![4, 256, 512]⟩
abbrev S512 : Shape := ⟨1, ![512]⟩
abbrev S512x1 : Shape := ⟨2, ![512, 1]⟩
abbrev S256x512 : Shape := ⟨2, ![256, 512]⟩
abbrev S1x256x512 : Shape := ⟨3, ![1, 256, 512]⟩
abbrev S1024 : Shape := ⟨1, ![1024]⟩

abbrev nBuf : Space → Nat
  | .hbm => 8
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1024x512, .f32⟩
  | .hbm, ⟨3, _⟩ => ⟨S512x512, .f32⟩
  | .hbm, ⟨4, _⟩ => ⟨S512x1024, .f32⟩
  | .hbm, ⟨5, _⟩ => ⟨S1024x512, .bf16⟩
  | .hbm, ⟨6, _⟩ => ⟨S4x256x512, .bf16⟩
  | .hbm, ⟨7, _⟩ => ⟨S1x1024, .f32⟩
  | .local _ .vmem, ⟨0, _⟩ => ⟨S512x1024, .f32⟩
  | .local _ .vmem, ⟨1, _⟩ => ⟨S1x1024, .f32⟩
  | .local _ .vmem, ⟨2, _⟩ => ⟨S1024x512, .bf16⟩
  | .local _ .vmem, ⟨3, _⟩ => ⟨S512x512, .f32⟩
  | .local _ .vmem, ⟨4, _⟩ => ⟨S4x256x512, .bf16⟩
  | .local _ .vmem, ⟨5, _⟩ => ⟨S1x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference5Ideal.lean ====
abbrev S2x256x1024 : Shape := ⟨3, ![2, 256, 1024]⟩
abbrev S1x1024 : Shape := ⟨2, ![1, 1024]⟩
abbrev S1024x512 : Shape := ⟨2, ![1024, 512]⟩
abbrev S512x512 : Shape := ⟨2, ![512, 512]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x512 : Shape := ⟨3, ![2, 256, 512]⟩
abbrev S512x1024 : Shape := ⟨2, ![512, 1024]⟩
abbrev S4x256x512 : Shape := ⟨3, ![4, 256, 512]⟩

abbrev nBuf : Space → Nat
  | .hbm => 58
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1024x512, .f32⟩
  | .hbm, ⟨3, _⟩ => ⟨S512x512, .f32⟩
  | .hbm, ⟨4, _⟩ => ⟨S1024, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S_, .f32⟩
  | .hbm, ⟨18, _⟩ => ⟨S2x256x1, .f32⟩
  | .hbm, ⟨19, _⟩ => ⟨S2x256x1, .f32⟩
  | .hbm, ⟨20, _⟩ => ⟨S2x256x1024, .f32⟩
  | .hbm, ⟨21, _⟩ => ⟨S2x256x1024, .f32⟩
  | .hbm, ⟨22, _⟩ => ⟨S1x1x1024, .f32⟩
  | .hbm, ⟨23, _⟩ => ⟨S2x256x1024, .f32⟩
  | .hbm, ⟨24, _⟩ => ⟨S2x256x1024, .f32⟩
  | .hbm, ⟨25, _⟩ => ⟨S2x256x512, .f32⟩
  | .hbm, ⟨26, _⟩ => ⟨S2x256x512, .f32⟩
  | .hbm, ⟨27, _⟩ => ⟨S512x1024, .f32⟩
  | .hbm, ⟨28, _⟩ => ⟨S1024x512, .f32⟩
  | .hbm, ⟨29, _⟩ => ⟨S2x256x1024, .f32⟩
  | .hbm, ⟨30, _⟩ => ⟨S2x256x1024, .f32⟩
  | .hbm, ⟨31, _⟩ => ⟨S_, .f32⟩
  | .hbm, ⟨32, _⟩ => ⟨S1024, .f32⟩
  | .hbm, ⟨33, _⟩ => ⟨S1x1x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S1024, .f32⟩
  | .hbm, ⟨38, _⟩ => ⟨S2x256x1024, .f32⟩
  | .hbm, ⟨39, _⟩ => ⟨S_, .f32⟩
  | .hbm, ⟨40, _⟩ => ⟨S2x256, .f32⟩
  | .hbm, ⟨41, _⟩ => ⟨S2x256x1, .f32⟩
  | .hbm, ⟨42, _⟩ => ⟨S2x256x1024, .f32⟩
  | .hbm, ⟨43, _⟩ => ⟨S2x256x1024, .f32⟩
  | .hbm, ⟨44, _⟩ => ⟨S2x256x1, .f32⟩
  | .hbm, ⟨45, _⟩ => ⟨S_, .f32⟩
  | .hbm, ⟨46, _⟩ => ⟨S2x256x1, .f32⟩
  | .hbm, ⟨47, _⟩ => ⟨S2x256x1, .f32⟩
  | .hbm, ⟨48, _⟩ => ⟨S_, .f32⟩
  | .hbm, ⟨49, _⟩ => ⟨S2x256, .f32⟩
  | .hbm, ⟨50, _⟩ => ⟨S2x256x1024, .f32⟩
  | .hbm, ⟨51, _⟩ => ⟨S2x256x1024, .f32⟩
  | .hbm, ⟨52, _⟩ => ⟨S2x256x1024, .f32⟩
  | .hbm, ⟨53, _⟩ => ⟨S2x256x1024, .f32⟩
  | .hbm, ⟨54, _⟩ => ⟨S2x256x1024, .f32⟩
  | .hbm, ⟨55, _⟩ => ⟨S1x1024, .f32⟩
  | .hbm, ⟨56, _⟩ => ⟨S4x256x512, .f32⟩
  | .hbm, ⟨57, _⟩ => ⟨S4x256x512, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel6Ideal.lean ====
abbrev S2x2048x1024 : Shape := ⟨3, ![2, 2048, 1024]⟩
abbrev S4096x512 : Shape := ⟨2, ![4096, 512]⟩
abbrev S4096x3328 : Shape := ⟨2, ![4096, 3328]⟩
abbrev S512x512 : Shape := ⟨2, ![512, 512]⟩
abbrev S4x128x128 : Shape := ⟨3, ![4, 128, 128]⟩
abbrev S4x128 : Shape := ⟨2, ![4, 128]⟩
abbrev S1x256 : Shape := ⟨2, ![1, 256]⟩
abbrev S1024x1024 : Shape := ⟨2, ![1024, 1024]⟩
abbrev S1024 : Shape := ⟨1, ![1024]⟩
abbrev S4096x1024 : Shape := ⟨2, ![4096, 1024]⟩
abbrev S128x4 : Shape := ⟨2, ![128, 4]⟩
abbrev S128x4x64 : Shape := ⟨3, ![128, 4, 64]⟩
abbrev S128x256 : Shape := ⟨2, ![128, 256]⟩
abbrev S1x1024 : Shape := ⟨2, ![1, 1024]⟩
abbrev S4096x1792 : Shape := ⟨2, ![4096, 1792]⟩
abbrev S8x128 : Shape := ⟨2, ![8, 128]⟩
abbrev S4x256x1024 : Shape := ⟨3, ![4, 256, 1024]⟩
abbrev S128x128 : Shape := ⟨2, ![128, 128]⟩
abbrev S512x1024 : Shape := ⟨2, ![512, 1024]⟩
abbrev S512x256 : Shape := ⟨2, ![512, 256]⟩
abbrev S256x512 : Shape := ⟨2, ![256, 512]⟩
abbrev S512x1792 : Shape := ⟨2, ![512, 1792]⟩
abbrev S1x128 : Shape := ⟨2, ![1, 128]⟩
abbrev S256x256 : Shape := ⟨2, ![256, 256]⟩
abbrev S256 : Shape := ⟨1, ![256]⟩
abbrev S256x1 : Shape := ⟨2, ![256, 1]⟩
abbrev S1x128x128 : Shape := ⟨3, ![1, 128, 128]⟩
abbrev S128x512 : Shape := ⟨2, ![128, 512]⟩
abbrev S256x128 : Shape := ⟨2, ![256, 128]⟩
abbrev S256x1024 : Shape := ⟨2, ![256, 1024]⟩
abbrev S1x256x1024 : Shape := ⟨3, ![1, 256, 1024]⟩
abbrev S1 : Shape := ⟨1, ![1]⟩
abbrev S1x1x1 : Shape := ⟨3, ![1, 1, 1]⟩
abbrev S1024x256 : Shape := ⟨2, ![1024, 256]⟩
abbrev S1024x128 : Shape := ⟨2, ![1024, 128]⟩
abbrev S256x1792 : Shape := ⟨2, ![256, 1792]⟩
abbrev S128 : Shape := ⟨1, ![128]⟩
abbrev S128x1 : Shape := ⟨2, ![128, 1]⟩
abbrev S128x1024 : Shape := ⟨2, ![128, 1024]⟩
abbrev S1x128x1024 : Shape := ⟨3, ![1, 128, 1024]⟩

abbrev nBuf : Space → Nat
  | .hbm => 28
  | .vmem => 42
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x512, .f32⟩
  | .hbm, ⟨3, _⟩ => ⟨S4096x3328, .f32⟩
  | .hbm, ⟨4, _⟩ => ⟨S512x512, .f32⟩
  | .hbm, ⟨5, _⟩ => ⟨S4x128x128, .f32⟩
  | .hbm, ⟨6, _⟩ => ⟨S4x128, .f32⟩
  | .hbm, ⟨7, _⟩ => ⟨S1x256, .f32⟩
  | .hbm, ⟨8, _⟩ => ⟨S1024x1024, .f32⟩
  | .hbm, ⟨9, _⟩ => ⟨S1024, .f32⟩
  | .hbm, ⟨10, _⟩ => ⟨S4096x1024, .f32⟩
  | .hbm, ⟨11, _⟩ => ⟨S4096x1024, .f32⟩
  | .hbm, ⟨12, _⟩ => ⟨S128x4, .f32⟩
  | .hbm, ⟨13, _⟩ => ⟨S128x4x64, .f32⟩
  | .hbm, ⟨14, _⟩ => ⟨S128x256, .f32⟩
  | .hbm, ⟨15, _⟩ => ⟨S4x128x128, .f32⟩
  | .hbm, ⟨16, _⟩ => ⟨S1024x1024, .bf16⟩
  | .hbm, ⟨17, _⟩ => ⟨S1x1024, .f32⟩
  | .hbm, ⟨18, _⟩ => ⟨S4096x1024, .f32⟩
  | .hbm, ⟨19, _⟩ => ⟨S4096x512, .f32⟩
  | .hbm, ⟨20, _⟩ => ⟨S4096x1792, .bf16⟩
  | .hbm, ⟨21, _⟩ => ⟨S8x128, .f32⟩
  | .hbm, ⟨22, _⟩ => ⟨S4x256x1024, .bf16⟩
  | .hbm, ⟨23, _⟩ => ⟨S4x128x128, .f32⟩
  | .hbm, ⟨24, _⟩ => ⟨S128x128, .f32⟩
  | .hbm, ⟨25, _⟩ => ⟨S1x256, .f32⟩
  | .hbm, ⟨26, _⟩ => ⟨S1x1024, .f32⟩
  | .hbm, ⟨27, _⟩ => ⟨S512x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S256x512, .f32⟩
  | .local _ .vmem, ⟨19, _⟩ => ⟨S256x512, .f32⟩
  | .local _ .vmem, ⟨20, _⟩ => ⟨S4x128x128, .f32⟩
  | .local _ .vmem, ⟨21, _⟩ => ⟨S4x128x128, .f32⟩
  | .local _ .vmem, ⟨22, _⟩ => ⟨S128x256, .f32⟩
  | .local _ .vmem, ⟨23, _⟩ => ⟨S1x256, .f32⟩
  | .local _ .vmem, ⟨24, _⟩ => ⟨S1024x1024, .bf16⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S512x512, .f32⟩
  | .local _ .vmem, ⟨29, _⟩ => ⟨S512x512, .f32⟩
  | .local _ .vmem, ⟨30, _⟩ => ⟨S512x1792, .bf16⟩
  | .local _ .vmem, ⟨31, _⟩ => ⟨S512x1792, .bf16⟩
  | .local _ .vmem, ⟨32, _⟩ => ⟨S8x128, .f32⟩
  | .local _ .vmem, ⟨33, _⟩ => ⟨S4x256x1024, .bf16⟩
  | .local _ .vmem, ⟨34, _⟩ => ⟨S4x128x128, .f32⟩
  | .local _ .vmem, ⟨35, _⟩ => ⟨S128x128, .f32⟩
  | .local _ .vmem, ⟨36, _⟩ => ⟨S1x256, .f32⟩
  | .local _ .vmem, ⟨37, _⟩ => ⟨S1x1024, .f32⟩
  | .local _ .vmem, ⟨38, _⟩ => ⟨S256x512, .f32⟩
  | .local _ .vmem, ⟨39, _⟩ => ⟨S256x512, .f32⟩
  | .local _ .vmem, ⟨40, _⟩ => ⟨S128x256, .f32⟩
  | .local _ .vmem, ⟨41, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_v8_6 : Ref sig .tc := ⟨.hbm, 24, rfl⟩
abbrev main_v8_7 : Ref sig .tc := ⟨.hbm, 25, rfl⟩
abbrev main_v8_8 : Ref sig .tc := ⟨.hbm, 26, rfl⟩
abbrev main_v8_9 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg24_0 : Ref sig .tc := ⟨.vmem, 37, rfl⟩
abbrev cc0_stg25_0 : Ref sig .tc := ⟨.vmem, 38, rfl⟩
abbrev cc0_stg25_1 : Ref sig .tc := ⟨.vmem, 39, rfl⟩
abbrev cc0_scratch0 : Ref sig .tc := ⟨.vmem, 40, rfl⟩
abbrev cc0_scratch1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem23_0 : DmaSem sig := 36
abbrev cc0_sem24_0 : DmaSem sig := 37
abbrev cc0_sem25_0 : DmaSem sig := 38
abbrev cc0_sem25_1 : DmaSem sig := 39

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg0 : BitVec 32 := BitVec.ofNat 32 (i 0).val
  let c1_i32 : BitVec 32 := 1#32
  let v3 : BitVec 1 := Scalar.cmpi .eq arg0 c1_i32
  let arg1 : BitVec 32 := BitVec.ofNat 32 (i 1).val
  let c3_i32 : BitVec 32 := 3#32
  let v4 : BitVec 1 := Scalar.cmpi .eq arg1 c3_i32
  let v5 : BitVec 1 := Scalar.andi v3 v4
  let v1088 : BitVec 32 := Scalar.extui v5
  let c0_i32_337 : BitVec 32 := 0#32
  let v1089 : BitVec 1 := Scalar.cmpi .ne v1088 c0_i32_337
  v1089

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v55 : BitVec 32 := Scalar.extui v2
  let c0_i32_11 : BitVec 32 := 0#32
  let v56 : BitVec 1 := Scalar.cmpi .ne v55 c0_i32_11
  v56

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c8_i32 : BitVec 32 := 8#32
  let c0_i32 : BitVec 32 := 0#32
  ![v1.toNat, c8_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c9_i32 : BitVec 32 := 9#32
  let c0_i32 : BitVec 32 := 0#32
  ![v1.toNat, c9_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c10_i32 : BitVec 32 := 10#32
  let c0_i32 : BitVec 32 := 0#32
  ![v1.toNat, c10_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c11_i32 : BitVec 32 := 11#32
  let c0_i32 : BitVec 32 := 0#32
  ![v1.toNat, c11_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c12_i32 : BitVec 32 := 12#32
  let c0_i32 : BitVec 32 := 0#32
  ![v1.toNat, c12_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x1792 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S4x256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S4x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 2 → Memref sig .tc .vmem S256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, false]
-- ==== Reference6Ideal.lean ====
abbrev S2x2048x1024 : Shape := ⟨3, ![2, 2048, 1024]⟩
abbrev S4096x512 : Shape := ⟨2, ![4096, 512]⟩
abbrev S4096x3328 : Shape := ⟨2, ![4096, 3328]⟩
abbrev S512x512 : Shape := ⟨2, ![512, 512]⟩
abbrev S4x128x128 : Shape := ⟨3, ![4, 128, 128]⟩
abbrev S4x128 : Shape := ⟨2, ![4, 128]⟩
abbrev S1x256 : Shape := ⟨2, ![1, 256]⟩
abbrev S1024x1024 : Shape := ⟨2, ![1024, 1024]⟩
abbrev S1024 : Shape := ⟨1, ![1024]⟩
abbrev S4096x1792 : Shape := ⟨2, ![4096, 1792]⟩
abbrev S2x2048x1792 : Shape := ⟨3, ![2, 2048, 1792]⟩
abbrev S2x2048x512 : Shape := ⟨3, ![2, 2048, 512]⟩
abbrev S2x2048x256 : Shape := ⟨3, ![2, 2048, 256]⟩
abbrev S_ : Shape := ⟨0, ![]⟩
abbrev S2x2048 : Shape := ⟨2, ![2, 2048]⟩
abbrev S2x2048x1 : Shape := ⟨3, ![2, 2048, 1]⟩
abbrev S1x1x256 : Shape := ⟨3, ![1, 1, 256]⟩
abbrev S2x16x128x4x64 : Shape := ⟨5, ![2, 16, 128, 4, 64]⟩
abbrev S4x2x16x64x128 : Shape := ⟨5, ![4, 2, 16, 64, 128]⟩
abbrev S128x4 : Shape := ⟨2, ![128, 4]⟩
abbrev S1x1x128x4x1 : Shape := ⟨5, ![1, 1, 128, 4, 1]⟩
abbrev S2x256x512 : Shape := ⟨3, ![2, 256, 512]⟩
abbrev S2x256x256 : Shape := ⟨3, ![2, 256, 256]⟩
abbrev S2x256x4x64 : Shape := ⟨4, ![2, 256, 4, 64]⟩
abbrev S2x2048x4x64 : Shape := ⟨4, ![2, 2048, 4, 64]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S1x1x1024 : Shape := ⟨3, ![1, 1, 1024]⟩
abbrev S4096x1024 : Shape := ⟨2, ![4096, 1024]⟩

abbrev nBuf : Space → Nat
  | .hbm => 211
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S4096x512, .f32⟩
  | 3 => ⟨S4096x3328, .f32⟩
  | 4 => ⟨S512x512, .f32⟩
  | 5 => ⟨S4x128x128, .f32⟩
  | 6 => ⟨S4x128, .f32⟩
  | 7 => ⟨S1x256, .f32⟩
  | 8 => ⟨S1024x1024, .f32⟩
  | 9 => ⟨S1024, .f32⟩
  | 10 => ⟨S4096x1792, .f32⟩
  | 11 => ⟨S2x2048x1792, .f32⟩
  | 12 => ⟨S2x2048x512, .f32⟩
  | 13 => ⟨S2x2048x256, .f32⟩
  | 14 => ⟨S2x2048x256, .f32⟩
  | 15 => ⟨S2x2048x256, .f32⟩
  | 16 => ⟨S2x2048x256, .f32⟩
  | 17 => ⟨S2x2048x256, .f32⟩
  | 18 => ⟨S2x2048x256, .f32⟩
  | 19 => ⟨S2x2048x256, .f32⟩
  | 20 => ⟨S_, .f32⟩
  | 21 => ⟨S2x2048x256, .f32⟩
  | 22 => ⟨S2x2048x256, .f32⟩
  | 23 => ⟨S2x2048x256, .f32⟩
  | 24 => ⟨S_, .f32⟩
  | 25 => ⟨S2x2048x256, .f32⟩
  | 26 => ⟨S2x2048x256, .f32⟩
  | 27 => ⟨S2x2048x256, .f32⟩
  | 28 => ⟨S_, .f32⟩
  | 29 => ⟨S2x2048x256, .f32⟩
  | 30 => ⟨S2x2048x256, .f32⟩
  | 31 => ⟨S_, .f32⟩
  | 32 => ⟨S2x2048x256, .f32⟩
  | 33 => ⟨S2x2048x256, .f32⟩
  | 34 => ⟨S2x2048x256, .f32⟩
  | 35 => ⟨S2x2048x256, .f32⟩
  | 36 => ⟨S2x2048x256, .f32⟩
  | 37 => ⟨S_, .f32⟩
  | 38 => ⟨S2x2048x256, .f32⟩
  | 39 => ⟨S2x2048x256, .f32⟩
  | 40 => ⟨S2x2048x256, .f32⟩
  | 41 => ⟨S_, .f32⟩
  | 42 => ⟨S2x2048x256, .f32⟩
  | 43 => ⟨S2x2048x256, .f32⟩
  | 44 => ⟨S2x2048x256, .f32⟩
  | 45 => ⟨S_, .f32⟩
  | 46 => ⟨S2x2048x256, .f32⟩
  | 47 => ⟨S2x2048x256, .f32⟩
  | 48 => ⟨S_, .f32⟩
  | 49 => ⟨S2x2048x256, .f32⟩
  | 50 => ⟨S2x2048x256, .f32⟩
  | 51 => ⟨S2x2048x256, .f32⟩
  | 52 => ⟨S2x2048x256, .f32⟩
  | 53 => ⟨S_, .f32⟩
  | 54 => ⟨S2x2048, .f32⟩
  | 55 => ⟨S2x2048x1, .f32⟩
  | 56 => ⟨S_, .f32⟩
  | 57 => ⟨S2x2048x1, .f32⟩
  | 58 => ⟨S2x2048x1, .f32⟩
  | 59 => ⟨S_, .f32⟩
  | 60 => ⟨S2x2048x1, .f32⟩
  | 61 => ⟨S2x2048x1, .f32⟩
  | 62 => ⟨S2x2048x1, .f32⟩
  | 63 => ⟨S2x2048x256, .f32⟩
  | 64 => ⟨S2x2048x256, .f32⟩
  | 65 => ⟨S1x1x256, .f32⟩
  | 66 => ⟨S2x2048x256, .f32⟩
  | 67 => ⟨S2x2048x256, .f32⟩
  | 68 => ⟨S2x16x128x4x64, .f32⟩
  | 69 => ⟨S4x2x16x64x128, .f32⟩
  | 70 => ⟨S2x16x128x4x64, .f32⟩
  | 71 => ⟨S128x4, .f32⟩
  | 72 => ⟨S1x1x128x4x1, .f32⟩
  | 73 => ⟨S2x16x128x4x64, .f32⟩
  | 74 => ⟨S2x16x128x4x64, .f32⟩
  | 75 => ⟨S2x2048x256, .f32⟩
  | 76 => ⟨S2x2048x256, .f32⟩
  | 77 => ⟨S2x256x512, .f32⟩
  | 78 => ⟨S2x256x256, .f32⟩
  | 79 => ⟨S2x256x256, .f32⟩
  | 80 => ⟨S2x256x4x64, .f32⟩
  | 81 => ⟨S2x256x4x64, .f32⟩
  | 82 => ⟨S2x2048x4x64, .f32⟩
  | 83 => ⟨S2x4x2048x256, .f32⟩
  | 84 => ⟨S_, .f32⟩
  | 85 => ⟨S2x4x2048x256, .f32⟩
  | 86 => ⟨S2x4x2048x256, .f32⟩
  | 87 => ⟨S_, .f32⟩
  | 88 => ⟨S2x4x2048, .f32⟩
  | 89 => ⟨S_, .f32⟩
  | 90 => ⟨S2x4x2048, .f32⟩
  | 91 => ⟨S2x4x2048, .f32⟩
  | 92 => ⟨S2x4x2048x1, .f32⟩
  | 93 => ⟨S2x4x2048x256, .f32⟩
  | 94 => ⟨S2x4x2048x256, .f32⟩
  | 95 => ⟨S2x4x2048x256, .f32⟩
  | 96 => ⟨S_, .f32⟩
  | 97 => ⟨S2x4x2048, .f32⟩
  | 98 => ⟨S2x4x2048x1, .f32⟩
  | 99 => ⟨S2x4x2048x256, .f32⟩
  | 100 => ⟨S2x4x2048x256, .f32⟩
  | 101 => ⟨S2x4x64x2048, .f32⟩
  | 102 => ⟨S2x2048x4x64, .f32⟩
  | 103 => ⟨S2x2048x256, .f32⟩
  | 104 => ⟨S2x2048x512, .f32⟩
  | 105 => ⟨S2x2048x512, .f32⟩
  | 106 => ⟨S_, .f32⟩
  | 107 => ⟨S2x2048x512, .f32⟩
  | 108 => ⟨S2x2048x512, .f32⟩
  | 109 => ⟨S_, .f32⟩
  | 110 => ⟨S2x2048x512, .f32⟩
  | 111 => ⟨S2x2048x512, .f32⟩
  | 112 => ⟨S2x2048x512, .f32⟩
  | 113 => ⟨S2x2048x512, .f32⟩
  | 114 => ⟨S2x2048x512, .f32⟩
  | 115 => ⟨S2x2048x256, .f32⟩
  | 116 => ⟨S2x2048x256, .f32⟩
  | 117 => ⟨S_, .f32⟩
  | 118 => ⟨S2x2048x256, .f32⟩
  | 119 => ⟨S2x2048x256, .f32⟩
  | 120 => ⟨S_, .f32⟩
  | 121 => ⟨S2x2048x256, .f32⟩
  | 122 => ⟨S2x2048x256, .f32⟩
  | 123 => ⟨S2x2048x256, .f32⟩
  | 124 => ⟨S2x2048x256, .f32⟩
  | 125 => ⟨S2x2048x256, .f32⟩
  | 126 => ⟨S2x2048x256, .f32⟩
  | 127 => ⟨S_, .f32⟩
  | _ => ⟨S2x2048x1024, .f32⟩

abbrev hbmTy0_1 (i : Nat) : BufTy := match i % 128 with
  | 0 => ⟨S2x2048x256, .f32⟩
  | 1 => ⟨S2x2048x256, .f32⟩
  | 2 => ⟨S_, .f32⟩
  | 3 => ⟨S2x2048x256, .f32⟩
  | 4 => ⟨S2x2048x256, .f32⟩
  | 5 => ⟨S2x2048x256, .f32⟩
  | 6 => ⟨S2x2048x256, .f32⟩
  | 7 => ⟨S2x2048x1024, .f32⟩
  | 8 => ⟨S_, .f32⟩
  | 9 => ⟨S2x2048x256, .f32⟩
  | 10 => ⟨S_, .f32⟩
  | 11 => ⟨S2x2048x256, .f32⟩
  | 12 => ⟨S2x2048x1024, .f32⟩
  | 13 => ⟨S2x2048x1024, .f32⟩
  | 14 => ⟨S2x2048x1024, .f32⟩
  | 15 => ⟨S_, .f32⟩
  | 16 => ⟨S2x2048, .f32⟩
  | 17 => ⟨S2x2048x1, .f32⟩
  | 18 => ⟨S_, .f32⟩
  | 19 => ⟨S2x2048x1, .f32⟩
  | 20 => ⟨S2x2048x1, .f32⟩
  | 21 => ⟨S_, .f32⟩
  | 22 => ⟨S2x2048x1, .f32⟩
  | 23 => ⟨S2x2048x1, .f32⟩
  | 24 => ⟨S2x2048x1, .f32⟩
  | 25 => ⟨S2x2048x1, .f32⟩
  | 26 => ⟨S_, .f32⟩
  | 27 => ⟨S2x2048x1, .f32⟩
  | 28 => ⟨S2x2048x1, .f32⟩
  | 29 => ⟨S2x2048x1024, .f32⟩
  | 30 => ⟨S2x2048x1024, .f32⟩
  | 31 => ⟨S1x1x1024, .f32⟩
  | 32 => ⟨S2x2048x1024, .f32⟩
  | 33 => ⟨S2x2048x1024, .f32⟩
  | 34 => ⟨S2x2048x1024, .f32⟩
  | 35 => ⟨S2x2048x1024, .f32⟩
  | 36 => ⟨S_, .f32⟩
  | 37 => ⟨S2x2048x1024, .f32⟩
  | 38 => ⟨S2x2048x1024, .f32⟩
  | 39 => ⟨S_, .f32⟩
  | 40 => ⟨S2x2048, .f32⟩
  | 41 => ⟨S_, .f32⟩
  | 42 => ⟨S2x2048, .f32⟩
  | 43 => ⟨S2x2048, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S2x2048, .f32⟩
  | 52 => ⟨S_, .f32⟩
  | 53 => ⟨S2x2048, .f32⟩
  | 54 => ⟨S2x2048, .f32⟩
  | 55 => ⟨S2x2048x1024, .f32⟩
  | 56 => ⟨S2x2048x1024, .f32⟩
  | 57 => ⟨S2x2048x1024, .f32⟩
  | 58 => ⟨S2x2048x1024, .f32⟩
  | 59 => ⟨S2x2048x1024, .f32⟩
  | 60 => ⟨S_, .f32⟩
  | 61 => ⟨S2x2048, .f32⟩
  | 62 => ⟨S2x2048x1, .f32⟩
  | 63 => ⟨S2x2048x1024, .f32⟩
  | 64 => ⟨S2x2048x1024, .f32⟩
  | 65 => ⟨S2x2048x1, .f32⟩
  | 66 => ⟨S_, .f32⟩
  | 67 => ⟨S2x2048x1, .f32⟩
  | 68 => ⟨S2x2048x1, .f32⟩
  | 69 => ⟨S_, .f32⟩
  | 70 => ⟨S2x2048, .f32⟩
  | 71 => ⟨S2x2048x1024, .f32⟩
  | 72 => ⟨S2x2048x1024, .f32⟩
  | 73 => ⟨S2x2048x1024, .f32⟩
  | 74 => ⟨S2x2048x1024, .f32⟩
  | 75 => ⟨S2x2048x1024, .f32⟩
  | 76 => ⟨S2x2048x1024, .f32⟩
  | 77 => ⟨S2x2048x512, .f32⟩
  | 78 => ⟨S2x2048x256, .f32⟩
  | 79 => ⟨S2x2048x256, .f32⟩
  | 80 => ⟨S2x2048x512, .f32⟩
  | 81 => ⟨S4096x512, .f32⟩
  | 82 => ⟨S4096x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_call0_v0 : Ref sig .tc := ⟨.hbm, 104, rfl⟩
abbrev main_call0_v1 : Ref sig .tc := ⟨.hbm, 105, rfl⟩
abbrev main_call0_cst : Ref sig .tc := ⟨.hbm, 106, rfl⟩
abbrev main_call0_v2 : Ref sig .tc := ⟨.hbm, 107, rfl⟩
abbrev main_call0_v3 : Ref sig .tc := ⟨.hbm, 108, rfl⟩
abbrev main_call0_cst_0 : Ref sig .tc := ⟨.hbm, 109, rfl⟩
abbrev main_call0_v4 : Ref sig .tc := ⟨.hbm, 110, rfl⟩
abbrev main_call0_v5 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_call1_v0 : Ref sig .tc := ⟨.hbm, 115, rfl⟩
abbrev main_call1_v1 : Ref sig .tc := ⟨.hbm, 116, rfl⟩
abbrev main_call1_cst : Ref sig .tc := ⟨.hbm, 117, rfl⟩
abbrev main_call1_v2 : Ref sig .tc := ⟨.hbm, 118, rfl⟩
abbrev main_call1_v3 : Ref sig .tc := ⟨.hbm, 119, rfl⟩
abbrev main_call1_cst_0 : Ref sig .tc := ⟨.hbm, 120, rfl⟩
abbrev main_call1_v4 : Ref sig .tc := ⟨.hbm, 121, rfl⟩
abbrev main_call1_v5 : Ref sig .tc := ⟨.hbm, 122, rfl⟩
abbrev main_v82 : Ref sig .tc := ⟨.hbm, 123, rfl⟩
abbrev main_v83 : Ref sig .tc := ⟨.hbm, 124, rfl⟩
abbrev main_call2_v0 : Ref sig .tc := ⟨.hbm, 125, rfl⟩
abbrev main_call2_v1 : Ref sig .tc := ⟨.hbm, 126, rfl⟩
abbrev main_call2_cst : Ref sig .tc := ⟨.hbm, 127, rfl⟩
abbrev main_call2_v2 : Ref sig .tc := ⟨.hbm, 128, rfl⟩
abbrev main_call2_v3 : Ref sig .tc := ⟨.hbm, 129, rfl⟩
abbrev main_call2_cst_0 : Ref sig .tc := ⟨.hbm, 130, rfl⟩
abbrev main_call2_v4 : Ref sig .tc := ⟨.hbm, 131, rfl⟩
abbrev main_call2_v5 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_14 : Ref sig .tc := ⟨.hbm, 136, rfl⟩
abbrev main_v87 : Ref sig .tc := ⟨.hbm, 137, rfl⟩
abbrev main_cst_15 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_cst_16 : Ref sig .tc := ⟨.hbm, 143, rfl⟩
abbrev main_v92 : Ref sig .tc := ⟨.hbm, 144, rfl⟩
abbrev main_v93 : Ref sig .tc := ⟨.hbm, 145, rfl⟩
abbrev main_cst_17 : Ref sig .tc := ⟨.hbm, 146, rfl⟩
abbrev main_v94 : Ref sig .tc := ⟨.hbm, 147, rfl⟩
abbrev main_v95 : Ref sig .tc := ⟨.hbm, 148, rfl⟩
abbrev main_cst_18 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_cst_19 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_cst_20 : Ref sig .tc := ⟨.hbm, 164, rfl⟩
abbrev main_v109 : Ref sig .tc := ⟨.hbm, 165, rfl⟩
abbrev main_v110 : Ref sig .tc := ⟨.hbm, 166, rfl⟩
abbrev main_cst_21 : Ref sig .tc := ⟨.hbm, 167, rfl⟩
abbrev main_v111 : Ref sig .tc := ⟨.hbm, 168, rfl⟩
abbrev main_cst_22 : Ref sig .tc := ⟨.hbm, 169, rfl⟩
abbrev main_v112 : Ref sig .tc := ⟨.hbm, 170, rfl⟩
abbrev main_v113 : Ref sig .tc := ⟨.hbm, 171, rfl⟩
abbrev main_cst_23 : Ref sig .tc := ⟨.hbm, 172, rfl⟩
abbrev main_v114 : Ref sig .tc := ⟨.hbm, 173, rfl⟩
abbrev main_cst_24 : Ref sig .tc := ⟨.hbm, 174, rfl⟩
abbrev main_v115 : Ref sig .tc := ⟨.hbm, 175, rfl⟩
abbrev main_cst_25 : Ref sig .tc := ⟨.hbm, 176, rfl⟩
abbrev main_cst_26 : Ref sig .tc := ⟨.hbm, 177, rfl⟩
abbrev main_v116 : Ref sig .tc := ⟨.hbm, 178, rfl⟩
abbrev main_v117 : Ref sig .tc := ⟨.hbm, 179, rfl⟩
abbrev main_cst_27 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_cst_28 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_cst_29 : Ref sig .tc := ⟨.hbm, 194, rfl⟩
abbrev main_v130 : Ref sig .tc := ⟨.hbm, 195, rfl⟩
abbrev main_v131 : Ref sig .tc := ⟨.hbm, 196, rfl⟩
abbrev main_cst_30 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩

abbrev nD : Nat := 1
abbrev τ : Topo := Topo.v7x

variable {F : FTy → Type} [FloatOps F]
-- ==== Proof.DxCase.lean ====
module

public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Dx

open Cert.KernelIdeal Cert.KernelIdeal.Gen Idealize.ShloMosaic Idealize.ShloMosaic.TcCoe Idealize.SL.Sem
open Idealize.ShloMosaic.Pipeline (Dat)

/-- One row of the cotangent of the projected norm: the four blocks' products with the stacked weights, added. -/
def dhRow (q k v : Fin 512 → EReal) (d : Fin 1792 → EReal) (w : Fin 3328 → Fin 1024 → EReal) (j : Fin 1024) : EReal :=
  ((∑ e : Fin 512, q e * w ⟨e.val, by omega⟩ j + ∑ e : Fin 512, k e * w ⟨512 + e.val, by omega⟩ j)
    + ∑ e : Fin 512, v e * w ⟨1024 + e.val, by omega⟩ j) + ∑ e : Fin 1792, d e * w ⟨1536 + e.val, by omega⟩ j

/-- The inverse root of a row's mean square, the small constant added. -/
def rstd (x : Fin 1024 → EReal) : EReal :=
  Ideal.rsqrt (Ideal.div (∑ k, x k * x k) (Ideal.ofBits FTy.f32 1149239296#32) + Ideal.ofBits FTy.f32 897988541#32)

/-- One entry of the gradient of the norm, the gradient that bypasses it added. -/
def gxRow (dh x g : Fin 1024 → EReal) (d2 : EReal) (j : Fin 1024) : EReal :=
  rstd x * (dh j * g j - x j * rstd x
    * Ideal.div (∑ k, dh k * g k * (x k * rstd x)) (Ideal.ofBits FTy.f32 1149239296#32)) + d2

/-- Row `r` of the cotangent, read off the four blocks and the weights a point holds. -/
abbrev dhBlk (x0 x1 x2 : Vec Ideal S512x512 .bf16) (x3 : Vec Ideal S512x1792 .bf16) (x7 : Vec Ideal S3328x1024 .bf16)
    (r : Fin 512) : Fin 1024 → EReal :=
  dhRow (fun e => x0 (ix2 r e)) (fun e => x1 (ix2 r e)) (fun e => x2 (ix2 r e)) (fun e => x3 (ix2 r e)) fun a b => x7 (ix2 a b)

/-- The sum over a point's 512 rows, in its two halves, of one entry of the scale's gradient. -/
def dgBlk (x0 x1 x2 : Vec Ideal S512x512 .bf16) (x3 : Vec Ideal S512x1792 .bf16) (x4 : Vec Ideal S512x1024 .f32)
    (x7 : Vec Ideal S3328x1024 .bf16) (j : Fin 1024) : EReal :=
  ∑ r : Fin 512, dhBlk x0 x1 x2 x3 x7 r j * (x4 (ix2 r j) * rstd fun k => x4 (ix2 r k))

/-- Case A: the block of the input's gradient a point leaves. -/
theorem outA8 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1792 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S3328x1024 .bf16) (harg8 : arg8.IsWhole) (arg9 : Memref sig .tc .vmem S512x1024 .f32) (harg9 : arg9.IsWhole) (arg10 : Memref sig .tc .vmem S1x1024 .f32) (harg10 : arg10.IsWhole) (hc0 : cond0_0 i)
    (x0 : Vec Ideal S512x512 .bf16) (x1 : Vec Ideal S512x512 .bf16) (x2 : Vec Ideal S512x512 .bf16) (x3 : Vec Ideal S512x1792 .bf16) (x4 : Vec Ideal S512x1024 .f32) (x5 : Vec Ideal S512x1024 .f32) (x6 : Vec Ideal S1x1024 .f32) (x7 : Vec Ideal S3328x1024 .bf16) (r : Fin 512) (j : Fin 1024) :
    out0_A_8 (F := Ideal) c i arg1 harg1 arg2 harg2 arg3 harg3 arg4 harg4 arg5 harg5 arg6 harg6 arg7 harg7 arg8 harg8 arg9 harg9 arg10 harg10 hc0 x0 x1 x2 x3 x4 x5 x6 x7 (ix2 r j)
      = gxRow (dhBlk x0 x1 x2 x3 x7 r) (fun k => x4 (ix2 r k)) (fun k => x6 (ix2 0 k)) (x5 (ix2 r j)) j := by
  frame_out
  canon_tiles y hy
  · idx_vars y
    obtain ⟨r, hr⟩ := r
    obtain rfl : r = 256 + y0.val := hy0
    obtain rfl : j = y1 := Fin.ext hy1
    pointwise [k0_pay1, k0_pay2, k0_pay3, k0_pay4, k0_pay5, k0_pay6, k0_pay7, k0_pay8, k0_pay9, k0_pay10, k0_pay11, k0_pay12, k0_pay13, k0_pay14]
    rfl
  · idx_vars y
    obtain ⟨r, hr⟩ := r
    obtain rfl : r = y0.val := hy0
    obtain rfl : j = y1 := Fin.ext hy1
    pointwise [k0_pay1, k0_pay2, k0_pay3, k0_pay4, k0_pay5, k0_pay6, k0_pay7, k0_pay8, k0_pay9, k0_pay10, k0_pay11, k0_pay12, k0_pay13, k0_pay14]
    rfl

/-- Case A: the row of the scale's gradient a point leaves. -/
theorem outA9 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1792 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S3328x1024 .bf16) (harg8 : arg8.IsWhole) (arg9 : Memref sig .tc .vmem S512x1024 .f32) (harg9 : arg9.IsWhole) (arg10 : Memref sig .tc .vmem S1x1024 .f32) (harg10 : arg10.IsWhole) (hc0 : cond0_0 i)
    (x0 : Vec Ideal S512x512 .bf16) (x1 : Vec Ideal S512x512 .bf16) (x2 : Vec Ideal S512x512 .bf16) (x3 : Vec Ideal S512x1792 .bf16) (x4 : Vec Ideal S512x1024 .f32) (x5 : Vec Ideal S512x1024 .f32) (x6 : Vec Ideal S1x1024 .f32) (x7 : Vec Ideal S3328x1024 .bf16) (r : Fin 1) (j : Fin 1024) :
    out0_A_9 (F := Ideal) c i arg1 harg1 arg2 harg2 arg3 harg3 arg4 harg4 arg5 harg5 arg6 harg6 arg7 harg7 arg8 harg8 arg9 harg9 arg10 harg10 hc0 x0 x1 x2 x3 x4 x5 x6 x7 (ix2 r j) = dgBlk x0 x1 x2 x3 x4 x7 j := by
  frame_out
  pointwise [k0_pay1, k0_pay2, k0_pay3, k0_pay4, k0_pay5, k0_pay6, k0_pay7, k0_pay8, k0_pay9, k0_pay10, k0_pay11, k0_pay12, k0_pay13, k0_pay14]
  unfold dgBlk dhBlk dhRow rstd
  rw [Fin.sum_univ_two_halves 256 256 rfl]

/-- Case B: the block of the input's gradient a point leaves. -/
theorem outB8 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1792 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S3328x1024 .bf16) (harg8 : arg8.IsWhole) (arg9 : Memref sig .tc .vmem S512x1024 .f32) (harg9 : arg9.IsWhole) (arg10 : Memref sig .tc .vmem S1x1024 .f32) (harg10 : arg10.IsWhole) (hc0 : ¬cond0_0 i)
    (x0 : Vec Ideal S512x512 .bf16) (x1 : Vec Ideal S512x512 .bf16) (x2 : Vec Ideal S512x512 .bf16) (x3 : Vec Ideal S512x1792 .bf16) (x4 : Vec Ideal S512x1024 .f32) (x5 : Vec Ideal S512x1024 .f32) (x6 : Vec Ideal S1x1024 .f32) (x7 : Vec Ideal S3328x1024 .bf16) (x9 : Vec Ideal S1x1024 .f32) (r : Fin 512) (j : Fin 1024) :
    out0_B_8 (F := Ideal) c i arg1 harg1 arg2 harg2 arg3 harg3 arg4 harg4 arg5 harg5 arg6 harg6 arg7 harg7 arg8 harg8 arg9 harg9 arg10 harg10 hc0 x0 x1 x2 x3 x4 x5 x6 x7 x9 (ix2 r j)
      = gxRow (dhBlk x0 x1 x2 x3 x7 r) (fun k => x4 (ix2 r k)) (fun k => x6 (ix2 0 k)) (x5 (ix2 r j)) j := by
  frame_out
  canon_tiles y hy
  · idx_vars y
    obtain ⟨r, hr⟩ := r
    obtain rfl : r = 256 + y0.val := hy0
    obtain rfl : j = y1 := Fin.ext hy1
    pointwise [k0_pay1, k0_pay2, k0_pay3, k0_pay4, k0_pay5, k0_pay6, k0_pay7, k0_pay8, k0_pay9, k0_pay10, k0_pay11, k0_pay12, k0_pay13, k0_pay14]
    rfl
  · idx_vars y
    obtain ⟨r, hr⟩ := r
    obtain rfl : r = y0.val := hy0
    obtain rfl : j = y1 := Fin.ext hy1
    pointwise [k0_pay1, k0_pay2, k0_pay3, k0_pay4, k0_pay5, k0_pay6, k0_pay7, k0_pay8, k0_pay9, k0_pay10, k0_pay11, k0_pay12, k0_pay13, k0_pay14]
    rfl

/-- Case B: the row of the scale's gradient a point leaves. -/
theorem outB9 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1792 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S3328x1024 .bf16) (harg8 : arg8.IsWhole) (arg9 : Memref sig .tc .vmem S512x1024 .f32) (harg9 : arg9.IsWhole) (arg10 : Memref sig .tc .vmem S1x1024 .f32) (harg10 : arg10.IsWhole) (hc0 : ¬cond0_0 i)
    (x0 : Vec Ideal S512x512 .bf16) (x1 : Vec Ideal S512x512 .bf16) (x2 : Vec Ideal S512x512 .bf16) (x3 : Vec Ideal S512x1792 .bf16) (x4 : Vec Ideal S512x1024 .f32) (x5 : Vec Ideal S512x1024 .f32) (x6 : Vec Ideal S1x1024 .f32) (x7 : Vec Ideal S3328x1024 .bf16) (x9 : Vec Ideal S1x1024 .f32) (r : Fin 1) (j : Fin 1024) :
    out0_B_9 (F := Ideal) c i arg1 harg1 arg2 harg2 arg3 harg3 arg4 harg4 arg5 harg5 arg6 harg6 arg7 harg7 arg8 harg8 arg9 harg9 arg10 harg10 hc0 x0 x1 x2 x3 x4 x5 x6 x7 x9 (ix2 r j) = x9 (ix2 r j) + dgBlk x0 x1 x2 x3 x4 x7 j := by
  frame_out
  pointwise [k0_pay1, k0_pay2, k0_pay3, k0_pay4, k0_pay5, k0_pay6, k0_pay7, k0_pay8, k0_pay9, k0_pay10, k0_pay11, k0_pay12, k0_pay13, k0_pay14]
  unfold dgBlk dhBlk dhRow rstd
  rw [Fin.sum_univ_two_halves 256 256 rfl]

end Cert.Dx

end
-- ==== Proof.DxArr.lean ====
module

public import proofs.«01_k».proof.Proof.DxCase
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Dx

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin grid0.N,
    win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![t.val, 0] ∧ win0_9.index t = ![0, 0] := by
  decide +kernel

/-- The cotangent of the projected norm at row `r` of the program's arguments. -/
def dhM (c : Dev nD) (r : Fin 4096) : Fin 1024 → EReal :=
  dhRow (fun e => m (c.tc.loc main_arg2) (ix2 r e)) (fun e => m (c.tc.loc main_arg3) (ix2 r e))
    (fun e => m (c.tc.loc main_arg4) (ix2 r e)) (fun e => m (c.tc.loc main_arg5) (ix2 r e))
    fun a b => m (c.tc.loc main_arg7) (ix2 b a)

/-- Row `r` of the input. -/
def xM (c : Dev nD) (r : Fin 4096) (k : Fin 1024) : EReal :=
  m (c.tc.loc main_arg0) (ix3 ⟨r.val / 2048, by omega⟩ ⟨r.val % 2048, by omega⟩ k)

/-- The whole array of the input's gradient. -/
def gxM (c : Dev nD) (r : Fin 4096) (j : Fin 1024) : EReal :=
  gxRow (dhM m c r) (xM m c r) (fun k => m (c.tc.loc main_arg6) (ix2 0 k)) (m (c.tc.loc main_arg1) (ix2 r j)) j

/-- One row's part of the scale's gradient. -/
def dgM (c : Dev nD) (r : Fin 4096) (j : Fin 1024) : EReal :=
  dhM m c r j * (xM m c r j * rstd (xM m c r))

theorem iblk0 (c : Dev nD) (t : Fin cfg0.N) (r : Fin 512) (j : Fin 512) (R : Fin 4096) (hR : R.val = 512 * t.val + r.val) :
    (iblk m c 0 t : Vec Ideal S512x512 .bf16) (ix2 r j) = m (c.tc.loc main_arg2) (ix2 R j) := by
  blk_ext [iblk, V, idx t]

theorem iblk1 (c : Dev nD) (t : Fin cfg0.N) (r : Fin 512) (j : Fin 512) (R : Fin 4096) (hR : R.val = 512 * t.val + r.val) :
    (iblk m c 1 t : Vec Ideal S512x512 .bf16) (ix2 r j) = m (c.tc.loc main_arg3) (ix2 R j) := by
  blk_ext [iblk, V, idx t]

theorem iblk2 (c : Dev nD) (t : Fin cfg0.N) (r : Fin 512) (j : Fin 512) (R : Fin 4096) (hR : R.val = 512 * t.val + r.val) :
    (iblk m c 2 t : Vec Ideal S512x512 .bf16) (ix2 r j) = m (c.tc.loc main_arg4) (ix2 R j) := by
  blk_ext [iblk, V, idx t]

theorem iblk3 (c : Dev nD) (t : Fin cfg0.N) (r : Fin 512) (j : Fin 1792) (R : Fin 4096) (hR : R.val = 512 * t.val + r.val) :
    (iblk m c 3 t : Vec Ideal S512x1792 .bf16) (ix2 r j) = m (c.tc.loc main_arg5) (ix2 R j) := by
  blk_ext [iblk, V, idx t]

theorem iblk4 (c : Dev nD) (t : Fin cfg0.N) (r : Fin 512) (j : Fin 1024) (R : Fin 4096) (hR : R.val = 512 * t.val + r.val) :
    (iblk m c 4 t : Vec Ideal S512x1024 .f32) (ix2 r j) = xM m c R j := by
  unfold xM
  blk_simp [iblk, idx t]
  entry_read
  pointwise
  blk_ext [idx t]

theorem iblk5 (c : Dev nD) (t : Fin cfg0.N) (r : Fin 512) (j : Fin 1024) (R : Fin 4096) (hR : R.val = 512 * t.val + r.val) :
    (iblk m c 5 t : Vec Ideal S512x1024 .f32) (ix2 r j) = m (c.tc.loc main_arg1) (ix2 R j) := by
  blk_ext [iblk, V, idx t]

theorem iblk6 (c : Dev nD) (t : Fin cfg0.N) (j : Fin 1024) :
    (iblk m c 6 t : Vec Ideal S1x1024 .f32) (ix2 0 j) = m (c.tc.loc main_arg6) (ix2 0 j) := by
  blk_ext [iblk, V, idx t]

theorem iblk7 (c : Dev nD) (t : Fin cfg0.N) (r : Fin 3328) (j : Fin 1024) :
    (iblk m c 7 t : Vec Ideal S3328x1024 .bf16) (ix2 r j) = m (c.tc.loc main_arg7) (ix2 j r) := by
  blk_simp [iblk, idx t]
  entry_read
  pointwise
  blk_ext [idx t]

/-- A point's rows of the cotangent are the array's. -/
theorem dhBlk_eq (c : Dev nD) (t : Fin cfg0.N) (r : Fin 512) (R : Fin 4096) (hR : R.val = 512 * t.val + r.val) :
    dhBlk (iblk m c 0 t) (iblk m c 1 t) (iblk m c 2 t) (iblk m c 3 t) (iblk m c 7 t) r = dhM m c R := by
  unfold dhBlk dhM
  simp only [iblk0 m c t r _ R hR, iblk1 m c t r _ R hR, iblk2 m c t r _ R hR, iblk3 m c t r _ R hR, iblk7 m c t]

/-- The rows of the input's gradient a point leaves are the array's. -/
theorem row8 (c : Dev nD) (t : Fin cfg0.N) (r : Fin 512) (j : Fin 1024) (R : Fin 4096) (hR : R.val = 512 * t.val + r.val) :
    gxRow (dhBlk (iblk m c 0 t) (iblk m c 1 t) (iblk m c 2 t) (iblk m c 3 t) (iblk m c 7 t) r)
      (fun k => (iblk m c 4 t : Vec Ideal S512x1024 .f32) (ix2 r k)) (fun k => (iblk m c 6 t : Vec Ideal S1x1024 .f32) (ix2 0 k))
      ((iblk m c 5 t : Vec Ideal S512x1024 .f32) (ix2 r j)) j = gxM m c R j := by
  unfold gxM
  simp only [dhBlk_eq m c t r R hR, iblk4 m c t r _ R hR, iblk5 m c t r _ R hR, iblk6 m c t]

/-- What a point leaves of the input's gradient. -/
theorem point8 (c : Dev nD) (t : Fin cfg0.N) (r : Fin 512) (j : Fin 1024) (R : Fin 4096) (hR : R.val = 512 * t.val + r.val) :
    (outsAt0 m c t.val t.isLt).1 (ix2 r j) = gxM m c R j := by
  by_cases h0 : t.val % 8 = 0
  · rw [outsAt0_A m c t h0]
    dsimp only
    rw [outA8]
    exact row8 m c t r j R hR
  · rw [outsAt0_B m c t h0]
    dsimp only
    rw [outB8]
    exact row8 m c t r j R hR

/-- The array of the input's gradient after the run. -/
theorem final8 (c : Dev nD) : (dats m 0 c).arrAt 8 cfg0.N = fun y => gxM m c (y 0) (y 1) := by
  refine (dats m 0 c).arrAt_eq_of_covers 8 _ (by decide +kernel) fun t hf y => ?_
  blk_simp
  rw [after0_8]
  idx_vars y
  rw [point8 m c t y0 y1 (((View.whole main_v3_0).slice (win0_8.rect t)).emb (ix2 y0 y1) 0) (by blk_simp [idx t]; omega)]
  refine congrArg _ (Fin.ext ?_)
  blk_simp [idx t]

/-- A point's part of the scale's gradient. -/
def part9 (c : Dev nD) (t : Fin cfg0.N) (j : Fin 1024) : EReal :=
  dgBlk (iblk m c 0 t) (iblk m c 1 t) (iblk m c 2 t) (iblk m c 3 t) (iblk m c 4 t) (iblk m c 7 t) j

/-- The array of the scale's gradient after the run: the sum over the points. -/
theorem final9_points (c : Dev nD) : (dats m 0 c).arrAt 9 cfg0.N = fun y => ∑ t : Fin cfg0.N, part9 m c t (y 1) := by
  refine (dats m 0 c).arrAt_eq_of_after_last 9 t0_7 (by decide +kernel) _ fun j => ?_
  blk_simp
  rw [after0_9]
  rw [Pipeline.eq_sum_fin_of_reset_step_apply_last (fun n h => (outsAt0 m c n h).2) 8 (fun _ => 0) (fun t y => part9 m c t (y 1))
    (fun t h y => by
      idx_vars y
      rw [outsAt0_A m c t h]
      dsimp only
      obtain rfl : y0 = 0 := Subsingleton.elim _ _
      rw [outA9]
      exact (zero_add _).symm)
    (fun t h y => by
      idx_vars y
      rw [outsAt0_B m c t h]
      dsimp only
      obtain rfl : y0 = 0 := Subsingleton.elim _ _
      rw [outB9]
      rfl)
    (le_of_eq N_0) t0_7 rfl j]
  rw [zero_add]

/-- The array of the scale's gradient after the run: the sum over the rows, batch by batch. -/
theorem final9 (c : Dev nD) : (dats m 0 c).arrAt 9 cfg0.N
    = fun y => ∑ b : Fin 2, ∑ s : Fin 2048, dgM m c ⟨2048 * b.val + s.val, by omega⟩ (y 1) := by
  rw [final9_points]
  funext y
  unfold part9 dgBlk
  refine Fin.sum_points_lanes_congr 4 (g := fun (b : Fin 2) (s : Fin 2048) => dgM m c ⟨2048 * b.val + s.val, by omega⟩ (y 1)) fun t k ha hl => ?_
  have hR : 2048 * (t.val / 4) + (t.val % 4 * 512 + k.val) = 512 * t.val + k.val := by omega
  have hN : cfg0.N = 8 := N_0
  have := t.isLt
  unfold dgM
  rw [dhBlk_eq m c t k ⟨512 * t.val + k.val, by omega⟩ rfl]
  simp only [iblk4 m c t k _ ⟨512 * t.val + k.val, by omega⟩ rfl, hR]
  exact congrArg (fun v => dhM m c ⟨512 * t.val + k.val, by omega⟩ (y 1) * (v * rstd (xM m c ⟨512 * t.val + k.val, by omega⟩)))
    (iblk4 m c t k (y 1) ⟨512 * t.val + k.val, by omega⟩ rfl)

end Cert.Dx

end
-- ==== Proof.NormGrad.lean ====
module

public import Idealize.ShloMosaic.PureOps.Ideal
public import Idealize.ShloMosaic.PureOps.Ideal.Laws

@[expose] public section

noncomputable section

namespace Cert.Norm

open Idealize.ShloMosaic

/-- The word of the row length. -/
theorem c1024 : Ideal.ofBits FTy.f32 1149239296#32 = ((1024 : ℝ) : EReal) := by
  simp [Ideal.ofBits, Ideal.ieee, -EReal.coe_mul]; norm_num

/-- The word of minus one half. -/
theorem cmhalf : Ideal.ofBits FTy.f32 0xBF000000#32 = ((-(1 / 2) : ℝ) : EReal) := by
  simp [Ideal.ofBits, Ideal.ieee, -EReal.coe_mul]; norm_num

/-- The word of the small constant is a positive real. -/
theorem ceps : ∃ e : ℝ, 0 < e ∧ Ideal.ofBits FTy.f32 897988541#32 = (e : EReal) := by
  refine ⟨_, ?_, by simp [Ideal.ofBits, Ideal.ieee, -EReal.coe_mul]; rfl⟩
  norm_num

/-- A quotient by a real that is not zero. -/
theorem div_coe (x : EReal) (c : ℝ) (hc : c ≠ 0) : Ideal.div x (c : EReal) = x * ((c⁻¹ : ℝ) : EReal) := by
  unfold Ideal.div
  rw [if_neg (by exact_mod_cast hc), EReal.coe_inv]

/-- The square of an extended real is not negative. -/
theorem sq_nonneg (x : EReal) : 0 ≤ x * x := by
  induction x with
  | bot => simp
  | top => simp
  | coe a => exact_mod_cast mul_self_nonneg a

/-- A sum of terms that are not negative and is not infinite has no infinite term. -/
theorem ne_top_of_sum {ι : Type*} [Fintype ι] (f : ι → EReal) (h0 : ∀ i, 0 ≤ f i) (h : ∑ i, f i ≠ ⊤) (i : ι) : f i ≠ ⊤ := by
  intro hi
  apply h
  have := Finset.single_le_sum (f := f) (fun i _ => h0 i) (Finset.mem_univ i)
  rw [hi] at this
  exact top_le_iff.mp this

/-- A real that is not negative distributes over a sum. -/
theorem sum_mul_coe {ι : Type*} (s : Finset ι) (f : ι → EReal) (a : ℝ) (ha : 0 ≤ a) :
    ∑ i ∈ s, f i * (a : EReal) = (∑ i ∈ s, f i) * (a : EReal) := by
  classical
  induction s using Finset.induction_on with
  | empty => simp
  | insert i s hi ih =>
    rw [Finset.sum_insert hi, Finset.sum_insert hi, ih,
      EReal.right_distrib_of_nonneg_of_ne_top (by exact_mod_cast ha) (EReal.coe_ne_top a)]

/-- Twice a multiple by a real is the multiple by twice the real. -/
theorem mul_coe_add_self (T : EReal) (a : ℝ) : T * (a : EReal) + T * (a : EReal) = T * ((a + a : ℝ) : EReal) := by
  induction T with
  | coe t => norm_cast; ring
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The sum of reals, read as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The mean square of a row, the small constant added. -/
def ms {n : ℕ} (x : Fin n → EReal) : EReal :=
  Ideal.div (∑ k, x k * x k) (Ideal.ofBits FTy.f32 1149239296#32) + Ideal.ofBits FTy.f32 897988541#32

/-- The mean square is infinite, or it is a positive real and the row is real. -/
theorem ms_cases {n : ℕ} (x : Fin n → EReal) :
    ms x = ⊤ ∨ ∃ v : ℝ, 0 < v ∧ ms x = (v : EReal) ∧ ∃ y : Fin n → ℝ, ∀ k, x k = (y k : EReal) := by
  obtain ⟨e, he, hb⟩ := ceps
  unfold ms
  rw [hb, c1024, div_coe _ _ (by norm_num)]
  have h0 : 0 ≤ ∑ k, x k * x k := Finset.sum_nonneg fun k _ => sq_nonneg (x k)
  by_cases ht : ∑ k, x k * x k = ⊤
  · left
    rw [ht, EReal.top_mul_coe_of_pos (by norm_num)]; rfl
  · right
    have hx : ∀ k, ∃ y : ℝ, x k = (y : EReal) := by
      intro k
      have := ne_top_of_sum _ (fun k => sq_nonneg (x k)) ht k
      generalize x k = z at this
      induction z with
      | coe a => exact ⟨a, rfl⟩
      | top => exact absurd rfl this
      | bot => exact absurd rfl this
    choose y hy using hx
    have hs : ∑ k, x k * x k = ((∑ k, y k * y k : ℝ) : EReal) := by
      rw [coe_sum]; exact Finset.sum_congr rfl fun k _ => by rw [hy k]; norm_cast
    refine ⟨(∑ k, y k * y k) * 1024⁻¹ + e, ?_, by rw [hs]; norm_cast, y, hy⟩
    have : 0 ≤ ∑ k, y k * y k := Finset.sum_nonneg fun k _ => mul_self_nonneg (y k)
    positivity

/-- The inverse root of a positive real. -/
theorem rsqrt_pos (v : ℝ) (hv : 0 < v) : Ideal.rsqrt (v : EReal) = (((Real.sqrt v)⁻¹ : ℝ) : EReal) := by
  show (if v < 0 then (⊥ : EReal) else if v = 0 then ⊤ else (((Real.sqrt v)⁻¹ : ℝ) : EReal)) = _
  rw [if_neg (by linarith), if_neg hv.ne']

/-- The gradient of the norm, in the order that a backward pass writes it, is the gradient in the folded order. -/
theorem grad {n : ℕ} (x th : Fin n → EReal) (j : Fin n) :
    Ideal.rsqrt (ms x) * (th j - x j * Ideal.rsqrt (ms x)
        * Ideal.div (∑ k, th k * (x k * Ideal.rsqrt (ms x))) (Ideal.ofBits FTy.f32 1149239296#32))
      = (th j * Ideal.rsqrt (ms x)
          + x j * Ideal.div ((∑ k, x k * th k) * (Ideal.ofBits FTy.f32 0xBF000000#32 * Ideal.div (Ideal.rsqrt (ms x)) (ms x)))
              (Ideal.ofBits FTy.f32 1149239296#32))
        + Ideal.div ((∑ k, x k * th k) * (Ideal.ofBits FTy.f32 0xBF000000#32 * Ideal.div (Ideal.rsqrt (ms x)) (ms x)))
              (Ideal.ofBits FTy.f32 1149239296#32) * x j := by
  rw [c1024, cmhalf]
  simp only [div_coe _ (1024 : ℝ) (by norm_num)]
  rcases ms_cases x with h | ⟨v, hv, h, y, hy⟩
  · rw [h, show Ideal.rsqrt ⊤ = 0 from rfl]
    simp [Ideal.div]
  · rw [h, rsqrt_pos v hv, div_coe _ v hv.ne', hy j]
    set r : ℝ := (Real.sqrt v)⁻¹ with hr
    have hr0 : 0 < r := inv_pos.mpr (Real.sqrt_pos.mpr hv)
    have hrv : r * r = v⁻¹ := by rw [hr, ← mul_inv, Real.mul_self_sqrt hv.le]
    have hT : ∑ k, th k * (x k * (r : EReal)) = (∑ k, x k * th k) * (r : EReal) := by
      rw [← sum_mul_coe _ _ r hr0.le]
      exact Finset.sum_congr rfl fun k _ => by rw [← mul_assoc, mul_comm (th k)]
    rw [hT]
    generalize ∑ k, x k * th k = T
    generalize th j = t
    have e1 : ((y j : ℝ) : EReal) * (r : EReal) * (T * (r : EReal) * ((1024⁻¹ : ℝ) : EReal)) = T * ((y j * r * r * 1024⁻¹ : ℝ) : EReal) := by
      simp only [EReal.coe_mul]; ac_rfl
    have e2 : ((y j : ℝ) : EReal) * (T * (((-(1 / 2) : ℝ) : EReal) * ((r : EReal) * ((v⁻¹ : ℝ) : EReal))) * ((1024⁻¹ : ℝ) : EReal))
        = T * ((y j * (-(1 / 2)) * r * v⁻¹ * 1024⁻¹ : ℝ) : EReal) := by
      simp only [EReal.coe_mul]; ac_rfl
    rw [e1, mul_comm (_ * ((1024⁻¹ : ℝ) : EReal)) ((y j : ℝ) : EReal), e2, add_assoc, mul_coe_add_self, sub_eq_add_neg,
      EReal.left_distrib_of_nonneg_of_ne_top (by exact_mod_cast hr0.le) (EReal.coe_ne_top r), mul_comm (r : EReal) t,
      ← mul_neg, ← EReal.coe_neg, mul_left_comm, ← EReal.coe_mul]
    congr 3
    rw [← hrv]; ring

end Cert.Norm

end
-- ==== Proof.TwoAxes.lean ====
module

public import Idealize.ShloMosaic.Lib.Pointwise

@[expose] public section

noncomputable section

namespace Cert.TwoAxes

open Idealize.ShloMosaic

variable {n0 n1 n2 : Nat}

/-- The host's sum of a rank three array over its first two axes is the double sum over their coordinates. -/
theorem hostReduceAdd_r3_a01 (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  unfold Ideal.hostReduceAdd
  congr 1
  refine (Finset.sum_filter_eq_sum_of_fiber _ (fun k : Fin n0 × Fin n1 => ix3 k.1 k.2 j)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e ⟨0, Nat.one_pos⟩)).symm
    · rintro ⟨k, rfl⟩
      funext b
      apply Fin.ext
      match b with
      | ⟨0, _⟩ => rfl
  · simp only [Fintype.sum_prod_type]

end Cert.TwoAxes

end
-- ==== Proof.DxRef.lean ====
module

public import proofs.«01_k».proof.Proof.DxCase
public import proofs.«01_k».proof.Proof.NormGrad
public import proofs.«01_k».proof.Proof.TwoAxes
public import proofs.«01_k».proof.Proof.Gen.ReferenceIdeal.Read

@[expose] public section

set_option maxRecDepth 16384

noncomputable section

namespace Cert.Dx.Ref

open Cert.ReferenceIdeal Cert.ReferenceIdeal.Gen Cert.ReferenceIdeal.Read Idealize.ShloMosaic Idealize.ShloMosaic.TcCoe
open Cert.Dx (dhRow rstd gxRow)

variable (x0 : (⟨S2x2048x1024, .f32⟩ : BufTy).Contents (Elt Ideal)) (x1 : (⟨S4096x1024, .f32⟩ : BufTy).Contents (Elt Ideal))
  (x2 x3 x4 : (⟨S4096x512, .bf16⟩ : BufTy).Contents (Elt Ideal)) (x5 : (⟨S4096x1792, .bf16⟩ : BufTy).Contents (Elt Ideal))
  (x6 : (⟨S1x1024, .f32⟩ : BufTy).Contents (Elt Ideal)) (x7 : (⟨S1024x3328, .f32⟩ : BufTy).Contents (Elt Ideal))

/-- The product of two extended reals. -/
abbrev mul (a b : EReal) : EReal := a * b

/-- The sum of two extended reals. -/
abbrev add (a b : EReal) : EReal := a + b

/-- The cotangent of the projected norm, row by row. -/
theorem v26 (b : Fin 2) (s : Fin 2048) (j : Fin 1024) (R : Fin 4096) (hR : R.val = 2048 * b.val + s.val) :
    val_main_v26 (F := Ideal) x2 x3 x4 x5 x7 (ix3 b s j)
      = dhRow (fun e => x2 (ix2 R e)) (fun e => x3 (ix2 R e)) (fun e => x4 (ix2 R e)) (fun e => x5 (ix2 R e))
          (fun a c => x7 (ix2 c a)) j := by
  obtain ⟨R, hlt⟩ := R
  obtain rfl : R = 2048 * b.val + s.val := hR
  pointwise [val_main_v26, val_main_v23, val_main_v4, val_main_v0, val_main_v1, val_main_v2, val_main_v3, sumSplitAll]
  simp only [Nat.mul_comm b.val 2048, ← Nat.add_assoc, Nat.reduceAdd]
  unfold dhRow
  simp only [← add_assoc]

/-- The mean square of a row. -/
theorem v12 (b : Fin 2) (s : Fin 2048) (z : Fin 1) :
    val_main_v12 (F := Ideal) x0 (ix3 b s z) = Norm.ms fun k => x0 (ix3 b s k) := by
  pointwise [val_main_v12, val_main_v11, val_main_v10, val_main_v9, val_main_v8, val_main_v7, val_main_v6, val_main_cst, val_main_cst_0, val_main_cst_1]
  rfl

/-- The inverse root of the mean square. -/
theorem v13 (b : Fin 2) (s : Fin 2048) (z : Fin 1) :
    val_main_v13 (F := Ideal) x0 (ix3 b s z) = Ideal.rsqrt (Norm.ms fun k => x0 (ix3 b s k)) := by
  rw [← v12 x0 b s z]
  pointwise [val_main_v13]

/-- The derivative of the inverse root. -/
theorem v16 (b : Fin 2) (s : Fin 2048) (z : Fin 1) :
    val_main_v16 (F := Ideal) x0 (ix3 b s z) = Ideal.ofBits FTy.f32 0xBF000000#32
      * Ideal.div (Ideal.rsqrt (Norm.ms fun k => x0 (ix3 b s k))) (Norm.ms fun k => x0 (ix3 b s k)) := by
  rw [← v13 x0 b s z, ← v12 x0 b s z]
  pointwise [val_main_v16, val_main_v15, val_main_v14, val_main_cst_2]

/-- The cotangent of the normalised row. -/
theorem v31 (b : Fin 2) (s : Fin 2048) (j : Fin 1024) :
    val_main_v31 (F := Ideal) x2 x3 x4 x5 x6 x7 (ix3 b s j)
      = mul (val_main_v26 (F := Ideal) x2 x3 x4 x5 x7 (ix3 b s j)) (x6 (ix2 0 j)) := by
  have h : ∀ y : FVec Ideal S2x2048x1024 .f32, mulf y (val_main_v30 (F := Ideal) x6) (ix3 b s j)
      = mul (y (ix3 b s j)) (x6 (ix2 0 j)) := fun y => by
    pointwise [val_main_v30, val_main_v19, val_main_v5]
  exact h _

/-- The gradient that goes through the mean square. -/
theorem v41 (b : Fin 2) (s : Fin 2048) :
    val_main_v41 (F := Ideal) x0 x2 x3 x4 x5 x6 x7 (ix2 b s)
      = Ideal.div (mul (∑ k, mul (x0 (ix3 b s k)) (val_main_v31 (F := Ideal) x2 x3 x4 x5 x6 x7 (ix3 b s k)))
          (val_main_v16 (F := Ideal) x0 (ix3 b s 0))) (Ideal.ofBits FTy.f32 1149239296#32) := by
  have h : ∀ (y : FVec Ideal S2x2048x1024 .f32) (w : FVec Ideal S2x2048x1 .f32),
      Host.reduceAdd (Host.divf (mulf (shapeCast S2x2048x1 (Host.reduceAdd (mulf x0 y) (val_main_cst_5 (F := Ideal))
          reducesTo_S2x2048x1024_S2x2048_d2 h_S_) shapeCasts_S2x2048_S2x2048x1) w) (val_main_v39 (F := Ideal)))
        (val_main_cst_7 (F := Ideal)) reducesTo_S2x2048x1_S2x2048_d2 h_S_ (ix2 b s)
      = Ideal.div (mul (∑ k, mul (x0 (ix3 b s k)) (y (ix3 b s k))) (w (ix3 b s 0))) (Ideal.ofBits FTy.f32 1149239296#32) :=
    fun y w => by
      pointwise [val_main_v39, val_main_cst_5, val_main_cst_6, val_main_cst_7]
      rw [Fin.sum_univ_one]
  exact h _ _

/-- The gradient of the row. -/
theorem v46 (b : Fin 2) (s : Fin 2048) (j : Fin 1024) :
    val_main_v46 (F := Ideal) x0 x2 x3 x4 x5 x6 x7 (ix3 b s j)
      = add (add (mul (val_main_v31 (F := Ideal) x2 x3 x4 x5 x6 x7 (ix3 b s j)) (val_main_v13 (F := Ideal) x0 (ix3 b s 0)))
          (mul (x0 (ix3 b s j)) (val_main_v41 (F := Ideal) x0 x2 x3 x4 x5 x6 x7 (ix2 b s))))
        (mul (val_main_v41 (F := Ideal) x0 x2 x3 x4 x5 x6 x7 (ix2 b s)) (x0 (ix3 b s j))) := by
  have h : ∀ (y : FVec Ideal S2x2048x1024 .f32) (w : FVec Ideal S2x2048x1 .f32) (z : FVec Ideal S2x2048 .f32),
      addf (addf (mulf y (broadcastInDim S2x2048x1024 ![0, 1, 2] bcast_S2x2048x1_S2x2048x1024_0_1_2 w))
          (mulf x0 (broadcastInDim S2x2048x1024 ![0, 1] bcast_S2x2048_S2x2048x1024_0_1 z)))
        (mulf (broadcastInDim S2x2048x1024 ![0, 1] bcast_S2x2048_S2x2048x1024_0_1 z) x0) (ix3 b s j)
      = add (add (mul (y (ix3 b s j)) (w (ix3 b s 0))) (mul (x0 (ix3 b s j)) (z (ix2 b s)))) (mul (z (ix2 b s)) (x0 (ix3 b s j))) :=
    fun y w z => by pointwise
  exact h _ _ _

/-- The last sum: the gradient that bypasses the norm is added. -/
theorem v49_read (b : Fin 2) (s : Fin 2048) (j : Fin 1024) (R : Fin 4096) (hR : R.val = 2048 * b.val + s.val) :
    val_main_v49 (F := Ideal) x0 x1 x2 x3 x4 x5 x6 x7 (ix2 R j)
      = add (val_main_v46 (F := Ideal) x0 x2 x3 x4 x5 x6 x7 (ix3 b s j)) (x1 (ix2 R j)) := by
  obtain ⟨R, hlt⟩ := R
  obtain rfl : R = 2048 * b.val + s.val := hR
  have h : ∀ y : FVec Ideal S2x2048x1024 .f32,
      addf (shapeCast S4096x1024 y shapeCasts_S2x2048x1024_S4096x1024) x1 (ix2 ⟨2048 * b.val + s.val, hlt⟩ j)
      = add (y (ix3 b s j)) (x1 (ix2 ⟨2048 * b.val + s.val, hlt⟩ j)) := fun y => by pointwise
  exact h _

/-- The result: the gradient of the input. -/
theorem v49 (b : Fin 2) (s : Fin 2048) (j : Fin 1024) (R : Fin 4096) (hR : R.val = 2048 * b.val + s.val) :
    val_main_v49 (F := Ideal) x0 x1 x2 x3 x4 x5 x6 x7 (ix2 R j)
      = gxRow (dhRow (fun e => x2 (ix2 R e)) (fun e => x3 (ix2 R e)) (fun e => x4 (ix2 R e)) (fun e => x5 (ix2 R e))
          (fun a c => x7 (ix2 c a))) (fun k => x0 (ix3 b s k)) (fun k => x6 (ix2 0 k)) (x1 (ix2 R j)) j := by
  rw [v49_read x0 x1 x2 x3 x4 x5 x6 x7 b s j R hR, v46, v41, v13, v16]
  simp only [mul, add, v31, v26 _ _ _ _ _ b s _ R hR]
  unfold gxRow
  generalize dhRow (fun e => x2 (ix2 R e)) (fun e => x3 (ix2 R e)) (fun e => x4 (ix2 R e)) (fun e => x5 (ix2 R e))
          (fun a c => x7 (ix2 c a)) = d
  refine congrArg (· + x1 (ix2 R j)) ?_
  exact (Norm.grad (fun k => x0 (ix3 b s k)) (fun k => d k * x6 (ix2 0 k)) j).symm

/-- The result: the gradient of the scale. -/
theorem v47 (z : Fin 1) (j : Fin 1024) :
    val_main_v47 (F := Ideal) x0 x2 x3 x4 x5 x7 (ix2 z j)
      = ∑ b : Fin 2, ∑ s : Fin 2048, mul (mul (x0 (ix3 b s j)) (rstd fun k => x0 (ix3 b s k))) (val_main_v26 (F := Ideal) x2 x3 x4 x5 x7 (ix3 b s j)) := by
  unfold val_main_v47 val_main_v32 val_main_v29 val_main_v28 val_main_v27
  generalize val_main_v26 (F := Ideal) x2 x3 x4 x5 x7 = y
  pointwise [val_main_v18, val_main_v17, val_main_cst_3, val_main_cst_4, TwoAxes.hostReduceAdd_r3_a01, v13]
  simp only [Fin.sum_univ_one]
  rfl

end Cert.Dx.Ref

end
-- ==== Proof.DxClaim.lean ====
module

public import proofs.«01_k».proof.Defs
public import proofs.«01_k».proof.Proof.DxArr
public import proofs.«01_k».proof.Proof.DxRef
public import proofs.«01_k».proof.Proof.Gen.ReferenceIdeal.Run
public import Idealize.ShloMosaic.Lib.Claim

@[expose] public section

set_option maxRecDepth 16384

noncomputable section

namespace Cert.Dx.Claim

open Idealize.ShloMosaic Idealize.ShloMosaic.TcCoe Idealize.SL.Sem
open Cert.KernelIdeal (nD τ sig main_arg0 main_arg1 main_arg2 main_arg3 main_arg4 main_arg5 main_arg6 main_arg7)
open Cert.ReferenceIdeal.Read (val_main_v47 val_main_v49)

variable (m : (ℓ : Loc nD τ sig) → Buf (Elt Ideal) ℓ)

/-- The reference's gradient of the input, at the kernel's arguments, is the kernel's. -/
theorem gx_eq (c : Dev nD) (y : (⟨2, ![4096, 1024]⟩ : Shape).Idx) :
    val_main_v49 (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) y
      = gxM m c (y 0) (y 1) := by
  idx_vars y
  rw [Ref.v49 _ _ _ _ _ _ _ _ ⟨y0.val / 2048, by omega⟩ ⟨y0.val % 2048, by omega⟩ y1 y0 (by simp only; omega)]
  rfl

/-- The reference's gradient of the scale, at the kernel's arguments, is the kernel's. -/
theorem dg_eq (c : Dev nD) (y : (⟨2, ![1, 1024]⟩ : Shape).Idx) :
    val_main_v47 (F := Ideal) (m (c.tc.loc main_arg0)) (m (c.tc.loc main_arg2)) (m (c.tc.loc main_arg3))
      (m (c.tc.loc main_arg4)) (m (c.tc.loc main_arg5)) (m (c.tc.loc main_arg7)) y
      = ∑ b : Fin 2, ∑ s : Fin 2048, dgM m c ⟨2048 * b.val + s.val, by omega⟩ (y 1) := by
  idx_vars y
  rw [Ref.v47]
  refine Finset.sum_congr rfl fun b _ => Finset.sum_congr rfl fun s _ => ?_
  rw [Ref.v26 _ _ _ _ _ b s y1 ⟨2048 * b.val + s.val, by omega⟩ rfl]
  have hx : ∀ k, xM m c ⟨2048 * b.val + s.val, by omega⟩ k = m (c.tc.loc main_arg0) (ix3 b s k) := fun k => by
    unfold xM
    congr 2
    · exact Fin.ext (by simp only; omega)
    · exact Fin.ext (by simp only; omega)
  unfold dgM
  rw [show xM m c ⟨2048 * b.val + s.val, by omega⟩ = _ from funext hx]
  exact mul_comm _ _

/-- The kernel's two results are the reference's. -/
theorem algebraic : Cert.algebraic_KernelIdeal_ReferenceIdeal := by
  pair_intro
  · run_from Cert.KernelIdeal.Value.run_blocks m g
  · run_from Cert.ReferenceIdeal.Value.run m' g'
    · obtain ⟨h0, h1, h2, h3, h4, h5, h6, h7⟩ := hagree c
      rw [Cert.ReferenceIdeal.Read.val_main_v49_eq, h0, h1, h2, h3, h4, h5, h6, h7, final8 m c]
      funext y
      exact gx_eq m c y
    · obtain ⟨h0, h1, h2, h3, h4, h5, h6, h7⟩ := hagree c
      rw [h2, h3, h4, h5, Cert.ReferenceIdeal.Read.val_main_v47_eq, final9 m c]
      funext y
      exact dg_eq m c y

end Cert.Dx.Claim

end
-- ==== Proof.FwdClaim.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Fwd

open Cert.Kernel2Ideal Cert.Kernel2Ideal.Gen Idealize.ShloMosaic Idealize.ShloMosaic.TcCoe Idealize.SL.Sem
open Idealize.ShloMosaic.Pipeline (Dat)

/-- The inverse root of a row's mean square, the small constant added. -/
def rstd (x : Fin 1024 → EReal) : EReal :=
  Ideal.rsqrt (Ideal.div (∑ k, x k * x k) (Ideal.ofBits FTy.f32 1149239296#32) + Ideal.ofBits FTy.f32 897988541#32)

/-- One entry of the projection: the normed row, scaled, times a column of the weights. -/
def projRow (x g w : Fin 1024 → EReal) : EReal := ∑ k, x k * rstd x * g k * w k

/-- The block of the projection a point leaves. -/
theorem out3 (x0 : Vec Ideal S512x1024 .f32) (x1 : Vec Ideal S1x1024 .f32) (x2 : Vec Ideal S3328x1024 .bf16) (r : Fin 512) (j : Fin 3328) :
    out0_3 (F := Ideal) x0 x1 x2 (ix2 r j) = projRow (fun k => x0 (ix2 r k)) (fun k => x1 (ix2 0 k)) fun k => x2 (ix2 j k) := by
  frame_out
  pointwise [k0_pay1]
  rfl

variable (m : (ℓ : Loc nD τ sig) → Buf (Elt Ideal) ℓ)

theorem idx : ∀ t : Fin grid0.N,
    win0_0.index t = ![t.val, 0] ∧ win0_1.index t = ![0, 0] ∧ win0_2.index t = ![0, 0] ∧ win0_3.index t = ![t.val, 0] := by
  decide +kernel

/-- The whole array of the projection, row `r`, column `j`. -/
def projM (c : Dev nD) (r : Fin 4096) (j : Fin 3328) : EReal :=
  projRow (fun k => m (c.tc.loc main_arg0) (ix3 ⟨r.val / 2048, by omega⟩ ⟨r.val % 2048, by omega⟩ k))
    (fun k => m (c.tc.loc main_arg1) (ix2 0 k)) fun k => m (c.tc.loc main_arg2) (ix2 k j)

theorem iblk0 (c : Dev nD) (t : Fin cfg0.N) (r : Fin 512) (j : Fin 1024) (R : Fin 4096) (hR : R.val = 512 * t.val + r.val) :
    (iblk m c 0 t : Vec Ideal S512x1024 .f32) (ix2 r j)
      = m (c.tc.loc main_arg0) (ix3 ⟨R.val / 2048, by omega⟩ ⟨R.val % 2048, by omega⟩ j) := by
  blk_simp [iblk, idx t]
  entry_read
  pointwise
  blk_ext [idx t]

theorem iblk1 (c : Dev nD) (t : Fin cfg0.N) (j : Fin 1024) :
    (iblk m c 1 t : Vec Ideal S1x1024 .f32) (ix2 0 j) = m (c.tc.loc main_arg1) (ix2 0 j) := by
  blk_ext [iblk, V, idx t]

theorem iblk2 (c : Dev nD) (t : Fin cfg0.N) (r : Fin 3328) (j : Fin 1024) :
    (iblk m c 2 t : Vec Ideal S3328x1024 .bf16) (ix2 r j) = m (c.tc.loc main_arg2) (ix2 j r) := by
  blk_simp [iblk, idx t]
  entry_read
  pointwise
  blk_ext [idx t]

/-- What a point leaves of the projection. -/
theorem point3 (c : Dev nD) (t : Fin cfg0.N) (r : Fin 512) (j : Fin 3328) (R : Fin 4096) (hR : R.val = 512 * t.val + r.val) :
    out0_3 (F := Ideal) (iblk m c 0 t) (iblk m c 1 t) (iblk m c 2 t) (ix2 r j) = projM m c R j := by
  rw [out3]
  unfold projM
  simp only [iblk0 m c t r _ R hR, iblk1 m c t, iblk2 m c t]

/-- The array of the projection after the run. -/
theorem final3 (c : Dev nD) : (dats m 0 c).arrAt 3 cfg0.N = fun y => projM m c (y 0) (y 1) := by
  refine (dats m 0 c).arrAt_eq_of_covers 3 _ (by decide +kernel) fun t hf y => ?_
  blk_simp
  rw [after0_3]
  idx_vars y
  rw [point3 m c t y0 y1 (((View.whole main_v3).slice (win0_3.rect t)).emb (ix2 y0 y1) 0) (by blk_simp [idx t]; omega)]
  refine congrArg₂ _ rfl (Fin.ext ?_)
  blk_simp [idx t]

open Cert.Reference2Ideal.Read in
/-- The reference's projection, at the kernel's arguments, is the kernel's. -/
theorem proj_eq (c : Dev nD) (y : (⟨2, ![4096, 3328]⟩ : Shape).Idx) :
    val_main_v15 (F := Ideal) (m (c.tc.loc main_arg0)) (m (c.tc.loc main_arg1)) (m (c.tc.loc main_arg2)) y
      = projM m c (y 0) (y 1) := by
  idx_vars y
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  rfl

/-- The kernel's result is the reference's. -/
theorem algebraic : Cert.algebraic_Kernel2Ideal_Reference2Ideal := by
  pair_intro
  · run_from Cert.Kernel2Ideal.Value.run_blocks m g
  · run_from Cert.Reference2Ideal.Value.run m' g'
    · obtain ⟨h0, h1, h2⟩ := hagree c
      rw [Cert.Reference2Ideal.Read.val_main_v15_eq, final3 m c]
      funext y
      exact proj_eq m c y

end Cert.Fwd

end
-- ==== Proof.RowTiles.lean ====
module

public import Idealize.ShloMosaic.Lib.Pointwise
public import Idealize.ShloMosaic.Lib.Pipeline.ValueKit
public import Idealize.ShloMosaic.Lib.Pipeline.ReadBack

@[expose] public section

noncomputable section

namespace Cert.RowTiles

open Idealize.ShloMosaic

variable {n W : Nat} {e : EltTy} {Val : EltTy → Type}

/-- Under the last store of some full rows, the buffer holds that store's entry. -/
theorem hit [∀ e, Nonempty (Val e)] (o k : Nat) (inb : ∀ a, (![o, 0] : Fin 2 → Nat) a + (![k, W] : Fin 2 → Nat) a ≤ (⟨2, ![n, W]⟩ : Shape).size a)
    (w : (⟨2, ![k, W]⟩ : Shape).Idx → Val e) (L : List (View.Piece Val ⟨2, ![n, W]⟩ e)) (i : Fin k) (j : Fin W) (h : o + i.val < n) :
    View.canon ((⟨Rect.unit (s := ⟨2, ![n, W]⟩) ![o, 0] ![k, W] inb, w⟩ : View.Piece Val ⟨2, ![n, W]⟩ e) :: L) (ix2 ⟨o + i.val, h⟩ j) = w (ix2 i j) := by
  have he : (Rect.unit (s := ⟨2, ![n, W]⟩) ![o, 0] ![k, W] inb).emb (ix2 i j) = ix2 ⟨o + i.val, h⟩ j := by
    funext a
    apply Fin.ext
    match a with
    | ⟨0, _⟩ => simp [Rect.emb, Rect.unit]
    | ⟨1, _⟩ => simp [Rect.emb, Rect.unit]
  rw [← he]
  exact View.canon_cons_emb (Rect.unit (s := ⟨2, ![n, W]⟩) ![o, 0] ![k, W] inb) w L (ix2 i j)

/-- Off the last store of some full rows, the buffer holds what the earlier stores left. -/
theorem skip [∀ e, Nonempty (Val e)] (o k : Nat) (inb : ∀ a, (![o, 0] : Fin 2 → Nat) a + (![k, W] : Fin 2 → Nat) a ≤ (⟨2, ![n, W]⟩ : Shape).size a)
    (w : (⟨2, ![k, W]⟩ : Shape).Idx → Val e) (L : List (View.Piece Val ⟨2, ![n, W]⟩ e)) (i : Fin n) (j : Fin W) (h : i.val < o ∨ o + k ≤ i.val) :
    View.canon ((⟨Rect.unit (s := ⟨2, ![n, W]⟩) ![o, 0] ![k, W] inb, w⟩ : View.Piece Val ⟨2, ![n, W]⟩ e) :: L) (ix2 i j) = View.canon L (ix2 i j) := by
  refine View.canon_cons_of_not_mem _ L fun hm => ?_
  have h2 := (Rect.mem_set_unit (inb := inb).mp hm) (0 : Fin 2)
  have h1 : o ≤ i.val ∧ i.val < o + k := h2
  omega

end Cert.RowTiles

end
-- ==== Proof.DwCase.lean ====
module

public import proofs.«01_k».proof.Proof.Gen.Kernel3Ideal.Value
public import proofs.«01_k».proof.Proof.RowTiles
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Dw

open Cert.Kernel3Ideal Cert.Kernel3Ideal.Gen Idealize.ShloMosaic Idealize.ShloMosaic.TcCoe Idealize.SL.Sem
open Idealize.ShloMosaic.Pipeline (Dat)

/-- The inverse root of a row's mean square, the small constant added. -/
def rstd (x : Fin 1024 → EReal) : EReal :=
  Ideal.rsqrt (Ideal.div (∑ k, x k * x k) (Ideal.ofBits FTy.f32 1149239296#32) + Ideal.ofBits FTy.f32 897988541#32)

/-- Entry `j` of the normed row, scaled. -/
def hRow (x g : Fin 1024 → EReal) (j : Fin 1024) : EReal := x j * rstd x * g j

/-- One row of the cotangent of the projection, its four parts side by side. -/
def ctRow (q k v : Fin 512 → EReal) (d : Fin 1792 → EReal) (e : Fin 3328) : EReal :=
  if h : e.val < 512 then q ⟨e.val, h⟩ else if h : e.val < 1024 then k ⟨e.val - 512, by omega⟩
    else if h : e.val < 1536 then v ⟨e.val - 1024, by omega⟩ else d ⟨e.val - 1536, by omega⟩

variable (q k v : Fin 512 → EReal) (d : Fin 1792 → EReal)

theorem ctRow_q (e : Fin 512) (h : e.val < 3328) : ctRow q k v d ⟨e.val, h⟩ = q e := by
  unfold ctRow
  rw [dif_pos e.isLt]

theorem ctRow_k (e : Fin 512) (h : 512 + e.val < 3328) : ctRow q k v d ⟨512 + e.val, h⟩ = k e := by
  unfold ctRow
  rw [dif_neg (by simp only; omega), dif_pos (by simp only; omega)]
  exact congrArg k (Fin.ext (by simp only; omega))

theorem ctRow_v (e : Fin 512) (h : 1024 + e.val < 3328) : ctRow q k v d ⟨1024 + e.val, h⟩ = v e := by
  unfold ctRow
  rw [dif_neg (by simp only; omega), dif_neg (by simp only; omega), dif_pos (by simp only; omega)]
  exact congrArg v (Fin.ext (by simp only; omega))

theorem ctRow_d (e : Fin 1792) (h : 1536 + e.val < 3328) : ctRow q k v d ⟨1536 + e.val, h⟩ = d e := by
  unfold ctRow
  rw [dif_neg (by simp only; omega), dif_neg (by simp only; omega), dif_neg (by simp only; omega)]
  exact congrArg d (Fin.ext (by simp only; omega))

/-- A point's part of one entry of the weights' gradient: the product over its 512 rows. -/
def dwBlk (x0 x1 x2 : Vec Ideal S512x512 .bf16) (x3 : Vec Ideal S512x1792 .bf16) (x4 : Vec Ideal S512x1024 .f32)
    (x5 : Vec Ideal S1x1024 .f32) (e : Fin 3328) (j : Fin 1024) : EReal :=
  ∑ r : Fin 512, ctRow (fun a => x0 (ix2 r a)) (fun a => x1 (ix2 r a)) (fun a => x2 (ix2 r a)) (fun a => x3 (ix2 r a)) e
    * hRow (fun k => x4 (ix2 r k)) (fun k => x5 (ix2 0 k)) j

/-- Case B: what a point leaves of the weights' gradient, over what the point before left. -/
theorem outB6 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1792 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S3328x1024 .f32) (harg7 : arg7.IsWhole) (hc0 : ¬cond0_0 i)
    (x0 : Vec Ideal S512x512 .bf16) (x1 : Vec Ideal S512x512 .bf16) (x2 : Vec Ideal S512x512 .bf16) (x3 : Vec Ideal S512x1792 .bf16) (x4 : Vec Ideal S512x1024 .f32) (x5 : Vec Ideal S1x1024 .f32) (xo : Vec Ideal S3328x1024 .f32) (e : Fin 3328) (j : Fin 1024) :
    out0_B_6 (F := Ideal) c i arg1 harg1 arg2 harg2 arg3 harg3 arg4 harg4 arg5 harg5 arg6 harg6 arg7 harg7 hc0 x0 x1 x2 x3 x4 x5 xo (ix2 e j)
      = xo (ix2 e j) + dwBlk x0 x1 x2 x3 x4 x5 e j := by
  unfold dwBlk hRow rstd
  frame_open
  simp (disch := decide) only [↓ View.readCov_skip, ↓ View.readCov_cons_toLoadRect, ↓ View.readCov_fill]
  frame_out
  obtain ⟨e, he⟩ := e
  rcases (by omega : e < 512 ∨ (512 ≤ e ∧ e < 1024) ∨ (1024 ≤ e ∧ e < 1536) ∨ 1536 ≤ e) with h | h | h | h
  · obtain ⟨a, rfl⟩ : ∃ a : Fin 512, 0 + a.val = e := ⟨⟨e, h⟩, by simp only; omega⟩
    rw [RowTiles.skip _ _ _ _ _ _ _ (by simp only; omega), RowTiles.skip _ _ _ _ _ _ _ (by simp only; omega),
      RowTiles.skip _ _ _ _ _ _ _ (by simp only; omega), RowTiles.hit]
    pointwise [k0_pay1, k0_pay2, k0_pay3, k0_pay4, k0_pay5, k0_pay6, ctRow_q]
  · obtain ⟨a, rfl⟩ : ∃ a : Fin 512, 512 + a.val = e := ⟨⟨e - 512, by omega⟩, by simp only; omega⟩
    rw [RowTiles.skip _ _ _ _ _ _ _ (by simp only; omega), RowTiles.skip _ _ _ _ _ _ _ (by simp only; omega), RowTiles.hit]
    pointwise [k0_pay1, k0_pay2, k0_pay3, k0_pay4, k0_pay5, k0_pay6, ctRow_k]
  · obtain ⟨a, rfl⟩ : ∃ a : Fin 512, 1024 + a.val = e := ⟨⟨e - 1024, by omega⟩, by simp only; omega⟩
    rw [RowTiles.skip _ _ _ _ _ _ _ (by simp only; omega), RowTiles.hit]
    pointwise [k0_pay1, k0_pay2, k0_pay3, k0_pay4, k0_pay5, k0_pay6, ctRow_v]
  · obtain ⟨a, rfl⟩ : ∃ a : Fin 1792, 1536 + a.val = e := ⟨⟨e - 1536, by omega⟩, by simp only; omega⟩
    rw [RowTiles.hit]
    pointwise [k0_pay1, k0_pay2, k0_pay3, k0_pay4, k0_pay5, k0_pay6, ctRow_d]

/-- Case A: what the first point leaves of the weights' gradient. -/
theorem outA6 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1792 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S3328x1024 .f32) (harg7 : arg7.IsWhole) (hc0 : cond0_0 i)
    (x0 : Vec Ideal S512x512 .bf16) (x1 : Vec Ideal S512x512 .bf16) (x2 : Vec Ideal S512x512 .bf16) (x3 : Vec Ideal S512x1792 .bf16) (x4 : Vec Ideal S512x1024 .f32) (x5 : Vec Ideal S1x1024 .f32) (e : Fin 3328) (j : Fin 1024) :
    out0_A_6 (F := Ideal) c i arg1 harg1 arg2 harg2 arg3 harg3 arg4 harg4 arg5 harg5 arg6 harg6 arg7 harg7 hc0 x0 x1 x2 x3 x4 x5 (ix2 e j)
      = dwBlk x0 x1 x2 x3 x4 x5 e j := by
  unfold dwBlk hRow rstd
  frame_open
  simp (disch := decide) only [↓ View.readCov_skip, ↓ View.readCov_cons_toLoadRect, ↓ View.readCov_fill]
  frame_out
  obtain ⟨e, he⟩ := e
  rcases (by omega : e < 512 ∨ (512 ≤ e ∧ e < 1024) ∨ (1024 ≤ e ∧ e < 1536) ∨ 1536 ≤ e) with h | h | h | h
  · obtain ⟨a, rfl⟩ : ∃ a : Fin 512, 0 + a.val = e := ⟨⟨e, h⟩, by simp only; omega⟩
    rw [RowTiles.skip _ _ _ _ _ _ _ (by simp only; omega), RowTiles.skip _ _ _ _ _ _ _ (by simp only; omega),
      RowTiles.skip _ _ _ _ _ _ _ (by simp only; omega), RowTiles.hit]
    pointwise [k0_pay1, k0_pay2, k0_pay3, k0_pay4, k0_pay5, k0_pay6, ctRow_q]
  · obtain ⟨a, rfl⟩ : ∃ a : Fin 512, 512 + a.val = e := ⟨⟨e - 512, by omega⟩, by simp only; omega⟩
    rw [RowTiles.skip _ _ _ _ _ _ _ (by simp only; omega), RowTiles.skip _ _ _ _ _ _ _ (by simp only; omega), RowTiles.hit]
    pointwise [k0_pay1, k0_pay2, k0_pay3, k0_pay4, k0_pay5, k0_pay6, ctRow_k]
  · obtain ⟨a, rfl⟩ : ∃ a : Fin 512, 1024 + a.val = e := ⟨⟨e - 1024, by omega⟩, by simp only; omega⟩
    rw [RowTiles.skip _ _ _ _ _ _ _ (by simp only; omega), RowTiles.hit]
    pointwise [k0_pay1, k0_pay2, k0_pay3, k0_pay4, k0_pay5, k0_pay6, ctRow_v]
  · obtain ⟨a, rfl⟩ : ∃ a : Fin 1792, 1536 + a.val = e := ⟨⟨e - 1536, by omega⟩, by simp only; omega⟩
    rw [RowTiles.hit]
    pointwise [k0_pay1, k0_pay2, k0_pay3, k0_pay4, k0_pay5, k0_pay6, ctRow_d]

end Cert.Dw

end
-- ==== Proof.DwRef.lean ====
module

public import proofs.«01_k».proof.Proof.DwCase
public import proofs.«01_k».proof.Proof.Gen.Reference3Ideal.Read

@[expose] public section

set_option maxRecDepth 16384

noncomputable section

namespace Cert.Dw.Ref

open Cert.Reference3Ideal Cert.Reference3Ideal.Gen Cert.Reference3Ideal.Read Idealize.ShloMosaic Idealize.ShloMosaic.TcCoe
open Cert.Dw (rstd hRow ctRow ctRow_q ctRow_k ctRow_v ctRow_d)

variable (x0 : (⟨S2x2048x1024, .f32⟩ : BufTy).Contents (Elt Ideal))
  (x1 x2 x3 : (⟨S4096x512, .bf16⟩ : BufTy).Contents (Elt Ideal)) (x4 : (⟨S4096x1792, .bf16⟩ : BufTy).Contents (Elt Ideal))
  (x5 : (⟨S1x1024, .f32⟩ : BufTy).Contents (Elt Ideal))

/-- The product of two extended reals. -/
abbrev mul (a b : EReal) : EReal := a * b

/-- The scaled normed row. -/
theorem v21 (b : Fin 2) (s : Fin 2048) (j : Fin 1024) :
    val_main_v21 (F := Ideal) x0 x5 (ix3 b s j) = hRow (fun k => x0 (ix3 b s k)) (fun k => x5 (ix2 0 k)) j := by
  pointwise [val_main_v21, val_main_v20, val_main_v19, val_main_v18, val_main_v17, val_main_v13, val_main_v12, val_main_v11, val_main_v10,
    val_main_v9, val_main_v8, val_main_v7, val_main_v6, val_main_v5, val_main_cst, val_main_cst_0, val_main_cst_1]
  rfl

/-- The cotangent of the projection, its four parts side by side. -/
theorem v23 (b : Fin 2) (s : Fin 2048) (e : Fin 3328) (R : Fin 4096) (hR : R.val = 2048 * b.val + s.val) :
    val_main_v23 (F := Ideal) x1 x2 x3 x4 (ix3 b s e)
      = ctRow (fun a => x1 (ix2 R a)) (fun a => x2 (ix2 R a)) (fun a => x3 (ix2 R a)) (fun a => x4 (ix2 R a)) e := by
  obtain ⟨R, hlt⟩ := R
  obtain rfl : R = 2048 * b.val + s.val := hR
  obtain ⟨e, he⟩ := e
  rcases (by omega : e < 512 ∨ (512 ≤ e ∧ e < 1024) ∨ (1024 ≤ e ∧ e < 1536) ∨ 1536 ≤ e) with h | h | h | h
  · obtain ⟨a, rfl⟩ : ∃ a : Fin 512, a.val = e := ⟨⟨e, h⟩, rfl⟩
    rw [ctRow_q]
    pointwise [val_main_v23, val_main_v4, val_main_v0, val_main_v1, val_main_v2, val_main_v3]
    simp only [Nat.mul_comm b.val 2048]
  · obtain ⟨a, rfl⟩ : ∃ a : Fin 512, 512 + a.val = e := ⟨⟨e - 512, by omega⟩, by simp only; omega⟩
    rw [ctRow_k]
    pointwise [val_main_v23, val_main_v4, val_main_v0, val_main_v1, val_main_v2, val_main_v3]
    simp only [Nat.mul_comm b.val 2048]
  · obtain ⟨a, rfl⟩ : ∃ a : Fin 512, 1024 + a.val = e := ⟨⟨e - 1024, by omega⟩, by simp only; omega⟩
    rw [ctRow_v]
    pointwise [val_main_v23, val_main_v4, val_main_v0, val_main_v1, val_main_v2, val_main_v3]
    rw [dif_neg (by omega), dif_neg (by omega), dif_pos (by omega)]
    exact congrArg x3 (congrArg₂ ix2 (Fin.ext (by simp only; omega)) (Fin.ext (by simp only; try omega)))
  · obtain ⟨a, rfl⟩ : ∃ a : Fin 1792, 1536 + a.val = e := ⟨⟨e - 1536, by omega⟩, by simp only; omega⟩
    rw [ctRow_d]
    pointwise [val_main_v23, val_main_v4, val_main_v0, val_main_v1, val_main_v2, val_main_v3]
    rw [dif_neg (by omega), dif_neg (by omega), dif_neg (by omega)]
    exact congrArg x4 (congrArg₂ ix2 (Fin.ext (by simp only; omega)) (Fin.ext (by simp only; try omega)))

/-- The gradient of the weights, in the transposed layout: the product over all the rows. -/
theorem v48 (e : Fin 3328) (j : Fin 1024) :
    val_main_v48 (F := Ideal) x0 x1 x2 x3 x4 x5 (ix2 e j)
      = ∑ b : Fin 2, ∑ s : Fin 2048, mul (val_main_v23 (F := Ideal) x1 x2 x3 x4 (ix3 b s e)) (val_main_v21 (F := Ideal) x0 x5 (ix3 b s j)) := by
  have h : ∀ (y : FVec Ideal S2x2048x3328 .f32) (w : FVec Ideal S2x2048x1024 .f32),
      transpose S3328x1024 [1, 0] (transpose S1024x3328 [1, 0]
        (Host.dotGeneral (F := Ideal) dot_S2x2048x3328_S2x2048x1024_S3328x1024_01_01_2_2_n_n none y w)
        transposes_S3328x1024_S1024x3328_1_0) transposes_S1024x3328_S3328x1024_1_0 (ix2 e j)
      = ∑ b : Fin 2, ∑ s : Fin 2048, mul (y (ix3 b s e)) (w (ix3 b s j)) := fun y w => by
    pointwise
  exact h _ _

end Cert.Dw.Ref

end
-- ==== Proof.DwClaim.lean ====
module

public import proofs.«01_k».proof.Defs
public import proofs.«01_k».proof.Proof.DwRef
public import proofs.«01_k».proof.Proof.Gen.Reference3Ideal.Run
public import Idealize.ShloMosaic.Lib.Claim

@[expose] public section

set_option maxRecDepth 16384

noncomputable section

namespace Cert.Dw

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin grid0.N,
    win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0] := by
  decide +kernel

/-- Row `r` of the input. -/
def xM (c : Dev nD) (r : Fin 4096) (k : Fin 1024) : EReal :=
  m (c.tc.loc main_arg0) (ix3 ⟨r.val / 2048, by omega⟩ ⟨r.val % 2048, by omega⟩ k)

/-- Row `r` of the cotangent of the projection. -/
def ctM (c : Dev nD) (r : Fin 4096) : Fin 3328 → EReal :=
  ctRow (fun a => m (c.tc.loc main_arg1) (ix2 r a)) (fun a => m (c.tc.loc main_arg2) (ix2 r a))
    (fun a => m (c.tc.loc main_arg3) (ix2 r a)) (fun a => m (c.tc.loc main_arg4) (ix2 r a))

/-- One row's part of one entry of the weights' gradient. -/
def dwM (c : Dev nD) (r : Fin 4096) (e : Fin 3328) (j : Fin 1024) : EReal :=
  ctM m c r e * hRow (xM m c r) (fun k => m (c.tc.loc main_arg5) (ix2 0 k)) j

theorem iblk0 (c : Dev nD) (t : Fin cfg0.N) (r : Fin 512) (j : Fin 512) (R : Fin 4096) (hR : R.val = 512 * t.val + r.val) :
    (iblk m c 0 t : Vec Ideal S512x512 .bf16) (ix2 r j) = m (c.tc.loc main_arg1) (ix2 R j) := by
  blk_ext [iblk, V, idx t]

theorem iblk1 (c : Dev nD) (t : Fin cfg0.N) (r : Fin 512) (j : Fin 512) (R : Fin 4096) (hR : R.val = 512 * t.val + r.val) :
    (iblk m c 1 t : Vec Ideal S512x512 .bf16) (ix2 r j) = m (c.tc.loc main_arg2) (ix2 R j) := by
  blk_ext [iblk, V, idx t]

theorem iblk2 (c : Dev nD) (t : Fin cfg0.N) (r : Fin 512) (j : Fin 512) (R : Fin 4096) (hR : R.val = 512 * t.val + r.val) :
    (iblk m c 2 t : Vec Ideal S512x512 .bf16) (ix2 r j) = m (c.tc.loc main_arg3) (ix2 R j) := by
  blk_ext [iblk, V, idx t]

theorem iblk3 (c : Dev nD) (t : Fin cfg0.N) (r : Fin 512) (j : Fin 1792) (R : Fin 4096) (hR : R.val = 512 * t.val + r.val) :
    (iblk m c 3 t : Vec Ideal S512x1792 .bf16) (ix2 r j) = m (c.tc.loc main_arg4) (ix2 R j) := by
  blk_ext [iblk, V, idx t]

theorem iblk4 (c : Dev nD) (t : Fin cfg0.N) (r : Fin 512) (j : Fin 1024) (R : Fin 4096) (hR : R.val = 512 * t.val + r.val) :
    (iblk m c 4 t : Vec Ideal S512x1024 .f32) (ix2 r j) = xM m c R j := by
  unfold xM
  blk_simp [iblk, idx t]
  entry_read
  pointwise
  blk_ext [idx t]

theorem iblk5 (c : Dev nD) (t : Fin cfg0.N) (j : Fin 1024) :
    (iblk m c 5 t : Vec Ideal S1x1024 .f32) (ix2 0 j) = m (c.tc.loc main_arg5) (ix2 0 j) := by
  blk_ext [iblk, V, idx t]

/-- A point's part of one entry of the weights' gradient. -/
def part (c : Dev nD) (t : Fin cfg0.N) (e : Fin 3328) (j : Fin 1024) : EReal :=
  dwBlk (iblk m c 0 t) (iblk m c 1 t) (iblk m c 2 t) (iblk m c 3 t) (iblk m c 4 t) (iblk m c 5 t) e j

/-- The array of the weights' gradient after the run: the sum over the points. -/
theorem final_points (c : Dev nD) : (dats m 0 c).arrAt 6 cfg0.N = fun y => ∑ t : Fin cfg0.N, part m c t (y 0) (y 1) := by
  refine (dats m 0 c).arrAt_eq_of_after_last 6 t0_7 (by decide +kernel) _ fun j => ?_
  blk_simp
  rw [after0_6]
  rw [Pipeline.eq_sum_fin_of_reset_step_apply_last (fun n h => outsAt0 m c n h) 8 (fun _ => 0) (fun t y => part m c t (y 0) (y 1))
    (fun t h y => by
      idx_vars y
      rw [outsAt0_A m c t h, outA6]
      exact (zero_add _).symm)
    (fun t h y => by
      idx_vars y
      rw [outsAt0_B m c t h, outB6]
      rfl)
    (le_of_eq N_0) t0_7 rfl j]
  rw [zero_add]

/-- The array of the weights' gradient after the run: the sum over the rows, batch by batch. -/
theorem final6 (c : Dev nD) : (dats m 0 c).arrAt 6 cfg0.N
    = fun y => ∑ b : Fin 2, ∑ s : Fin 2048, dwM m c ⟨2048 * b.val + s.val, by omega⟩ (y 0) (y 1) := by
  rw [final_points]
  funext y
  obtain ⟨e, he⟩ : ∃ e : Fin 3328, y 0 = e := ⟨_, rfl⟩
  obtain ⟨j, hj⟩ : ∃ j : Fin 1024, y 1 = j := ⟨_, rfl⟩
  simp only [he, hj]
  unfold part dwBlk
  refine Fin.sum_points_lanes_congr 4 (g := fun (b : Fin 2) (s : Fin 2048) => dwM m c ⟨2048 * b.val + s.val, by omega⟩ e j) fun t k ha hl => ?_
  have hR : 2048 * (t.val / 4) + (t.val % 4 * 512 + k.val) = 512 * t.val + k.val := by omega
  have hN : cfg0.N = 8 := N_0
  have := t.isLt
  unfold dwM ctM
  simp only [iblk0 m c t k _ ⟨512 * t.val + k.val, by omega⟩ rfl, iblk1 m c t k _ ⟨512 * t.val + k.val, by omega⟩ rfl,
    iblk2 m c t k _ ⟨512 * t.val + k.val, by omega⟩ rfl, iblk3 m c t k _ ⟨512 * t.val + k.val, by omega⟩ rfl,
    iblk4 m c t k _ ⟨512 * t.val + k.val, by omega⟩ rfl, iblk5 m c t, hR]

open Cert.Reference3Ideal.Read in
/-- The reference's gradient of the weights, at the kernel's arguments, is the kernel's. -/
theorem dw_eq (c : Dev nD) (y : (⟨2, ![3328, 1024]⟩ : Shape).Idx) :
    val_main_v48 (F := Ideal) (m (c.tc.loc main_arg0)) (m (c.tc.loc main_arg1)) (m (c.tc.loc main_arg2)) (m (c.tc.loc main_arg3))
      (m (c.tc.loc main_arg4)) (m (c.tc.loc main_arg5)) y
      = ∑ b : Fin 2, ∑ s : Fin 2048, dwM m c ⟨2048 * b.val + s.val, by omega⟩ (y 0) (y 1) := by
  idx_vars y
  rw [Ref.v48]
  refine Finset.sum_congr rfl fun b _ => Finset.sum_congr rfl fun s _ => ?_
  rw [Ref.v23 _ _ _ _ b s y0 ⟨2048 * b.val + s.val, by omega⟩ rfl, Ref.v21]
  have hx : xM m c ⟨2048 * b.val + s.val, by omega⟩ = fun k => m (c.tc.loc main_arg0) (ix3 b s k) := funext fun k => by
    unfold xM
    congr 2
    · exact Fin.ext (by simp only; omega)
    · exact Fin.ext (by simp only; omega)
  unfold dwM
  rw [hx]
  rfl

/-- The kernel's result is the reference's. -/
theorem algebraic : Cert.algebraic_Kernel3Ideal_Reference3Ideal := by
  pair_intro
  · run_from Cert.Kernel3Ideal.Value.run_blocks m g
  · run_from Cert.Reference3Ideal.Value.run m' g'
    · obtain ⟨h0, h1, h2, h3, h4, h5, h6⟩ := hagree c
      rw [Cert.Reference3Ideal.Read.val_main_v48_eq, h1, h2, h3, h4, final6 m c]
      funext y
      exact dw_eq m c y

end Cert.Dw

end
-- ==== Proof.KvFwdClaim.lean ====
module

public import proofs.«01_k».proof.Defs
public import proofs.«01_k».proof.Proof.FwdClaim
public import proofs.«01_k».proof.Proof.Gen.Kernel4Ideal.Value
public import proofs.«01_k».proof.Proof.Gen.Reference4Ideal.Run
public import proofs.«01_k».proof.Proof.Gen.Reference4Ideal.Read
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KvFwd

open Cert.Kernel4Ideal Cert.Kernel4Ideal.Gen Idealize.ShloMosaic Idealize.ShloMosaic.TcCoe Idealize.SL.Sem
open Idealize.ShloMosaic.Pipeline (Dat)
open Cert.Fwd (rstd projRow)

/-- The keys and values the body leaves: each entry a normed row of the memory, scaled, times a column of the weights. -/
theorem out3 (x0 : Vec Ideal S512x1024 .f32) (x1 : Vec Ideal S1x1024 .f32) (x2 : Vec Ideal S1024x512 .bf16) (r : Fin 512) (j : Fin 512) :
    out0_3 (F := Ideal) x0 x1 x2 (ix2 r j) = projRow (fun k => x0 (ix2 r k)) (fun k => x1 (ix2 0 k)) fun k => x2 (ix2 k j) := by
  frame_out
  pointwise [k0_pay1]
  rfl

variable (m : (ℓ : Loc nD τ sig) → Buf (Elt Ideal) ℓ)

theorem idx : ∀ t : Fin grid0.N,
    win0_0.index t = ![0, 0] ∧ win0_1.index t = ![0, 0] ∧ win0_2.index t = ![0, 0] ∧ win0_3.index t = ![0, 0] := by
  decide +kernel

/-- The whole array of the keys and values, row `r`, column `j`. -/
def kvM (c : Dev nD) (r : Fin 512) (j : Fin 512) : EReal :=
  projRow (fun k => m (c.tc.loc main_arg0) (ix3 ⟨r.val / 256, by omega⟩ ⟨r.val % 256, by omega⟩ k))
    (fun k => m (c.tc.loc main_arg1) (ix2 0 k)) fun k => m (c.tc.loc main_arg2) (ix2 k j)

theorem iblk0 (c : Dev nD) (t : Fin cfg0.N) (r : Fin 512) (j : Fin 1024) :
    (iblk m c 0 t : Vec Ideal S512x1024 .f32) (ix2 r j)
      = m (c.tc.loc main_arg0) (ix3 ⟨r.val / 256, by omega⟩ ⟨r.val % 256, by omega⟩ j) := by
  blk_simp [iblk, idx t]
  entry_read
  pointwise
  blk_ext [idx t]

theorem iblk1 (c : Dev nD) (t : Fin cfg0.N) (j : Fin 1024) :
    (iblk m c 1 t : Vec Ideal S1x1024 .f32) (ix2 0 j) = m (c.tc.loc main_arg1) (ix2 0 j) := by
  blk_ext [iblk, V, idx t]

theorem iblk2 (c : Dev nD) (t : Fin cfg0.N) (r : Fin 1024) (j : Fin 512) :
    (iblk m c 2 t : Vec Ideal S1024x512 .bf16) (ix2 r j) = m (c.tc.loc main_arg2) (ix2 r j) := by
  blk_simp [iblk, idx t]
  entry_read
  pointwise
  blk_ext [idx t]

/-- The array of the keys and values after the run. -/
theorem final3 (c : Dev nD) : (dats m 0 c).arrAt 3 cfg0.N = fun y => kvM m c (y 0) (y 1) := by
  refine (dats m 0 c).arrAt_eq_of_covers 3 _ (by decide +kernel) fun t hf y => ?_
  blk_simp
  rw [after0_3]
  idx_vars y
  rw [out3]
  simp only [iblk0 m c t, iblk1 m c t, iblk2 m c t]
  unfold kvM
  blk_simp [idx t]
  rw [show (win0_3.blk t).view.emb (ix2 y0 y1) 1 = y1 from Fin.ext (by blk_simp [idx t])]

open Cert.Reference4Ideal.Read in
/-- The reference's keys and values, at the kernel's arguments, are the kernel's. -/
theorem kv_eq (c : Dev nD) (y : (⟨2, ![512, 512]⟩ : Shape).Idx) :
    val_main_v15 (F := Ideal) (m (c.tc.loc main_arg0)) (m (c.tc.loc main_arg1)) (m (c.tc.loc main_arg2)) y
      = kvM m c (y 0) (y 1) := by
  idx_vars y
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  rfl

/-- The kernel's result is the reference's. -/
theorem algebraic : Cert.algebraic_Kernel4Ideal_Reference4Ideal := by
  pair_intro
  · run_from Cert.Kernel4Ideal.Value.run_blocks m g
  · run_from Cert.Reference4Ideal.Value.run m' g'
    · obtain ⟨h0, h1, h2⟩ := hagree c
      rw [Cert.Reference4Ideal.Read.val_main_v15_eq, final3 m c]
      funext y
      exact kv_eq m c y

end Cert.KvFwd

end
-- ==== Proof.KvBwdClaim.lean ====
module

public import proofs.«01_k».proof.Defs
public import proofs.«01_k».proof.Proof.FwdClaim
public import proofs.«01_k».proof.Proof.TwoAxes
public import proofs.«01_k».proof.Proof.Gen.Kernel5Ideal.Value
public import proofs.«01_k».proof.Proof.Gen.Reference5Ideal.Run
public import proofs.«01_k».proof.Proof.Gen.Reference5Ideal.Read
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KvBwd

open Cert.Kernel5Ideal Cert.Kernel5Ideal.Gen Idealize.ShloMosaic Idealize.ShloMosaic.TcCoe Idealize.SL.Sem
open Idealize.ShloMosaic.Pipeline (Dat)
open Cert.Fwd (rstd)

/-- The product of two extended reals. -/
abbrev mul (a b : EReal) : EReal := a * b

/-- One row's part of one entry of the weights' gradient: the scaled normed row times the cotangent. -/
def dwRow (x g : Fin 1024 → EReal) (d : Fin 512 → EReal) (k : Fin 1024) (e : Fin 512) : EReal := x k * rstd x * g k * d e

/-- One row's part of one entry of the scale's gradient: the cotangent of the scaled row times the normed row. -/
def dgRow (x : Fin 1024 → EReal) (d : Fin 512 → EReal) (w : Fin 1024 → Fin 512 → EReal) (k : Fin 1024) : EReal :=
  (∑ e, d e * w k e) * (x k * rstd x)

/-- The weights' gradient as the body computes it, before it is cut in four. -/
theorem pay5 (x0 : Vec Ideal S512x1024 .f32) (x1 : Vec Ideal S1x1024 .f32) (x3 : Vec Ideal S512x512 .f32) (k : Fin 1024) (e : Fin 512) :
    k0_pay5 (F := Ideal) x0 x1 x3 (ix2 k e)
      = ∑ r : Fin 512, dwRow (fun k => x0 (ix2 r k)) (fun k => x1 (ix2 0 k)) (fun e => x3 (ix2 r e)) k e := by
  pointwise [k0_pay5, k0_pay4, k0_pay3]
  rfl

/-- The scale's gradient the body leaves. -/
theorem out5 (x0 : Vec Ideal S512x1024 .f32) (x1 : Vec Ideal S1x1024 .f32) (x2 : Vec Ideal S1024x512 .bf16) (x3 : Vec Ideal S512x512 .f32)
    (z : Fin 1) (k : Fin 1024) :
    out0_5 (F := Ideal) x0 x1 x2 x3 (ix2 z k)
      = ∑ r : Fin 512, dgRow (fun k => x0 (ix2 r k)) (fun e => x3 (ix2 r e)) (fun k e => x2 (ix2 k e)) k := by
  frame_out
  pointwise [k0_pay2, k0_pay4, k0_pay3]
  rfl

/-- The weights' gradient the body leaves, in its four slabs. -/
theorem out4 (x0 : Vec Ideal S512x1024 .f32) (x1 : Vec Ideal S1x1024 .f32) (x2 : Vec Ideal S1024x512 .bf16) (x3 : Vec Ideal S512x512 .f32)
    (a : Fin 4) (b : Fin 256) (e : Fin 512) :
    out0_4 (F := Ideal) x0 x1 x2 x3 (ix3 a b e) = k0_pay5 (F := Ideal) x0 x1 x3 (ix2 ⟨256 * a.val + b.val, by omega⟩ e) := by
  have h0 : View.ld x0 r0_0 = x0 := by frame_out
  have h1 : View.ld x1 r0_1 = x1 := by frame_out
  have h3 : View.ld x3 r0_2 = x3 := by frame_out
  unfold out0_4
  rw [Cert.Kernel5Ideal.Value.canon4_eq, h0, h1, h3]
  unfold Cert.Kernel5Ideal.Value.E4
  refine congrArg _ (funext fun a => Fin.ext ?_)
  match a with | ⟨0, _⟩ => exact congrArg (· + b.val) (Nat.mul_comm _ _) | ⟨1, _⟩ => rfl

variable (m : (ℓ : Loc nD τ sig) → Buf (Elt Ideal) ℓ)

theorem idx : ∀ t : Fin grid0.N,
    win0_0.index t = ![0, 0] ∧ win0_1.index t = ![0, 0] ∧ win0_2.index t = ![0, 0] ∧ win0_3.index t = ![0, 0]
    ∧ win0_4.index t = ![0, 0, 0] ∧ win0_5.index t = ![0, 0] := by
  decide +kernel

/-- Row `r` of the memory. -/
def memM (c : Dev nD) (r : Fin 512) (k : Fin 1024) : EReal :=
  m (c.tc.loc main_arg0) (ix3 ⟨r.val / 256, by omega⟩ ⟨r.val % 256, by omega⟩ k)

/-- One entry of the weights' gradient: the sum over the memory's rows. -/
def dwM (c : Dev nD) (k : Fin 1024) (e : Fin 512) : EReal :=
  ∑ r : Fin 512, dwRow (memM m c r) (fun k => m (c.tc.loc main_arg1) (ix2 0 k)) (fun e => m (c.tc.loc main_arg3) (ix2 r e)) k e

/-- One entry of the scale's gradient: the sum over the memory's rows. -/
def dgM (c : Dev nD) (k : Fin 1024) : EReal :=
  ∑ r : Fin 512, dgRow (memM m c r) (fun e => m (c.tc.loc main_arg3) (ix2 r e)) (fun k e => m (c.tc.loc main_arg2) (ix2 k e)) k

theorem iblk0 (c : Dev nD) (t : Fin cfg0.N) (r : Fin 512) (j : Fin 1024) :
    (iblk m c 0 t : Vec Ideal S512x1024 .f32) (ix2 r j) = memM m c r j := by
  unfold memM
  blk_simp [iblk, idx t]
  entry_read
  pointwise
  blk_ext [idx t]

theorem iblk1 (c : Dev nD) (t : Fin cfg0.N) (j : Fin 1024) :
    (iblk m c 1 t : Vec Ideal S1x1024 .f32) (ix2 0 j) = m (c.tc.loc main_arg1) (ix2 0 j) := by
  blk_ext [iblk, V, idx t]

theorem iblk2 (c : Dev nD) (t : Fin cfg0.N) (r : Fin 1024) (j : Fin 512) :
    (iblk m c 2 t : Vec Ideal S1024x512 .bf16) (ix2 r j) = m (c.tc.loc main_arg2) (ix2 r j) := by
  blk_simp [iblk, idx t]
  entry_read
  pointwise
  blk_ext [idx t]

theorem iblk3 (c : Dev nD) (t : Fin cfg0.N) (r j : Fin 512) :
    (iblk m c 3 t : Vec Ideal S512x512 .f32) (ix2 r j) = m (c.tc.loc main_arg3) (ix2 r j) := by
  blk_ext [iblk, V, idx t]

/-- The array of the weights' gradient after the run. -/
theorem final4 (c : Dev nD) : (dats m 0 c).arrAt 4 cfg0.N = fun y => dwM m c ⟨256 * (y 0).val + (y 1).val, by
    have h0 : (y 0).val < 4 := (y 0).isLt
    have h1 : (y 1).val < 256 := (y 1).isLt
    omega⟩ (y 2) := by
  refine (dats m 0 c).arrAt_eq_of_covers 4 _ (by decide +kernel) fun t hf y => ?_
  blk_simp
  rw [after0_4]
  idx_vars y
  rw [out4, pay5]
  simp only [iblk0 m c t, iblk1 m c t, iblk3 m c t]
  unfold dwM
  blk_simp [idx t]
  rw [show (win0_4.blk t).view.emb (ix3 y0 y1 y2) 2 = y2 from Fin.ext (by blk_simp [idx t])]

/-- The array of the scale's gradient after the run. -/
theorem final5 (c : Dev nD) : (dats m 0 c).arrAt 5 cfg0.N = fun y => dgM m c (y 1) := by
  refine (dats m 0 c).arrAt_eq_of_covers 5 _ (by decide +kernel) fun t hf y => ?_
  blk_simp
  rw [after0_5]
  idx_vars y
  rw [out5]
  simp only [iblk0 m c t, iblk2 m c t, iblk3 m c t]
  unfold dgM
  blk_simp [idx t]
  rw [show (win0_5.blk t).view.emb (ix2 y0 y1) 1 = y1 from Fin.ext (by blk_simp [idx t])]

/-- The rows of the memory, batch by batch. -/
theorem rows (f : Fin 512 → EReal) : ∑ r, f r = ∑ b : Fin 2, ∑ s : Fin 256, f ⟨256 * b.val + s.val, by omega⟩ := by
  rw [Fin.sum_univ_two_halves 256 256 rfl, Fin.sum_univ_two]
  refine congrArg₂ _ (Finset.sum_congr rfl fun s _ => congrArg f (Fin.ext ?_)) (Finset.sum_congr rfl fun s _ => congrArg f (Fin.ext ?_))
  · simp
  · simp

theorem memM_row (c : Dev nD) (b : Fin 2) (s : Fin 256) :
    memM m c ⟨256 * b.val + s.val, by omega⟩ = fun k => m (c.tc.loc main_arg0) (ix3 b s k) := funext fun k => by
  unfold memM
  congr 2
  · exact Fin.ext (by simp only; omega)
  · exact Fin.ext (by simp only; omega)

section Reference

open Cert.Reference5Ideal Cert.Reference5Ideal.Gen Cert.Reference5Ideal.Read

variable (x0 : (⟨Cert.Reference5Ideal.S2x256x1024, .f32⟩ : BufTy).Contents (Elt Ideal))
  (x1 : (⟨Cert.Reference5Ideal.S1x1024, .f32⟩ : BufTy).Contents (Elt Ideal))
  (x2 : (⟨Cert.Reference5Ideal.S1024x512, .f32⟩ : BufTy).Contents (Elt Ideal))
  (x3 : (⟨Cert.Reference5Ideal.S512x512, .f32⟩ : BufTy).Contents (Elt Ideal))

/-- The reference's normed row. -/
theorem ref13 (b : Fin 2) (s : Fin 256) (k : Fin 1024) :
    val_main_v13 (F := Ideal) x0 (ix3 b s k) = mul (x0 (ix3 b s k)) (rstd fun k => x0 (ix3 b s k)) := by
  pointwise [val_main_v13, val_main_v12, val_main_v8, val_main_v7, val_main_v6, val_main_v5, val_main_v4, val_main_v3, val_main_v2,
    val_main_v1, val_main_cst, val_main_cst_0, val_main_cst_1]
  rfl

/-- The reference's cotangent, batch by batch. -/
theorem ref18 (b : Fin 2) (s : Fin 256) (e : Fin 512) :
    val_main_v18 (F := Ideal) x3 (ix3 b s e) = x3 (ix2 ⟨256 * b.val + s.val, by omega⟩ e) := by
  pointwise [val_main_v18]
  simp only [Nat.mul_comm b.val 256]

/-- The reference's gradient of the weights. -/
theorem ref44 (a : Fin 4) (q : Fin 256) (e : Fin 512) :
    val_main_v44 (F := Ideal) x0 x1 x3 (ix3 a q e)
      = ∑ b : Fin 2, ∑ s : Fin 256, mul (val_main_v18 (F := Ideal) x3 (ix3 b s e))
          (mul (val_main_v13 (F := Ideal) x0 (ix3 b s ⟨256 * a.val + q.val, by omega⟩)) (x1 (ix2 0 ⟨256 * a.val + q.val, by omega⟩))) := by
  unfold val_main_v44 val_main_v43 val_main_v20 val_main_v19 val_main_v16
  generalize val_main_v18 (F := Ideal) x3 = d
  generalize val_main_v13 (F := Ideal) x0 = h
  pointwise [val_main_v15, val_main_v14, val_main_v0]
  simp only [Nat.mul_comm a.val 256]

/-- The reference's gradient of the scale. -/
theorem ref42 (z : Fin 1) (k : Fin 1024) :
    val_main_v42 (F := Ideal) x0 x2 x3 (ix2 z k)
      = ∑ b : Fin 2, ∑ s : Fin 256, mul (val_main_v13 (F := Ideal) x0 (ix3 b s k))
          (∑ e : Fin 512, mul (val_main_v18 (F := Ideal) x3 (ix3 b s e)) (x2 (ix2 k e))) := by
  unfold val_main_v42 val_main_v27 val_main_v24 val_main_v23 val_main_v22 val_main_v21
  generalize val_main_v18 (F := Ideal) x3 = d
  generalize val_main_v13 (F := Ideal) x0 = h
  pointwise [val_main_cst_3, val_main_cst_4, TwoAxes.hostReduceAdd_r3_a01]
  simp only [Fin.sum_univ_one]

end Reference

open Cert.Reference5Ideal.Read in
/-- The reference's gradient of the weights, at the kernel's arguments, is the kernel's. -/
theorem dw_eq (c : Dev nD) (a : Fin 4) (q : Fin 256) (e : Fin 512) :
    val_main_v44 (F := Ideal) (m (c.tc.loc main_arg0)) (m (c.tc.loc main_arg1)) (m (c.tc.loc main_arg3)) (ix3 a q e)
      = dwM m c ⟨256 * a.val + q.val, by omega⟩ e := by
  rw [ref44]
  unfold dwM
  rw [rows]
  refine Finset.sum_congr rfl fun b _ => Finset.sum_congr rfl fun s _ => ?_
  rw [memM_row, ref18, ref13]
  exact mul_comm _ _

open Cert.Reference5Ideal.Read in
/-- The reference's gradient of the scale, at the kernel's arguments, is the kernel's. -/
theorem dg_eq (c : Dev nD) (z : Fin 1) (k : Fin 1024) :
    val_main_v42 (F := Ideal) (m (c.tc.loc main_arg0)) (m (c.tc.loc main_arg2)) (m (c.tc.loc main_arg3)) (ix2 z k) = dgM m c k := by
  rw [ref42]
  unfold dgM
  rw [rows]
  refine Finset.sum_congr rfl fun b _ => Finset.sum_congr rfl fun s _ => ?_
  rw [memM_row, ref13]
  simp only [ref18]
  exact mul_comm _ _

/-- The kernel's two results are the reference's. -/
theorem algebraic : Cert.algebraic_Kernel5Ideal_Reference5Ideal := by
  pair_intro
  · run_from Cert.Kernel5Ideal.Value.run_blocks m g
  · run_from Cert.Reference5Ideal.Value.run m' g'
    · obtain ⟨h0, h1, h2, h3⟩ := hagree c
      rw [Cert.Reference5Ideal.Read.val_main_v44_eq, final4 m c]
      funext y
      idx_vars y
      exact dw_eq m c y0 y1 y2
    · obtain ⟨h0, h1, h2, h3⟩ := hagree c
      rw [Cert.Reference5Ideal.Read.val_main_v42_eq, final5 m c]
      funext y
      idx_vars y
      exact dg_eq m c y0 y1

end Cert.KvBwd

end
-- ==== Proof.MidRunA.lean ====
module

public import proofs.«01_k».proof.Proof.Gen.Kernel6Ideal.Frame.Runs

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the first point, which zeroes every accumulator: the pieces it stores into each result and each
scratch buffer, and that it runs from the staged operands to those stores. -/
noncomputable def kernelRun0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S256x512 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S512x1024 .f32) (harg18 : arg18.IsWhole) (arg19 : Memref sig .tc .vmem S512x512 .f32) (harg19 : arg19.IsWhole) (arg20 : Memref sig .tc .vmem S512x1792 .bf16) (harg20 : arg20.IsWhole) (arg21 : Memref sig .tc .vmem S8x128 .f32) (harg21 : arg21.IsWhole) (arg22 : Memref sig .tc .vmem S4x256x1024 .bf16) (harg22 : arg22.IsWhole) (arg23 : Memref sig .tc .vmem S4x128x128 .f32) (harg23 : arg23.IsWhole) (arg24 : Memref sig .tc .vmem S128x128 .f32) (harg24 : arg24.IsWhole) (arg25 : Memref sig .tc .vmem S1x256 .f32) (harg25 : arg25.IsWhole) (arg26 : Memref sig .tc .vmem S1x1024 .f32) (harg26 : arg26.IsWhole) (arg27 : Memref sig .tc .vmem S256x512 .f32) (harg27 : arg27.IsWhole) (arg28 : Memref sig .tc .vmem S128x256 .f32) (harg28 : arg28.IsWhole) (arg29 : Memref sig .tc .vmem S1024x1024 .f32) (harg29 : arg29.IsWhole) (hc0 : cond0_0 i) (hc1 : cond0_1 i) (hc2 : ¬cond0_2 i)
    (x0 : Vec F S512x1024 .f32) (x1 : Vec F S512x1024 .f32) (x2 : Vec F S512x512 .f32) (x3 : Vec F S512x512 .f32) (x4 : Vec F S512x256 .f32) (x5 : Vec F S512x256 .f32) (x6 : Vec F S512x256 .f32) (x7 : Vec F S512x256 .f32) (x8 : Vec F S512x256 .f32) (x9 : Vec F S256x512 .f32) (x10 : Vec F S4x128x128 .f32) (x11 : Vec F S4x128x128 .f32) (x12 : Vec F S128x256 .f32) (x13 : Vec F S1x256 .f32) (x14 : Vec F S1024x1024 .bf16) (x15 : Vec F S1x1024 .f32) :
    Σ' (L16 : List (View.Piece (Elt F) S512x1024 .f32)), Σ' (L17 : List (View.Piece (Elt F) S512x512 .f32)), Σ' (L18 : List (View.Piece (Elt F) S512x1792 .bf16)), Σ' (L19 : List (View.Piece (Elt F) S8x128 .f32)), Σ' (L20 : List (View.Piece (Elt F) S4x256x1024 .bf16)), Σ' (L21 : List (View.Piece (Elt F) S4x128x128 .f32)), Σ' (L22 : List (View.Piece (Elt F) S128x128 .f32)), Σ' (L23 : List (View.Piece (Elt F) S1x256 .f32)), Σ' (L24 : List (View.Piece (Elt F) S1x1024 .f32)), Σ' (L25 : List (View.Piece (Elt F) S256x512 .f32)), Σ' (LS0 : List (View.Piece (Elt F) S128x256 .f32)), { LS1 : List (View.Piece (Elt F) S1024x1024 .f32) //
      ∀ (xi20 : Vec F S4x256x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xi20 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ owns (c : Thread nD τ) arg22 fullShare xi20 ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f LS0) ∗ (∃ f, arg29.view.loc (c : Thread nD τ) ↦[arg29.view.set]{fullShare} arg29.view.writes (Elt F) f LS1)) -∗ K ⟨⟩))
          ⊢ wp frame (wpE (defs₀ (F := F)) Variants.none c none) E (cc0_mid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, [], ?_, ?_, ?_, ?_, ?_, ?_, ?_, fun xi20 E K => ?run⟩
  case run =>
    simp only [cc0_mid_eq_skeleton]; unfold cc0_mid_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg22.eq_unread hf20
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]
    · iexists _; isplitr; · ipureintro; exact harg22.read_unread _
      iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]; · iexists _; iexact HS0
    iexists _; iexact HS1

end Cert.Kernel6Ideal.Gen

end
-- ==== Proof.MidRunB.lean ====
module

public import proofs.«01_k».proof.Proof.Gen.Kernel6Ideal.Frame.Runs

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at a point that only adds to the accumulators: the pieces it stores into each result and each
scratch buffer, and that it runs from the staged operands to those stores. -/
noncomputable def kernelRun0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S256x512 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S512x1024 .f32) (harg18 : arg18.IsWhole) (arg19 : Memref sig .tc .vmem S512x512 .f32) (harg19 : arg19.IsWhole) (arg20 : Memref sig .tc .vmem S512x1792 .bf16) (harg20 : arg20.IsWhole) (arg21 : Memref sig .tc .vmem S8x128 .f32) (harg21 : arg21.IsWhole) (arg22 : Memref sig .tc .vmem S4x256x1024 .bf16) (harg22 : arg22.IsWhole) (arg23 : Memref sig .tc .vmem S4x128x128 .f32) (harg23 : arg23.IsWhole) (arg24 : Memref sig .tc .vmem S128x128 .f32) (harg24 : arg24.IsWhole) (arg25 : Memref sig .tc .vmem S1x256 .f32) (harg25 : arg25.IsWhole) (arg26 : Memref sig .tc .vmem S1x1024 .f32) (harg26 : arg26.IsWhole) (arg27 : Memref sig .tc .vmem S256x512 .f32) (harg27 : arg27.IsWhole) (arg28 : Memref sig .tc .vmem S128x256 .f32) (harg28 : arg28.IsWhole) (arg29 : Memref sig .tc .vmem S1024x1024 .f32) (harg29 : arg29.IsWhole) (hc0 : ¬cond0_0 i) (hc1 : ¬cond0_1 i) (hc2 : ¬cond0_2 i)
    (x0 : Vec F S512x1024 .f32) (x1 : Vec F S512x1024 .f32) (x2 : Vec F S512x512 .f32) (x3 : Vec F S512x512 .f32) (x4 : Vec F S512x256 .f32) (x5 : Vec F S512x256 .f32) (x6 : Vec F S512x256 .f32) (x7 : Vec F S512x256 .f32) (x8 : Vec F S512x256 .f32) (x9 : Vec F S256x512 .f32) (x10 : Vec F S4x128x128 .f32) (x11 : Vec F S4x128x128 .f32) (x12 : Vec F S128x256 .f32) (x13 : Vec F S1x256 .f32) (x14 : Vec F S1024x1024 .bf16) (x15 : Vec F S1x1024 .f32) (xo19 : Vec F S8x128 .f32) (xo21 : Vec F S4x128x128 .f32) (xo23 : Vec F S1x256 .f32) (xo24 : Vec F S1x1024 .f32) (xo25 : Vec F S256x512 .f32) (xs0 : Vec F S128x256 .f32) (xs1 : Vec F S1024x1024 .f32) :
    Σ' (L16 : List (View.Piece (Elt F) S512x1024 .f32)), Σ' (L17 : List (View.Piece (Elt F) S512x512 .f32)), Σ' (L18 : List (View.Piece (Elt F) S512x1792 .bf16)), Σ' (L19 : List (View.Piece (Elt F) S8x128 .f32)), Σ' (L20 : List (View.Piece (Elt F) S4x256x1024 .bf16)), Σ' (L21 : List (View.Piece (Elt F) S4x128x128 .f32)), Σ' (L22 : List (View.Piece (Elt F) S128x128 .f32)), Σ' (L23 : List (View.Piece (Elt F) S1x256 .f32)), Σ' (L24 : List (View.Piece (Elt F) S1x1024 .f32)), Σ' (L25 : List (View.Piece (Elt F) S256x512 .f32)), Σ' (LS0 : List (View.Piece (Elt F) S128x256 .f32)), { LS1 : List (View.Piece (Elt F) S1024x1024 .f32) //
      ∀ (xi20 : Vec F S4x256x1024 .bf16) (xi22 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xo19 ∗ owns (c : Thread nD τ) arg22 fullShare xi20 ∗ owns (c : Thread nD τ) arg23 fullShare xo21 ∗ owns (c : Thread nD τ) arg24 fullShare xi22 ∗ owns (c : Thread nD τ) arg25 fullShare xo23 ∗ owns (c : Thread nD τ) arg26 fullShare xo24 ∗ owns (c : Thread nD τ) arg27 fullShare xo25 ∗ owns (c : Thread nD τ) arg28 fullShare xs0 ∗ owns (c : Thread nD τ) arg29 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ owns (c : Thread nD τ) arg22 fullShare xi20 ∗ (∃ f, arg23.view.loc (c : Thread nD τ) ↦[arg23.view.set]{fullShare} arg23.view.writes (Elt F) f L21) ∗ owns (c : Thread nD τ) arg24 fullShare xi22 ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f LS0) ∗ (∃ f, arg29.view.loc (c : Thread nD τ) ↦[arg29.view.set]{fullShare} arg29.view.writes (Elt F) f LS1)) -∗ K ⟨⟩))
          ⊢ wp frame (wpE (defs₀ (F := F)) Variants.none c none) E (cc0_mid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, [], ?_, [], ?_, ?_, ?_, ?_, ?_, fun xi20 xi22 E K => ?run⟩
  case run =>
    simp only [cc0_mid_eq_skeleton]; unfold cc0_mid_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hfs0; obtain rfl := harg29.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]
    · iexists _; isplitr; · ipureintro; exact harg22.read_unread _
      iexact H20
    isplitl [H21]; · iexists _; iexact H21
    isplitl [H22]
    · iexists _; isplitr; · ipureintro; exact harg24.read_unread _
      iexact H22
    isplitl [H23]; · iexists _; iexact H23
    isplitl [H24]; · iexists _; iexact H24
    isplitl [H25]; · iexists _; iexact H25
    isplitl [HS0]; · iexists _; iexact HS0
    iexists _; iexact HS1

end Cert.Kernel6Ideal.Gen

end
-- ==== Proof.MidRunC.lean ====
module

public import proofs.«01_k».proof.Proof.Gen.Kernel6Ideal.Frame.Runs

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the first point of the second batch entry, which zeroes the accumulator of the keys and values: the pieces it stores into each result and each
scratch buffer, and that it runs from the staged operands to those stores. -/
noncomputable def kernelRun0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S256x512 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S512x1024 .f32) (harg18 : arg18.IsWhole) (arg19 : Memref sig .tc .vmem S512x512 .f32) (harg19 : arg19.IsWhole) (arg20 : Memref sig .tc .vmem S512x1792 .bf16) (harg20 : arg20.IsWhole) (arg21 : Memref sig .tc .vmem S8x128 .f32) (harg21 : arg21.IsWhole) (arg22 : Memref sig .tc .vmem S4x256x1024 .bf16) (harg22 : arg22.IsWhole) (arg23 : Memref sig .tc .vmem S4x128x128 .f32) (harg23 : arg23.IsWhole) (arg24 : Memref sig .tc .vmem S128x128 .f32) (harg24 : arg24.IsWhole) (arg25 : Memref sig .tc .vmem S1x256 .f32) (harg25 : arg25.IsWhole) (arg26 : Memref sig .tc .vmem S1x1024 .f32) (harg26 : arg26.IsWhole) (arg27 : Memref sig .tc .vmem S256x512 .f32) (harg27 : arg27.IsWhole) (arg28 : Memref sig .tc .vmem S128x256 .f32) (harg28 : arg28.IsWhole) (arg29 : Memref sig .tc .vmem S1024x1024 .f32) (harg29 : arg29.IsWhole) (hc0 : ¬cond0_0 i) (hc1 : cond0_1 i) (hc2 : ¬cond0_2 i)
    (x0 : Vec F S512x1024 .f32) (x1 : Vec F S512x1024 .f32) (x2 : Vec F S512x512 .f32) (x3 : Vec F S512x512 .f32) (x4 : Vec F S512x256 .f32) (x5 : Vec F S512x256 .f32) (x6 : Vec F S512x256 .f32) (x7 : Vec F S512x256 .f32) (x8 : Vec F S512x256 .f32) (x9 : Vec F S256x512 .f32) (x10 : Vec F S4x128x128 .f32) (x11 : Vec F S4x128x128 .f32) (x12 : Vec F S128x256 .f32) (x13 : Vec F S1x256 .f32) (x14 : Vec F S1024x1024 .bf16) (x15 : Vec F S1x1024 .f32) (xo19 : Vec F S8x128 .f32) (xo21 : Vec F S4x128x128 .f32) (xo23 : Vec F S1x256 .f32) (xo24 : Vec F S1x1024 .f32) (xs0 : Vec F S128x256 .f32) (xs1 : Vec F S1024x1024 .f32) :
    Σ' (L16 : List (View.Piece (Elt F) S512x1024 .f32)), Σ' (L17 : List (View.Piece (Elt F) S512x512 .f32)), Σ' (L18 : List (View.Piece (Elt F) S512x1792 .bf16)), Σ' (L19 : List (View.Piece (Elt F) S8x128 .f32)), Σ' (L20 : List (View.Piece (Elt F) S4x256x1024 .bf16)), Σ' (L21 : List (View.Piece (Elt F) S4x128x128 .f32)), Σ' (L22 : List (View.Piece (Elt F) S128x128 .f32)), Σ' (L23 : List (View.Piece (Elt F) S1x256 .f32)), Σ' (L24 : List (View.Piece (Elt F) S1x1024 .f32)), Σ' (L25 : List (View.Piece (Elt F) S256x512 .f32)), Σ' (LS0 : List (View.Piece (Elt F) S128x256 .f32)), { LS1 : List (View.Piece (Elt F) S1024x1024 .f32) //
      ∀ (xi20 : Vec F S4x256x1024 .bf16) (xi22 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xo19 ∗ owns (c : Thread nD τ) arg22 fullShare xi20 ∗ owns (c : Thread nD τ) arg23 fullShare xo21 ∗ owns (c : Thread nD τ) arg24 fullShare xi22 ∗ owns (c : Thread nD τ) arg25 fullShare xo23 ∗ owns (c : Thread nD τ) arg26 fullShare xo24 ∗ (∃ d, owns (c : Thread nD τ) arg27 fullShare d) ∗ owns (c : Thread nD τ) arg28 fullShare xs0 ∗ owns (c : Thread nD τ) arg29 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ owns (c : Thread nD τ) arg22 fullShare xi20 ∗ (∃ f, arg23.view.loc (c : Thread nD τ) ↦[arg23.view.set]{fullShare} arg23.view.writes (Elt F) f L21) ∗ owns (c : Thread nD τ) arg24 fullShare xi22 ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f LS0) ∗ (∃ f, arg29.view.loc (c : Thread nD τ) ↦[arg29.view.set]{fullShare} arg29.view.writes (Elt F) f LS1)) -∗ K ⟨⟩))
          ⊢ wp frame (wpE (defs₀ (F := F)) Variants.none c none) E (cc0_mid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, [], ?_, [], ?_, ?_, ?_, ?_, ?_, fun xi20 xi22 E K => ?run⟩
  case run =>
    simp only [cc0_mid_eq_skeleton]; unfold cc0_mid_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg28.eq_unread hfs0; obtain rfl := harg29.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]
    · iexists _; isplitr; · ipureintro; exact harg22.read_unread _
      iexact H20
    isplitl [H21]; · iexists _; iexact H21
    isplitl [H22]
    · iexists _; isplitr; · ipureintro; exact harg24.read_unread _
      iexact H22
    isplitl [H23]; · iexists _; iexact H23
    isplitl [H24]; · iexists _; iexact H24
    isplitl [H25]; · iexists _; iexact H25
    isplitl [HS0]; · iexists _; iexact HS0
    iexists _; iexact HS1

end Cert.Kernel6Ideal.Gen

end
-- ==== Proof.MidRunD.lean ====
module

public import proofs.«01_k».proof.Proof.Gen.Kernel6Ideal.Frame.Runs

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the last point, which adds and writes the accumulators out: the pieces it stores into each result and each
scratch buffer, and that it runs from the staged operands to those stores. -/
noncomputable def kernelRun0_D (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S256x512 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S512x1024 .f32) (harg18 : arg18.IsWhole) (arg19 : Memref sig .tc .vmem S512x512 .f32) (harg19 : arg19.IsWhole) (arg20 : Memref sig .tc .vmem S512x1792 .bf16) (harg20 : arg20.IsWhole) (arg21 : Memref sig .tc .vmem S8x128 .f32) (harg21 : arg21.IsWhole) (arg22 : Memref sig .tc .vmem S4x256x1024 .bf16) (harg22 : arg22.IsWhole) (arg23 : Memref sig .tc .vmem S4x128x128 .f32) (harg23 : arg23.IsWhole) (arg24 : Memref sig .tc .vmem S128x128 .f32) (harg24 : arg24.IsWhole) (arg25 : Memref sig .tc .vmem S1x256 .f32) (harg25 : arg25.IsWhole) (arg26 : Memref sig .tc .vmem S1x1024 .f32) (harg26 : arg26.IsWhole) (arg27 : Memref sig .tc .vmem S256x512 .f32) (harg27 : arg27.IsWhole) (arg28 : Memref sig .tc .vmem S128x256 .f32) (harg28 : arg28.IsWhole) (arg29 : Memref sig .tc .vmem S1024x1024 .f32) (harg29 : arg29.IsWhole) (hc0 : ¬cond0_0 i) (hc1 : ¬cond0_1 i) (hc2 : cond0_2 i)
    (x0 : Vec F S512x1024 .f32) (x1 : Vec F S512x1024 .f32) (x2 : Vec F S512x512 .f32) (x3 : Vec F S512x512 .f32) (x4 : Vec F S512x256 .f32) (x5 : Vec F S512x256 .f32) (x6 : Vec F S512x256 .f32) (x7 : Vec F S512x256 .f32) (x8 : Vec F S512x256 .f32) (x9 : Vec F S256x512 .f32) (x10 : Vec F S4x128x128 .f32) (x11 : Vec F S4x128x128 .f32) (x12 : Vec F S128x256 .f32) (x13 : Vec F S1x256 .f32) (x14 : Vec F S1024x1024 .bf16) (x15 : Vec F S1x1024 .f32) (xo19 : Vec F S8x128 .f32) (xo21 : Vec F S4x128x128 .f32) (xo23 : Vec F S1x256 .f32) (xo24 : Vec F S1x1024 .f32) (xo25 : Vec F S256x512 .f32) (xs0 : Vec F S128x256 .f32) (xs1 : Vec F S1024x1024 .f32) :
    Σ' (L16 : List (View.Piece (Elt F) S512x1024 .f32)), Σ' (L17 : List (View.Piece (Elt F) S512x512 .f32)), Σ' (L18 : List (View.Piece (Elt F) S512x1792 .bf16)), Σ' (L19 : List (View.Piece (Elt F) S8x128 .f32)), Σ' (L20 : List (View.Piece (Elt F) S4x256x1024 .bf16)), Σ' (L21 : List (View.Piece (Elt F) S4x128x128 .f32)), Σ' (L22 : List (View.Piece (Elt F) S128x128 .f32)), Σ' (L23 : List (View.Piece (Elt F) S1x256 .f32)), Σ' (L24 : List (View.Piece (Elt F) S1x1024 .f32)), Σ' (L25 : List (View.Piece (Elt F) S256x512 .f32)), Σ' (LS0 : List (View.Piece (Elt F) S128x256 .f32)), { LS1 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xo19 ∗ (∃ d, owns (c : Thread nD τ) arg22 fullShare d) ∗ owns (c : Thread nD τ) arg23 fullShare xo21 ∗ (∃ d, owns (c : Thread nD τ) arg24 fullShare d) ∗ owns (c : Thread nD τ) arg25 fullShare xo23 ∗ owns (c : Thread nD τ) arg26 fullShare xo24 ∗ owns (c : Thread nD τ) arg27 fullShare xo25 ∗ owns (c : Thread nD τ) arg28 fullShare xs0 ∗ owns (c : Thread nD τ) arg29 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f LS0) ∗ (∃ f, arg29.view.loc (c : Thread nD τ) ↦[arg29.view.set]{fullShare} arg29.view.writes (Elt F) f LS1)) -∗ K ⟨⟩))
          ⊢ wp frame (wpE (defs₀ (F := F)) Variants.none c none) E (cc0_mid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, ?_, ?_, fun E K => ?run⟩
  case run =>
    simp only [cc0_mid_eq_skeleton]; unfold cc0_mid_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%f19, %hf19, H19⟩, ⟨%d20, %f20, -, H20⟩, ⟨%f21, %hf21, H21⟩, ⟨%d22, %f22, -, H22⟩, ⟨%f23, %hf23, H23⟩, ⟨%f24, %hf24, H24⟩, ⟨%f25, %hf25, H25⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg21.eq_unread hf19; obtain rfl := harg23.eq_unread hf21; obtain rfl := harg25.eq_unread hf23; obtain rfl := harg26.eq_unread hf24; obtain rfl := harg27.eq_unread hf25; obtain rfl := harg28.eq_unread hfs0; obtain rfl := harg29.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]; · iexists _; iexact HS0
    iexists _; iexact HS1

end Cert.Kernel6Ideal.Gen

end
-- ==== Proof.MidCases.lean ====
module

public import proofs.«01_k».proof.Proof.MidRunA
public import proofs.«01_k».proof.Proof.MidRunB
public import proofs.«01_k».proof.Proof.MidRunC
public import proofs.«01_k».proof.Proof.MidRunD

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the ten results' staged blocks and the two scratch buffers. -/
abbrev Left (F : FTy → Type) [FloatOps F] := Vec F S512x1024 .f32 × Vec F S512x512 .f32 × Vec F S512x1792 .bf16 × Vec F S8x128 .f32 × Vec F S4x256x1024 .bf16 × Vec F S4x128x128 .f32 × Vec F S128x128 .f32 × Vec F S1x256 .f32 × Vec F S1x1024 .f32 × Vec F S256x512 .f32 × Vec F S128x256 .f32 × Vec F S1024x1024 .f32

/-- The run at the first point, over the staged blocks. -/
abbrev runA (c : Dev nD) (t : Fin cfg0.N) (h0 : t.val % 8 = 0) (h1 : t.val % 4 = 0) (h2 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- What the first point leaves. -/
def leftA (c : Dev nD) (t : Fin cfg0.N) (h0 : t.val % 8 = 0) (h1 : t.val % 4 = 0) (h2 : ¬t.val % 8 = 7) : Left F :=
  (VO0_16.read (Elt F) (VO0_16.writes (Elt F) VO0_16.junk (runA m c t h0 h1 h2).1),
   VO0_17.read (Elt F) (VO0_17.writes (Elt F) VO0_17.junk (runA m c t h0 h1 h2).2.1),
   VO0_18.read (Elt F) (VO0_18.writes (Elt F) VO0_18.junk (runA m c t h0 h1 h2).2.2.1),
   VO0_19.read (Elt F) (VO0_19.writes (Elt F) VO0_19.junk (runA m c t h0 h1 h2).2.2.2.1),
   VO0_20.read (Elt F) (VO0_20.writes (Elt F) VO0_20.junk (runA m c t h0 h1 h2).2.2.2.2.1),
   VO0_21.read (Elt F) (VO0_21.writes (Elt F) VO0_21.junk (runA m c t h0 h1 h2).2.2.2.2.2.1),
   VO0_22.read (Elt F) (VO0_22.writes (Elt F) VO0_22.junk (runA m c t h0 h1 h2).2.2.2.2.2.2.1),
   VO0_23.read (Elt F) (VO0_23.writes (Elt F) VO0_23.junk (runA m c t h0 h1 h2).2.2.2.2.2.2.2.1),
   VO0_24.read (Elt F) (VO0_24.writes (Elt F) VO0_24.junk (runA m c t h0 h1 h2).2.2.2.2.2.2.2.2.1),
   VO0_25.read (Elt F) (VO0_25.writes (Elt F) VO0_25.junk (runA m c t h0 h1 h2).2.2.2.2.2.2.2.2.2.1),
   VS0_0.read (Elt F) (VS0_0.writes (Elt F) VS0_0.junk (runA m c t h0 h1 h2).2.2.2.2.2.2.2.2.2.2.1),
   VS0_1.read (Elt F) (VS0_1.writes (Elt F) VS0_1.junk (runA m c t h0 h1 h2).2.2.2.2.2.2.2.2.2.2.2.1))

/-! Every block that the first point stores into is covered by its stores. -/

theorem coverA_16 (c : Dev nD) (t : Fin cfg0.N) (h0 : t.val % 8 = 0) (h1 : t.val % 4 = 0) (h2 : ¬t.val % 8 = 7) (y : S512x1024.Idx) :
    ∃ pc ∈ (runA m c t h0 h1 h2).1, y ∈ pc.1.set :=
  View.cover_of_tiledL (runA m c t h0 h1 h2).1 S256x1024.size (by sl_kernel_rfl) y

theorem coverA_17 (c : Dev nD) (t : Fin cfg0.N) (h0 : t.val % 8 = 0) (h1 : t.val % 4 = 0) (h2 : ¬t.val % 8 = 7) (y : S512x512.Idx) :
    ∃ pc ∈ (runA m c t h0 h1 h2).2.1, y ∈ pc.1.set :=
  View.cover_of_tiledL (runA m c t h0 h1 h2).2.1 S256x512.size (by sl_kernel_rfl) y

theorem coverA_18 (c : Dev nD) (t : Fin cfg0.N) (h0 : t.val % 8 = 0) (h1 : t.val % 4 = 0) (h2 : ¬t.val % 8 = 7) (y : S512x1792.Idx) :
    ∃ pc ∈ (runA m c t h0 h1 h2).2.2.1, y ∈ pc.1.set :=
  View.cover_of_tiledL (runA m c t h0 h1 h2).2.2.1 S256x1792.size (by sl_kernel_rfl) y

theorem coverA_19 (c : Dev nD) (t : Fin cfg0.N) (h0 : t.val % 8 = 0) (h1 : t.val % 4 = 0) (h2 : ¬t.val % 8 = 7) (y : S8x128.Idx) :
    ∃ pc ∈ (runA m c t h0 h1 h2).2.2.2.1, y ∈ pc.1.set :=
  View.cover_of_tiledL (runA m c t h0 h1 h2).2.2.2.1 S8x128.size (by sl_kernel_rfl) y

theorem coverA_21 (c : Dev nD) (t : Fin cfg0.N) (h0 : t.val % 8 = 0) (h1 : t.val % 4 = 0) (h2 : ¬t.val % 8 = 7) (y : S4x128x128.Idx) :
    ∃ pc ∈ (runA m c t h0 h1 h2).2.2.2.2.2.1, y ∈ pc.1.set :=
  View.cover_of_tiledBy (runA m c t h0 h1 h2).2.2.2.2.2.1 ![1, 128, 128] (by sl_kernel_rfl) y

theorem coverA_22 (c : Dev nD) (t : Fin cfg0.N) (h0 : t.val % 8 = 0) (h1 : t.val % 4 = 0) (h2 : ¬t.val % 8 = 7) (y : S128x128.Idx) :
    ∃ pc ∈ (runA m c t h0 h1 h2).2.2.2.2.2.2.1, y ∈ pc.1.set :=
  View.cover_of_tiledL (runA m c t h0 h1 h2).2.2.2.2.2.2.1 S128x128.size (by sl_kernel_rfl) y

theorem coverA_23 (c : Dev nD) (t : Fin cfg0.N) (h0 : t.val % 8 = 0) (h1 : t.val % 4 = 0) (h2 : ¬t.val % 8 = 7) (y : S1x256.Idx) :
    ∃ pc ∈ (runA m c t h0 h1 h2).2.2.2.2.2.2.2.1, y ∈ pc.1.set :=
  View.cover_of_tiledL (runA m c t h0 h1 h2).2.2.2.2.2.2.2.1 S1x256.size (by sl_kernel_rfl) y

theorem coverA_24 (c : Dev nD) (t : Fin cfg0.N) (h0 : t.val % 8 = 0) (h1 : t.val % 4 = 0) (h2 : ¬t.val % 8 = 7) (y : S1x1024.Idx) :
    ∃ pc ∈ (runA m c t h0 h1 h2).2.2.2.2.2.2.2.2.1, y ∈ pc.1.set :=
  View.cover_of_tiledL (runA m c t h0 h1 h2).2.2.2.2.2.2.2.2.1 S1x1024.size (by sl_kernel_rfl) y

theorem coverA_25 (c : Dev nD) (t : Fin cfg0.N) (h0 : t.val % 8 = 0) (h1 : t.val % 4 = 0) (h2 : ¬t.val % 8 = 7) (y : S256x512.Idx) :
    ∃ pc ∈ (runA m c t h0 h1 h2).2.2.2.2.2.2.2.2.2.1, y ∈ pc.1.set :=
  View.cover_of_tiledL (runA m c t h0 h1 h2).2.2.2.2.2.2.2.2.2.1 S256x512.size (by sl_kernel_rfl) y

theorem coverA_s0 (c : Dev nD) (t : Fin cfg0.N) (h0 : t.val % 8 = 0) (h1 : t.val % 4 = 0) (h2 : ¬t.val % 8 = 7) (y : S128x256.Idx) :
    ∃ pc ∈ (runA m c t h0 h1 h2).2.2.2.2.2.2.2.2.2.2.1, y ∈ pc.1.set :=
  View.cover_of_tiledL (runA m c t h0 h1 h2).2.2.2.2.2.2.2.2.2.2.1 S128x256.size (by sl_kernel_rfl) y

theorem coverA_s1 (c : Dev nD) (t : Fin cfg0.N) (h0 : t.val % 8 = 0) (h1 : t.val % 4 = 0) (h2 : ¬t.val % 8 = 7) (y : S1024x1024.Idx) :
    ∃ pc ∈ (runA m c t h0 h1 h2).2.2.2.2.2.2.2.2.2.2.2.1, y ∈ pc.1.set :=
  View.cover_of_tiledL (runA m c t h0 h1 h2).2.2.2.2.2.2.2.2.2.2.2.1 S1024x1024.size (by sl_kernel_rfl) y

/-- The run at a point that only adds, over the staged blocks and what the point before left. -/
abbrev runB (c : Dev nD) (t : Fin cfg0.N) (h0 : ¬t.val % 8 = 0) (h1 : ¬t.val % 4 = 0) (h2 : ¬t.val % 8 = 7) (p : Left F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (p.2.2.2.1) (p.2.2.2.2.2.1) (p.2.2.2.2.2.2.2.1) (p.2.2.2.2.2.2.2.2.1) (p.2.2.2.2.2.2.2.2.2.1) (p.2.2.2.2.2.2.2.2.2.2.1) (p.2.2.2.2.2.2.2.2.2.2.2)

/-- What a point that only adds leaves. -/
def leftB (c : Dev nD) (t : Fin cfg0.N) (h0 : ¬t.val % 8 = 0) (h1 : ¬t.val % 4 = 0) (h2 : ¬t.val % 8 = 7) (p : Left F) : Left F :=
  (VO0_16.read (Elt F) (VO0_16.writes (Elt F) VO0_16.junk (runB m c t h0 h1 h2 p).1),
   VO0_17.read (Elt F) (VO0_17.writes (Elt F) VO0_17.junk (runB m c t h0 h1 h2 p).2.1),
   VO0_18.read (Elt F) (VO0_18.writes (Elt F) VO0_18.junk (runB m c t h0 h1 h2 p).2.2.1),
   VO0_19.read (Elt F) (VO0_19.writes (Elt F) VO0_19.junk (runB m c t h0 h1 h2 p).2.2.2.1),
   VO0_20.read (Elt F) (VO0_20.writes (Elt F) VO0_20.junk (runB m c t h0 h1 h2 p).2.2.2.2.1),
   VO0_21.read (Elt F) (VO0_21.writes (Elt F) VO0_21.junk (runB m c t h0 h1 h2 p).2.2.2.2.2.1),
   VO0_22.read (Elt F) (VO0_22.writes (Elt F) VO0_22.junk (runB m c t h0 h1 h2 p).2.2.2.2.2.2.1),
   VO0_23.read (Elt F) (VO0_23.writes (Elt F) VO0_23.junk (runB m c t h0 h1 h2 p).2.2.2.2.2.2.2.1),
   VO0_24.read (Elt F) (VO0_24.writes (Elt F) VO0_24.junk (runB m c t h0 h1 h2 p).2.2.2.2.2.2.2.2.1),
   VO0_25.read (Elt F) (VO0_25.writes (Elt F) VO0_25.junk (runB m c t h0 h1 h2 p).2.2.2.2.2.2.2.2.2.1),
   VS0_0.read (Elt F) (VS0_0.writes (Elt F) VS0_0.junk (runB m c t h0 h1 h2 p).2.2.2.2.2.2.2.2.2.2.1),
   VS0_1.read (Elt F) (VS0_1.writes (Elt F) VS0_1.junk (runB m c t h0 h1 h2 p).2.2.2.2.2.2.2.2.2.2.2.1))

/-! Every block that a point that only adds stores into is covered by its stores. -/

theorem coverB_16 (c : Dev nD) (t : Fin cfg0.N) (h0 : ¬t.val % 8 = 0) (h1 : ¬t.val % 4 = 0) (h2 : ¬t.val % 8 = 7) (p : Left F) (y : S512x1024.Idx) :
    ∃ pc ∈ (runB m c t h0 h1 h2 p).1, y ∈ pc.1.set :=
  View.cover_of_tiledL (runB m c t h0 h1 h2 p).1 S256x1024.size (by sl_kernel_rfl) y

theorem coverB_17 (c : Dev nD) (t : Fin cfg0.N) (h0 : ¬t.val % 8 = 0) (h1 : ¬t.val % 4 = 0) (h2 : ¬t.val % 8 = 7) (p : Left F) (y : S512x512.Idx) :
    ∃ pc ∈ (runB m c t h0 h1 h2 p).2.1, y ∈ pc.1.set :=
  View.cover_of_tiledL (runB m c t h0 h1 h2 p).2.1 S256x512.size (by sl_kernel_rfl) y

theorem coverB_18 (c : Dev nD) (t : Fin cfg0.N) (h0 : ¬t.val % 8 = 0) (h1 : ¬t.val % 4 = 0) (h2 : ¬t.val % 8 = 7) (p : Left F) (y : S512x1792.Idx) :
    ∃ pc ∈ (runB m c t h0 h1 h2 p).2.2.1, y ∈ pc.1.set :=
  View.cover_of_tiledL (runB m c t h0 h1 h2 p).2.2.1 S256x1792.size (by sl_kernel_rfl) y

theorem coverB_19 (c : Dev nD) (t : Fin cfg0.N) (h0 : ¬t.val % 8 = 0) (h1 : ¬t.val % 4 = 0) (h2 : ¬t.val % 8 = 7) (p : Left F) (y : S8x128.Idx) :
    ∃ pc ∈ (runB m c t h0 h1 h2 p).2.2.2.1, y ∈ pc.1.set :=
  View.cover_of_tiledL (runB m c t h0 h1 h2 p).2.2.2.1 S8x128.size (by sl_kernel_rfl) y

theorem coverB_21 (c : Dev nD) (t : Fin cfg0.N) (h0 : ¬t.val % 8 = 0) (h1 : ¬t.val % 4 = 0) (h2 : ¬t.val % 8 = 7) (p : Left F) (y : S4x128x128.Idx) :
    ∃ pc ∈ (runB m c t h0 h1 h2 p).2.2.2.2.2.1, y ∈ pc.1.set :=
  View.cover_of_tiledL (runB m c t h0 h1 h2 p).2.2.2.2.2.1 S1x128x128.size (by sl_kernel_rfl) y

theorem coverB_23 (c : Dev nD) (t : Fin cfg0.N) (h0 : ¬t.val % 8 = 0) (h1 : ¬t.val % 4 = 0) (h2 : ¬t.val % 8 = 7) (p : Left F) (y : S1x256.Idx) :
    ∃ pc ∈ (runB m c t h0 h1 h2 p).2.2.2.2.2.2.2.1, y ∈ pc.1.set :=
  View.cover_of_tiledL (runB m c t h0 h1 h2 p).2.2.2.2.2.2.2.1 S1x256.size (by sl_kernel_rfl) y

theorem coverB_24 (c : Dev nD) (t : Fin cfg0.N) (h0 : ¬t.val % 8 = 0) (h1 : ¬t.val % 4 = 0) (h2 : ¬t.val % 8 = 7) (p : Left F) (y : S1x1024.Idx) :
    ∃ pc ∈ (runB m c t h0 h1 h2 p).2.2.2.2.2.2.2.2.1, y ∈ pc.1.set :=
  View.cover_of_tiledL (runB m c t h0 h1 h2 p).2.2.2.2.2.2.2.2.1 S1x1024.size (by sl_kernel_rfl) y

theorem coverB_25 (c : Dev nD) (t : Fin cfg0.N) (h0 : ¬t.val % 8 = 0) (h1 : ¬t.val % 4 = 0) (h2 : ¬t.val % 8 = 7) (p : Left F) (y : S256x512.Idx) :
    ∃ pc ∈ (runB m c t h0 h1 h2 p).2.2.2.2.2.2.2.2.2.1, y ∈ pc.1.set :=
  View.cover_of_tiledL (runB m c t h0 h1 h2 p).2.2.2.2.2.2.2.2.2.1 S256x512.size (by sl_kernel_rfl) y

theorem coverB_s0 (c : Dev nD) (t : Fin cfg0.N) (h0 : ¬t.val % 8 = 0) (h1 : ¬t.val % 4 = 0) (h2 : ¬t.val % 8 = 7) (p : Left F) (y : S128x256.Idx) :
    ∃ pc ∈ (runB m c t h0 h1 h2 p).2.2.2.2.2.2.2.2.2.2.1, y ∈ pc.1.set :=
  View.cover_of_tiledL (runB m c t h0 h1 h2 p).2.2.2.2.2.2.2.2.2.2.1 S128x256.size (by sl_kernel_rfl) y

theorem coverB_s1 (c : Dev nD) (t : Fin cfg0.N) (h0 : ¬t.val % 8 = 0) (h1 : ¬t.val % 4 = 0) (h2 : ¬t.val % 8 = 7) (p : Left F) (y : S1024x1024.Idx) :
    ∃ pc ∈ (runB m c t h0 h1 h2 p).2.2.2.2.2.2.2.2.2.2.2.1, y ∈ pc.1.set :=
  View.cover_of_tiledL (runB m c t h0 h1 h2 p).2.2.2.2.2.2.2.2.2.2.2.1 S1024x1024.size (by sl_kernel_rfl) y

/-- The run at the first point of the second batch entry, over the staged blocks and what the point before left. -/
abbrev runC (c : Dev nD) (t : Fin cfg0.N) (h0 : ¬t.val % 8 = 0) (h1 : t.val % 4 = 0) (h2 : ¬t.val % 8 = 7) (p : Left F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (p.2.2.2.1) (p.2.2.2.2.2.1) (p.2.2.2.2.2.2.2.1) (p.2.2.2.2.2.2.2.2.1) (p.2.2.2.2.2.2.2.2.2.2.1) (p.2.2.2.2.2.2.2.2.2.2.2)

/-- What the first point of the second batch entry leaves. -/
def leftC (c : Dev nD) (t : Fin cfg0.N) (h0 : ¬t.val % 8 = 0) (h1 : t.val % 4 = 0) (h2 : ¬t.val % 8 = 7) (p : Left F) : Left F :=
  (VO0_16.read (Elt F) (VO0_16.writes (Elt F) VO0_16.junk (runC m c t h0 h1 h2 p).1),
   VO0_17.read (Elt F) (VO0_17.writes (Elt F) VO0_17.junk (runC m c t h0 h1 h2 p).2.1),
   VO0_18.read (Elt F) (VO0_18.writes (Elt F) VO0_18.junk (runC m c t h0 h1 h2 p).2.2.1),
   VO0_19.read (Elt F) (VO0_19.writes (Elt F) VO0_19.junk (runC m c t h0 h1 h2 p).2.2.2.1),
   VO0_20.read (Elt F) (VO0_20.writes (Elt F) VO0_20.junk (runC m c t h0 h1 h2 p).2.2.2.2.1),
   VO0_21.read (Elt F) (VO0_21.writes (Elt F) VO0_21.junk (runC m c t h0 h1 h2 p).2.2.2.2.2.1),
   VO0_22.read (Elt F) (VO0_22.writes (Elt F) VO0_22.junk (runC m c t h0 h1 h2 p).2.2.2.2.2.2.1),
   VO0_23.read (Elt F) (VO0_23.writes (Elt F) VO0_23.junk (runC m c t h0 h1 h2 p).2.2.2.2.2.2.2.1),
   VO0_24.read (Elt F) (VO0_24.writes (Elt F) VO0_24.junk (runC m c t h0 h1 h2 p).2.2.2.2.2.2.2.2.1),
   VO0_25.read (Elt F) (VO0_25.writes (Elt F) VO0_25.junk (runC m c t h0 h1 h2 p).2.2.2.2.2.2.2.2.2.1),
   VS0_0.read (Elt F) (VS0_0.writes (Elt F) VS0_0.junk (runC m c t h0 h1 h2 p).2.2.2.2.2.2.2.2.2.2.1),
   VS0_1.read (Elt F) (VS0_1.writes (Elt F) VS0_1.junk (runC m c t h0 h1 h2 p).2.2.2.2.2.2.2.2.2.2.2.1))

/-! Every block that the first point of the second batch entry stores into is covered by its stores. -/

theorem coverC_16 (c : Dev nD) (t : Fin cfg0.N) (h0 : ¬t.val % 8 = 0) (h1 : t.val % 4 = 0) (h2 : ¬t.val % 8 = 7) (p : Left F) (y : S512x1024.Idx) :
    ∃ pc ∈ (runC m c t h0 h1 h2 p).1, y ∈ pc.1.set :=
  View.cover_of_tiledL (runC m c t h0 h1 h2 p).1 S256x1024.size (by sl_kernel_rfl) y

theorem coverC_17 (c : Dev nD) (t : Fin cfg0.N) (h0 : ¬t.val % 8 = 0) (h1 : t.val % 4 = 0) (h2 : ¬t.val % 8 = 7) (p : Left F) (y : S512x512.Idx) :
    ∃ pc ∈ (runC m c t h0 h1 h2 p).2.1, y ∈ pc.1.set :=
  View.cover_of_tiledL (runC m c t h0 h1 h2 p).2.1 S256x512.size (by sl_kernel_rfl) y

theorem coverC_18 (c : Dev nD) (t : Fin cfg0.N) (h0 : ¬t.val % 8 = 0) (h1 : t.val % 4 = 0) (h2 : ¬t.val % 8 = 7) (p : Left F) (y : S512x1792.Idx) :
    ∃ pc ∈ (runC m c t h0 h1 h2 p).2.2.1, y ∈ pc.1.set :=
  View.cover_of_tiledL (runC m c t h0 h1 h2 p).2.2.1 S256x1792.size (by sl_kernel_rfl) y

theorem coverC_19 (c : Dev nD) (t : Fin cfg0.N) (h0 : ¬t.val % 8 = 0) (h1 : t.val % 4 = 0) (h2 : ¬t.val % 8 = 7) (p : Left F) (y : S8x128.Idx) :
    ∃ pc ∈ (runC m c t h0 h1 h2 p).2.2.2.1, y ∈ pc.1.set :=
  View.cover_of_tiledL (runC m c t h0 h1 h2 p).2.2.2.1 S8x128.size (by sl_kernel_rfl) y

theorem coverC_21 (c : Dev nD) (t : Fin cfg0.N) (h0 : ¬t.val % 8 = 0) (h1 : t.val % 4 = 0) (h2 : ¬t.val % 8 = 7) (p : Left F) (y : S4x128x128.Idx) :
    ∃ pc ∈ (runC m c t h0 h1 h2 p).2.2.2.2.2.1, y ∈ pc.1.set :=
  View.cover_of_tiledL (runC m c t h0 h1 h2 p).2.2.2.2.2.1 S1x128x128.size (by sl_kernel_rfl) y

theorem coverC_23 (c : Dev nD) (t : Fin cfg0.N) (h0 : ¬t.val % 8 = 0) (h1 : t.val % 4 = 0) (h2 : ¬t.val % 8 = 7) (p : Left F) (y : S1x256.Idx) :
    ∃ pc ∈ (runC m c t h0 h1 h2 p).2.2.2.2.2.2.2.1, y ∈ pc.1.set :=
  View.cover_of_tiledL (runC m c t h0 h1 h2 p).2.2.2.2.2.2.2.1 S1x256.size (by sl_kernel_rfl) y

theorem coverC_24 (c : Dev nD) (t : Fin cfg0.N) (h0 : ¬t.val % 8 = 0) (h1 : t.val % 4 = 0) (h2 : ¬t.val % 8 = 7) (p : Left F) (y : S1x1024.Idx) :
    ∃ pc ∈ (runC m c t h0 h1 h2 p).2.2.2.2.2.2.2.2.1, y ∈ pc.1.set :=
  View.cover_of_tiledL (runC m c t h0 h1 h2 p).2.2.2.2.2.2.2.2.1 S1x1024.size (by sl_kernel_rfl) y

theorem coverC_25 (c : Dev nD) (t : Fin cfg0.N) (h0 : ¬t.val % 8 = 0) (h1 : t.val % 4 = 0) (h2 : ¬t.val % 8 = 7) (p : Left F) (y : S256x512.Idx) :
    ∃ pc ∈ (runC m c t h0 h1 h2 p).2.2.2.2.2.2.2.2.2.1, y ∈ pc.1.set :=
  View.cover_of_tiledL (runC m c t h0 h1 h2 p).2.2.2.2.2.2.2.2.2.1 S256x512.size (by sl_kernel_rfl) y

theorem coverC_s0 (c : Dev nD) (t : Fin cfg0.N) (h0 : ¬t.val % 8 = 0) (h1 : t.val % 4 = 0) (h2 : ¬t.val % 8 = 7) (p : Left F) (y : S128x256.Idx) :
    ∃ pc ∈ (runC m c t h0 h1 h2 p).2.2.2.2.2.2.2.2.2.2.1, y ∈ pc.1.set :=
  View.cover_of_tiledL (runC m c t h0 h1 h2 p).2.2.2.2.2.2.2.2.2.2.1 S128x256.size (by sl_kernel_rfl) y

theorem coverC_s1 (c : Dev nD) (t : Fin cfg0.N) (h0 : ¬t.val % 8 = 0) (h1 : t.val % 4 = 0) (h2 : ¬t.val % 8 = 7) (p : Left F) (y : S1024x1024.Idx) :
    ∃ pc ∈ (runC m c t h0 h1 h2 p).2.2.2.2.2.2.2.2.2.2.2.1, y ∈ pc.1.set :=
  View.cover_of_tiledL (runC m c t h0 h1 h2 p).2.2.2.2.2.2.2.2.2.2.2.1 S1024x1024.size (by sl_kernel_rfl) y

/-- The run at the last point, over the staged blocks and what the point before left. -/
abbrev runD (c : Dev nD) (t : Fin cfg0.N) (h0 : ¬t.val % 8 = 0) (h1 : ¬t.val % 4 = 0) (h2 : t.val % 8 = 7) (p : Left F) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (p.2.2.2.1) (p.2.2.2.2.2.1) (p.2.2.2.2.2.2.2.1) (p.2.2.2.2.2.2.2.2.1) (p.2.2.2.2.2.2.2.2.2.1) (p.2.2.2.2.2.2.2.2.2.2.1) (p.2.2.2.2.2.2.2.2.2.2.2)

/-- What the last point leaves. -/
def leftD (c : Dev nD) (t : Fin cfg0.N) (h0 : ¬t.val % 8 = 0) (h1 : ¬t.val % 4 = 0) (h2 : t.val % 8 = 7) (p : Left F) : Left F :=
  (VO0_16.read (Elt F) (VO0_16.writes (Elt F) VO0_16.junk (runD m c t h0 h1 h2 p).1),
   VO0_17.read (Elt F) (VO0_17.writes (Elt F) VO0_17.junk (runD m c t h0 h1 h2 p).2.1),
   VO0_18.read (Elt F) (VO0_18.writes (Elt F) VO0_18.junk (runD m c t h0 h1 h2 p).2.2.1),
   VO0_19.read (Elt F) (VO0_19.writes (Elt F) VO0_19.junk (runD m c t h0 h1 h2 p).2.2.2.1),
   VO0_20.read (Elt F) (VO0_20.writes (Elt F) VO0_20.junk (runD m c t h0 h1 h2 p).2.2.2.2.1),
   VO0_21.read (Elt F) (VO0_21.writes (Elt F) VO0_21.junk (runD m c t h0 h1 h2 p).2.2.2.2.2.1),
   VO0_22.read (Elt F) (VO0_22.writes (Elt F) VO0_22.junk (runD m c t h0 h1 h2 p).2.2.2.2.2.2.1),
   VO0_23.read (Elt F) (VO0_23.writes (Elt F) VO0_23.junk (runD m c t h0 h1 h2 p).2.2.2.2.2.2.2.1),
   VO0_24.read (Elt F) (VO0_24.writes (Elt F) VO0_24.junk (runD m c t h0 h1 h2 p).2.2.2.2.2.2.2.2.1),
   VO0_25.read (Elt F) (VO0_25.writes (Elt F) VO0_25.junk (runD m c t h0 h1 h2 p).2.2.2.2.2.2.2.2.2.1),
   VS0_0.read (Elt F) (VS0_0.writes (Elt F) VS0_0.junk (runD m c t h0 h1 h2 p).2.2.2.2.2.2.2.2.2.2.1),
   VS0_1.read (Elt F) (VS0_1.writes (Elt F) VS0_1.junk (runD m c t h0 h1 h2 p).2.2.2.2.2.2.2.2.2.2.2.1))

/-! Every block that the last point stores into is covered by its stores. -/

theorem coverD_16 (c : Dev nD) (t : Fin cfg0.N) (h0 : ¬t.val % 8 = 0) (h1 : ¬t.val % 4 = 0) (h2 : t.val % 8 = 7) (p : Left F) (y : S512x1024.Idx) :
    ∃ pc ∈ (runD m c t h0 h1 h2 p).1, y ∈ pc.1.set :=
  View.cover_of_tiledL (runD m c t h0 h1 h2 p).1 S256x1024.size (by sl_kernel_rfl) y

theorem coverD_17 (c : Dev nD) (t : Fin cfg0.N) (h0 : ¬t.val % 8 = 0) (h1 : ¬t.val % 4 = 0) (h2 : t.val % 8 = 7) (p : Left F) (y : S512x512.Idx) :
    ∃ pc ∈ (runD m c t h0 h1 h2 p).2.1, y ∈ pc.1.set :=
  View.cover_of_tiledL (runD m c t h0 h1 h2 p).2.1 S256x512.size (by sl_kernel_rfl) y

theorem coverD_18 (c : Dev nD) (t : Fin cfg0.N) (h0 : ¬t.val % 8 = 0) (h1 : ¬t.val % 4 = 0) (h2 : t.val % 8 = 7) (p : Left F) (y : S512x1792.Idx) :
    ∃ pc ∈ (runD m c t h0 h1 h2 p).2.2.1, y ∈ pc.1.set :=
  View.cover_of_tiledL (runD m c t h0 h1 h2 p).2.2.1 S256x1792.size (by sl_kernel_rfl) y

theorem coverD_19 (c : Dev nD) (t : Fin cfg0.N) (h0 : ¬t.val % 8 = 0) (h1 : ¬t.val % 4 = 0) (h2 : t.val % 8 = 7) (p : Left F) (y : S8x128.Idx) :
    ∃ pc ∈ (runD m c t h0 h1 h2 p).2.2.2.1, y ∈ pc.1.set :=
  View.cover_of_tiledL (runD m c t h0 h1 h2 p).2.2.2.1 S8x128.size (by sl_kernel_rfl) y

theorem coverD_20 (c : Dev nD) (t : Fin cfg0.N) (h0 : ¬t.val % 8 = 0) (h1 : ¬t.val % 4 = 0) (h2 : t.val % 8 = 7) (p : Left F) (y : S4x256x1024.Idx) :
    ∃ pc ∈ (runD m c t h0 h1 h2 p).2.2.2.2.1, y ∈ pc.1.set :=
  View.cover_of_tiledL (runD m c t h0 h1 h2 p).2.2.2.2.1 S1x128x1024.size (by sl_kernel_rfl) y

theorem coverD_21 (c : Dev nD) (t : Fin cfg0.N) (h0 : ¬t.val % 8 = 0) (h1 : ¬t.val % 4 = 0) (h2 : t.val % 8 = 7) (p : Left F) (y : S4x128x128.Idx) :
    ∃ pc ∈ (runD m c t h0 h1 h2 p).2.2.2.2.2.1, y ∈ pc.1.set :=
  View.cover_of_tiledL (runD m c t h0 h1 h2 p).2.2.2.2.2.1 S1x128x128.size (by sl_kernel_rfl) y

theorem coverD_22 (c : Dev nD) (t : Fin cfg0.N) (h0 : ¬t.val % 8 = 0) (h1 : ¬t.val % 4 = 0) (h2 : t.val % 8 = 7) (p : Left F) (y : S128x128.Idx) :
    ∃ pc ∈ (runD m c t h0 h1 h2 p).2.2.2.2.2.2.1, y ∈ pc.1.set :=
  View.cover_of_tiledL (runD m c t h0 h1 h2 p).2.2.2.2.2.2.1 S128x128.size (by sl_kernel_rfl) y

theorem coverD_23 (c : Dev nD) (t : Fin cfg0.N) (h0 : ¬t.val % 8 = 0) (h1 : ¬t.val % 4 = 0) (h2 : t.val % 8 = 7) (p : Left F) (y : S1x256.Idx) :
    ∃ pc ∈ (runD m c t h0 h1 h2 p).2.2.2.2.2.2.2.1, y ∈ pc.1.set :=
  View.cover_of_tiledL (runD m c t h0 h1 h2 p).2.2.2.2.2.2.2.1 S1x256.size (by sl_kernel_rfl) y

theorem coverD_24 (c : Dev nD) (t : Fin cfg0.N) (h0 : ¬t.val % 8 = 0) (h1 : ¬t.val % 4 = 0) (h2 : t.val % 8 = 7) (p : Left F) (y : S1x1024.Idx) :
    ∃ pc ∈ (runD m c t h0 h1 h2 p).2.2.2.2.2.2.2.2.1, y ∈ pc.1.set :=
  View.cover_of_tiledL (runD m c t h0 h1 h2 p).2.2.2.2.2.2.2.2.1 S1x1024.size (by sl_kernel_rfl) y

theorem coverD_25 (c : Dev nD) (t : Fin cfg0.N) (h0 : ¬t.val % 8 = 0) (h1 : ¬t.val % 4 = 0) (h2 : t.val % 8 = 7) (p : Left F) (y : S256x512.Idx) :
    ∃ pc ∈ (runD m c t h0 h1 h2 p).2.2.2.2.2.2.2.2.2.1, y ∈ pc.1.set :=
  View.cover_of_tiledL (runD m c t h0 h1 h2 p).2.2.2.2.2.2.2.2.2.1 S256x512.size (by sl_kernel_rfl) y

theorem coverD_s0 (c : Dev nD) (t : Fin cfg0.N) (h0 : ¬t.val % 8 = 0) (h1 : ¬t.val % 4 = 0) (h2 : t.val % 8 = 7) (p : Left F) (y : S128x256.Idx) :
    ∃ pc ∈ (runD m c t h0 h1 h2 p).2.2.2.2.2.2.2.2.2.2.1, y ∈ pc.1.set :=
  View.cover_of_tiledL (runD m c t h0 h1 h2 p).2.2.2.2.2.2.2.2.2.2.1 S128x256.size (by sl_kernel_rfl) y

theorem coverD_s1 (c : Dev nD) (t : Fin cfg0.N) (h0 : ¬t.val % 8 = 0) (h1 : ¬t.val % 4 = 0) (h2 : t.val % 8 = 7) (p : Left F) (y : S1024x1024.Idx) :
    ∃ pc ∈ (runD m c t h0 h1 h2 p).2.2.2.2.2.2.2.2.2.2.2.1, y ∈ pc.1.set :=
  View.cover_of_tiledL (runD m c t h0 h1 h2 p).2.2.2.2.2.2.2.2.2.2.2.1 S1024x1024.size (by sl_kernel_rfl) y

end Cert.Kernel6Ideal.Gen

end
-- ==== Proof.MidOuts.lean ====
module

public import proofs.«01_k».proof.Proof.MidCases

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a later point leaves, from what the point before left. -/
def stepAt (c : Dev nD) (n : ℕ) (hn : n + 1 < cfg0.N) (p : Left F) : Left F :=
  have hN : n + 1 < 8 := lt_of_lt_of_eq hn (show cfg0.N = 8 from N_0)
  if h1 : (n + 1) % 4 = 0 then
    leftC m c ⟨n + 1, hn⟩ (by dsimp only; omega) h1 (by dsimp only; omega) p
  else if h2 : (n + 1) % 8 = 7 then
    leftD m c ⟨n + 1, hn⟩ (by dsimp only; omega) h1 h2 p
  else leftB m c ⟨n + 1, hn⟩ (by dsimp only; omega) h1 h2 p

/-- A table filled from its first entry on, each later entry from the one before. -/
def recur {α : Type} {N : ℕ} (a : 0 < N → α) (s : (n : ℕ) → n + 1 < N → α → α) : (n : ℕ) → n < N → α
  | 0, h => a h
  | n + 1, h => s n h (recur a s n (Nat.lt_of_succ_lt h))

theorem recur_zero {α : Type} {N : ℕ} (a : 0 < N → α) (s : (n : ℕ) → n + 1 < N → α → α) (h : 0 < N) : recur a s 0 h = a h := rfl

theorem recur_succ {α : Type} {N : ℕ} (a : 0 < N → α) (s : (n : ℕ) → n + 1 < N → α → α) (n : ℕ) (h : n + 1 < N) :
    recur a s (n + 1) h = s n h (recur a s n (Nat.lt_of_succ_lt h)) := rfl

/-- What the first point leaves, the point not named. -/
def firstAt (c : Dev nD) (hn : 0 < cfg0.N) : Left F := leftA m c ⟨0, hn⟩ (Nat.zero_mod _) (Nat.zero_mod _) (by dsimp only; omega)

/-- What each point leaves. -/
def outsAt0 (c : Dev nD) (n : ℕ) (hn : n < cfg0.N) : Left F := recur (firstAt m c) (stepAt m c) n hn

theorem outsAt0_zero (c : Dev nD) (hn : 0 < cfg0.N) : outsAt0 m c 0 hn = firstAt m c hn :=
  recur_zero (firstAt m c) (stepAt m c) hn

theorem outsAt0_succ (c : Dev nD) (n : ℕ) (hn : n + 1 < cfg0.N) :
    outsAt0 m c (n + 1) hn = stepAt m c n hn (outsAt0 m c n (Nat.lt_of_succ_lt hn)) :=
  recur_succ (firstAt m c) (stepAt m c) n hn

theorem outsAt0_A (c : Dev nD) (t : Fin cfg0.N) (h0 : t.val % 8 = 0) (h1 : t.val % 4 = 0) (h2 : ¬t.val % 8 = 7) :
    outsAt0 m c t.val t.isLt = leftA m c t h0 h1 h2 := by
  have hN : t.val < 8 := lt_of_lt_of_eq t.isLt (show cfg0.N = 8 from N_0)
  obtain ⟨n, hn⟩ := t
  obtain rfl : n = 0 := by dsimp only at h0 hN; omega
  exact outsAt0_zero m c hn

theorem outsAt0_B (c : Dev nD) (t : Fin cfg0.N) (h0 : ¬t.val % 8 = 0) (h1 : ¬t.val % 4 = 0) (h2 : ¬t.val % 8 = 7) :
    outsAt0 m c t.val t.isLt = leftB m c t h0 h1 h2 (outsAt0 m c (t.val - 1) (Nat.lt_of_le_of_lt (Nat.sub_le _ _) t.isLt)) := by
  obtain ⟨n, hn⟩ := t
  cases n with
  | zero => exact absurd (Nat.zero_mod _) h0
  | succ n =>
    dsimp only at h0 h1 h2
    refine (outsAt0_succ m c n hn).trans ?_
    simp only [Nat.add_sub_cancel]
    generalize outsAt0 m c n (Nat.lt_of_succ_lt hn) = p
    unfold stepAt
    rw [dif_neg h1, dif_neg h2]

theorem outsAt0_C (c : Dev nD) (t : Fin cfg0.N) (h0 : ¬t.val % 8 = 0) (h1 : t.val % 4 = 0) (h2 : ¬t.val % 8 = 7) :
    outsAt0 m c t.val t.isLt = leftC m c t h0 h1 h2 (outsAt0 m c (t.val - 1) (Nat.lt_of_le_of_lt (Nat.sub_le _ _) t.isLt)) := by
  obtain ⟨n, hn⟩ := t
  cases n with
  | zero => exact absurd (Nat.zero_mod _) h0
  | succ n =>
    dsimp only at h0 h1 h2
    refine (outsAt0_succ m c n hn).trans ?_
    simp only [Nat.add_sub_cancel]
    generalize outsAt0 m c n (Nat.lt_of_succ_lt hn) = p
    unfold stepAt
    rw [dif_pos h1]

theorem outsAt0_D (c : Dev nD) (t : Fin cfg0.N) (h0 : ¬t.val % 8 = 0) (h1 : ¬t.val % 4 = 0) (h2 : t.val % 8 = 7) :
    outsAt0 m c t.val t.isLt = leftD m c t h0 h1 h2 (outsAt0 m c (t.val - 1) (Nat.lt_of_le_of_lt (Nat.sub_le _ _) t.isLt)) := by
  obtain ⟨n, hn⟩ := t
  cases n with
  | zero => exact absurd (Nat.zero_mod _) h0
  | succ n =>
    dsimp only at h0 h1 h2
    refine (outsAt0_succ m c n hn).trans ?_
    simp only [Nat.add_sub_cancel]
    generalize outsAt0 m c n (Nat.lt_of_succ_lt hn) = p
    unfold stepAt
    rw [dif_neg h1, dif_pos h2]

end Cert.Kernel6Ideal.Gen

end
-- ==== Proof.MidSpec.lean ====
module

public import proofs.«01_k».proof.Proof.NormGrad

@[expose] public section

noncomputable section

/-! The middle of the step, one token row at a time: the gates, the mixing along the sequence, the attention over
the keys and values of the batch entry, the output projection, the final norm and the gradient with respect to the
norm's input. -/

namespace Cert.Mid

open Idealize.ShloMosaic

abbrev word (w : BitVec 32) : EReal := Ideal.ofBits FTy.f32 w

/-- The gate `z · σ(z)`. -/
def silu (z : EReal) : EReal := z * Ideal.logistic z

/-- The smooth gate of a branch, by the logistic function. -/
def gelu (x : EReal) : EReal :=
  x * Ideal.logistic (word 0x3FCC422A#32 * (x + word 0x3D372713#32 * (x * (x * x))))

/-- The reciprocal root mean square of a row of 256. -/
def rs256 (v : Fin 256 → EReal) : EReal :=
  Ideal.rsqrt (Ideal.div (∑ k, v k * v k) (word 0x43800000#32) + word 0x358637BD#32)

/-- One entry of the normed branch of a row. -/
def vn (v g : Fin 256 → EReal) (j : Fin 256) : EReal :=
  gelu (v j) * rs256 (fun k => gelu (v k)) * g j

/-- The group of 64 columns that a column lies in. -/
def grp (j : Fin 256) : Fin 4 := ⟨j.val / 64, by omega⟩

/-- The column of place `e` in group `h`. -/
def lane (h : Fin 4) (e : Fin 64) : Fin 256 := ⟨64 * h.val + e.val, by omega⟩

/-- One entry of the branch mixed along the 128 rows of a chunk. -/
def mixed (w : Fin 4 → Fin 128 → EReal) (b : EReal) (n : Fin 128 → Fin 256 → EReal) (j : Fin 256) : EReal :=
  b + ∑ k, w (grp j) k * n k j

/-- The score of a row against key `m` in head `h`. -/
def score (q : Fin 256 → EReal) (kv : Fin 256 → Fin 512 → EReal) (h : Fin 4) (m : Fin 256) : EReal :=
  (∑ e, q (lane h e) * kv m ((lane h e).castLE (by decide))) * word 0x3E000000#32

/-- The greatest of a row of scores. -/
def top (s : Fin 256 → EReal) : EReal := Finset.fold max (word 0xFF800000#32) s Finset.univ

/-- The weight of key `m`. -/
def weight (s : Fin 256 → EReal) (m : Fin 256) : EReal :=
  Ideal.exp (s m - top s) * Ideal.div 1 (∑ i, Ideal.exp (s i - top s))

/-- One entry of what a row reads from the values. -/
def readout (q : Fin 256 → EReal) (kv : Fin 256 → Fin 512 → EReal) (j : Fin 256) : EReal :=
  ∑ m, weight (score q kv (grp j)) m * kv m (j.natAdd 256)

/-- The three gated branches side by side. -/
def join (a : Fin 512 → EReal) (b c : Fin 256 → EReal) (j : Fin 1024) : EReal :=
  if h : j.val < 512 then a ⟨j.val, h⟩
  else if h2 : j.val - 512 < 256 then b ⟨j.val - 512, h2⟩ else c ⟨j.val - 512 - 256, by omega⟩

/-- The row after the residual step. -/
def resid (x g : Fin 1024 → EReal) (w : Fin 1024 → Fin 1024 → EReal) (j : Fin 1024) : EReal :=
  x j + ∑ k, g k * w k j

/-- The gradient with respect to the final norm's product, from the row, the gain and the target. -/
def upstream (x2 gf tg : Fin 1024 → EReal) (j : Fin 1024) : EReal :=
  (x2 j * Ideal.rsqrt (Norm.ms x2) * gf j - tg j) * word 0x3A800000#32 * gf j

/-- The gradient with respect to the row. -/
def dx2 (x2 gf tg : Fin 1024 → EReal) (j : Fin 1024) : EReal :=
  Ideal.rsqrt (Norm.ms x2) * (upstream x2 gf tg j - x2 j * Ideal.rsqrt (Norm.ms x2)
    * Ideal.div (∑ k, upstream x2 gf tg k * (x2 k * Ideal.rsqrt (Norm.ms x2))) (word 0x44800000#32))

/-- The gradient with respect to the first branch's factor. -/
def da (x2 gf tg : Fin 1024 → EReal) (w : Fin 1024 → Fin 1024 → EReal) (za : Fin 512 → EReal) (j : Fin 512) : EReal :=
  (∑ k, dx2 x2 gf tg k * w (j.castLE (by decide)) k) * silu (za j)

/-! Sums with a mask of zeros and ones. -/

/-- A sum of 128 terms whose upper half is zero. -/
theorem sum_low (f : Fin 128 → EReal) (h : ∀ e : Fin 128, ¬e.val < 64 → f e = 0) :
    ∑ e, f e = ∑ e : Fin 64, f ⟨e.val, by omega⟩ := by
  rw [show (∑ e, f e) = ∑ e : Fin (64 + 64), f e from rfl, Fin.sum_univ_add,
    Finset.sum_eq_zero (s := Finset.univ) (f := fun e : Fin 64 => f (Fin.natAdd 64 e)) (fun e _ => h _ (by simp)), add_zero]
  rfl

/-- A sum of 128 terms whose lower half is zero. -/
theorem sum_high (f : Fin 128 → EReal) (h : ∀ e : Fin 128, e.val < 64 → f e = 0) :
    ∑ e, f e = ∑ e : Fin 64, f ⟨64 + e.val, by omega⟩ := by
  rw [show (∑ e, f e) = ∑ e : Fin (64 + 64), f e from rfl, Fin.sum_univ_add,
    Finset.sum_eq_zero (s := Finset.univ) (f := fun e : Fin 64 => f (Fin.castAdd 64 e)) (fun e _ => h _ (by simp)), zero_add]
  rfl

/-- The word of one eighth. -/
theorem ceighth : word 0x3E000000#32 = ((1 / 8 : ℝ) : EReal) := by
  simp [Ideal.ofBits, Ideal.ieee, -EReal.coe_mul]; norm_num

end Cert.Mid

end
-- ==== Proof.MidBlk.lean ====
module

public import proofs.«01_k».proof.Proof.Gen.Kernel6Ideal.Skeleton
public import proofs.«01_k».proof.Proof.MidSpec
public import Idealize.ShloMosaic.Lib.Pointwise

@[expose] public section

set_option maxRecDepth 16384

noncomputable section

/-! What the kernel computes of 256 rows, as blocks named after the row functions. -/

namespace Cert.Mid

open Cert.Kernel6Ideal Cert.Kernel6Ideal.Gen Idealize.ShloMosaic Idealize.ShloMosaic.TcCoe Idealize.SL.Sem

/-! The masks. -/

/-- One in the lower half of the lanes. -/
theorem low_lane (e : Fin 128) : k0_pay16 (F := Ideal) (ix2 0 e) = if e.val < 64 then 1 else 0 := by
  have h : (BitVec.setWidth 32 (IntOp.cmpi CmpIPredicate.slt (BitVec.ofNat 32 e.val) 64#32)) = if e.val < 64 then 1#32 else 0#32 := by
    revert e; decide +kernel
  pointwise [k0_pay16, k0_pay15]
  rw [h]
  split <;> simp [FloatOps.sitofp]

/-- One in the upper half of the lanes. -/
theorem high_lane (e : Fin 128) : k0_pay17 (F := Ideal) (ix2 0 e) = if e.val < 64 then 0 else 1 := by
  have h : (BitVec.setWidth 32 (IntOp.xori (IntOp.cmpi CmpIPredicate.slt (BitVec.ofNat 32 e.val) 64#32) 1#1)) = if e.val < 64 then 0#32 else 1#32 := by
    revert e; decide +kernel
  pointwise [k0_pay17, k0_pay15]
  rw [h]
  split <;> simp [FloatOps.sitofp]

/-- The group of a lane. -/
theorem group (j : Fin 256) : k0_pay18 (ix2 0 j) = BitVec.ofNat 32 (j.val / 64) := by
  pointwise [k0_pay18]
  revert j; decide +kernel

/-- A comparison of groups as a factor. -/
theorem group_eq (j : Fin 256) (g : Fin 4) :
    (FloatOps.sitofp FTy.f32 (BitVec.setWidth 32 (IntOp.cmpi CmpIPredicate.eq (BitVec.ofNat 32 (j.val / 64)) (BitVec.ofNat 32 g.val))) : Ideal FTy.f32)
      = if grp j = g then 1 else 0 := by
  have h : (BitVec.setWidth 32 (IntOp.cmpi CmpIPredicate.eq (BitVec.ofNat 32 (j.val / 64)) (BitVec.ofNat 32 g.val))) = if grp j = g then 1#32 else 0#32 := by
    revert j g; decide +kernel
  rw [h]
  split <;> simp [FloatOps.sitofp]

theorem group0 (j : Fin 256) : k0_pay19 (F := Ideal) (ix2 0 j) = if grp j = 0 then 1 else 0 := by
  pointwise [k0_pay19]
  rw [group]; exact group_eq j 0

theorem group1 (j : Fin 256) : k0_pay20 (F := Ideal) k0_pay18 1#32 (ix2 0 j) = if grp j = 1 then 1 else 0 := by
  pointwise [k0_pay20]
  rw [group]; exact group_eq j 1

theorem group2 (j : Fin 256) : k0_pay21 (F := Ideal) k0_pay18 (ix2 0 j) = if grp j = 2 then 1 else 0 := by
  pointwise [k0_pay21]
  rw [group]; exact group_eq j 2

theorem group3 (j : Fin 256) : k0_pay22 (F := Ideal) k0_pay18 (ix2 0 j) = if grp j = 3 then 1 else 0 := by
  pointwise [k0_pay22]
  rw [group]; exact group_eq j 3

/-! The gates. -/

def siluB {s : Shape} (z : FVec Ideal s .f32) : FVec Ideal s .f32 := fun y => silu (z y)
def geluB {s : Shape} (z : FVec Ideal s .f32) : FVec Ideal s .f32 := fun y => gelu (z y)
def mulB {s : Shape} (a b : FVec Ideal s .f32) : FVec Ideal s .f32 := fun y => (a y : EReal) * b y

section
variable (z a : FVec Ideal S256x512 .f32) (u v b : FVec Ideal S256x256 .f32)

theorem pay32 : k0_pay32 (F := Ideal) z = siluB z := by
  funext y; idx_vars y; pointwise [k0_pay32, k0_pay31]; rfl
theorem pay35 : k0_pay35 (F := Ideal) z = siluB z := by
  funext y; idx_vars y; pointwise [k0_pay35, k0_pay34]; rfl
theorem pay37 : k0_pay37 (F := Ideal) a z = mulB (siluB z) a := by
  rw [← pay32]; rfl
theorem pay38 : k0_pay38 (F := Ideal) a z = mulB (siluB z) a := by
  rw [← pay35]; rfl
theorem pay41 : k0_pay41 (F := Ideal) u = geluB u := by
  funext y; idx_vars y; pointwise [k0_pay41, k0_pay40, k0_pay39]; rfl
theorem pay45 : k0_pay45 (F := Ideal) u = geluB u := by
  funext y; idx_vars y; pointwise [k0_pay45, k0_pay44, k0_pay43]; rfl
theorem pay51 : k0_pay51 (F := Ideal) u = geluB u := by
  funext y; idx_vars y; pointwise [k0_pay51, k0_pay50, k0_pay49]; rfl
theorem pay55 : k0_pay55 (F := Ideal) u = geluB u := by
  funext y; idx_vars y; pointwise [k0_pay55, k0_pay54, k0_pay53]; rfl
theorem pay87 : k0_pay87 (F := Ideal) u = siluB u := by
  funext y; idx_vars y; pointwise [k0_pay87, k0_pay86]; rfl
theorem pay90 : k0_pay90 (F := Ideal) u = siluB u := by
  funext y; idx_vars y; pointwise [k0_pay90, k0_pay89]; rfl
theorem pay93 : k0_pay93 (F := Ideal) u v = mulB v u := rfl
theorem pay94 : k0_pay94 (F := Ideal) u v = mulB v u := rfl
end

/-! The norm of the mixed branch. -/

def vnB (v : FVec Ideal S256x256 .f32) (g : FVec Ideal S1x256 .f32) : FVec Ideal S256x256 .bf16 :=
  fun y => vn (fun k => v (ix2 (y 0) k)) (fun k => g (ix2 0 k)) (y 1)

section
variable (v : FVec Ideal S256x256 .f32) (g : FVec Ideal S1x256 .f32)
theorem pay64 : k0_pay64 (F := Ideal) (geluB v) g = vnB v g := by
  funext y; idx_vars y; pointwise [k0_pay64, k0_pay61, k0_pay60]; rfl
theorem pay65 : k0_pay65 (F := Ideal) (geluB v) g = vnB v g := by
  funext y; idx_vars y; pointwise [k0_pay65, k0_pay63, k0_pay62]; rfl
end

/-! The mixing. -/

/-- The mixing matrix of a group. -/
def wsel (w0 w1 w2 w3 : FVec Ideal S1x128x128 .f32) (g : Fin 4) (i k : Fin 128) : EReal :=
  (![w0, w1, w2, w3] g : FVec Ideal S1x128x128 .f32) (ix3 0 i k)

/-- Row `k` of the chunk that row `r` lies in. -/
def chunkRow (r : Fin 256) (k : Fin 128) : Fin 256 := ⟨128 * (r.val / 128) + k.val, by omega⟩

/-- A row's place in its chunk. -/
def place (r : Fin 256) : Fin 128 := ⟨r.val % 128, by omega⟩

def mixB (w0 w1 w2 w3 : FVec Ideal S1x128x128 .f32) (bt : FVec Ideal S128x256 .f32) (n : FVec Ideal S256x256 .bf16) :
    FVec Ideal S256x256 .f32 :=
  fun y => mixed (fun g k => wsel w0 w1 w2 w3 g (place (y 0)) k) (bt (ix2 (place (y 0)) (y 1)))
    (fun k j => n (ix2 (chunkRow (y 0) k) j)) (y 1)

/-- A sum over the 512 columns of the four mixing matrices side by side, when the column's group is the only one that counts. -/
theorem sum_groups (f : Fin 512 → EReal) (g : Fin 4) (h : ∀ (x : Fin 512), x.val / 128 ≠ g.val → f x = 0) :
    ∑ x, f x = ∑ k : Fin 128, f ⟨128 * g.val + k.val, by omega⟩ := by
  rw [← (finProdFinEquiv (m := 4) (n := 128)).sum_comp f, Fintype.sum_prod_type, Finset.sum_eq_single g]
  · refine Finset.sum_congr rfl fun k _ => congrArg f (Fin.ext ?_)
    exact Nat.add_comm k.val (128 * g.val)
  · intro b _ hb
    refine Finset.sum_eq_zero fun k _ => h _ ?_
    show (k.val + 128 * b.val) / 128 ≠ g.val
    have := Fin.val_ne_of_ne hb
    omega
  · intro h; exact absurd (Finset.mem_univ g) h

/-- The four mixing matrices side by side, read at a group and a place. -/
theorem wcat (w0 w1 w2 w3 : FVec Ideal S1x128x128 .f32) (i : Fin 128) (g : Fin 4) (k : Fin 128) :
    k0_pay69 (F := Ideal) (k0_pay66 w0) (k0_pay67 w1) (k0_pay68 w2) w3 (ix2 i ⟨128 * g.val + k.val, by omega⟩) = wsel w0 w1 w2 w3 g i k := by
  pointwise [k0_pay69, k0_pay66, k0_pay67, k0_pay68]
  unfold wsel
  have hk := k.2
  fin_cases g
  · rw [dif_pos (by simp)]
    exact congrArg (fun z => w0 (ix3 0 i z)) (Fin.ext (by simp))
  · rw [dif_neg (by simp), dif_pos (by simp)]
    exact congrArg (fun z => w1 (ix3 0 i z)) (Fin.ext (by simp))
  · rw [dif_neg (by simp; omega), dif_neg (by simp; omega), dif_pos (by simp; omega)]
    exact congrArg (fun z => w2 (ix3 0 i z)) (Fin.ext (by simp; omega))
  · rw [dif_neg (by simp; omega), dif_neg (by simp; omega), dif_neg (by simp; omega)]
    exact congrArg (fun z => w3 (ix3 0 i z)) (Fin.ext (by simp; omega))

/-- The product with four copies of a chunk, of which the column's group keeps one. -/
theorem sum_masked (a : Fin 512 → EReal) (n : ℕ → EReal) (m : Fin 256) :
    (∑ x : Fin 512, a x * if x.val < 128 then n x.val * k0_pay19 (F := Ideal) (ix2 0 m)
        else if x.val - 128 < 128 then n (x.val - 128) * k0_pay20 (F := Ideal) k0_pay18 (1#32) (ix2 0 m)
        else if x.val - 128 - 128 < 128 then n (x.val - 128 - 128) * k0_pay21 (F := Ideal) k0_pay18 (ix2 0 m)
        else n (x.val - 128 - 128 - 128) * k0_pay22 (F := Ideal) k0_pay18 (ix2 0 m))
      = ∑ k : Fin 128, a ⟨128 * (grp m).val + k.val, by omega⟩ * n k.val := by
  rw [group0, group1, group2, group3, sum_groups _ (grp m)]
  · refine Finset.sum_congr rfl fun k _ => congrArg _ ?_
    have hk := k.2
    generalize grp m = g
    fin_cases g
    · rw [if_pos (by simp)]; simp
    · rw [if_neg (by simp), if_pos (by simp)]; simp
    · rw [if_neg (by simp; omega), if_neg (by simp; omega), if_pos (by simp; omega)]; simp
      exact congrArg n (by omega)
    · rw [if_neg (by simp; omega), if_neg (by simp; omega), if_neg (by simp; omega)]; simp
      exact congrArg n (by omega)
  · intro x hx
    generalize grp m = g at hx
    have hx' := x.2
    have key : ∀ h : Fin 4, h.val = x.val / 128 → g ≠ h := fun h e e' => hx (by rw [e', e])
    split_ifs with h1 h2 h3 h4 h5 h6 h7 <;> first
      | rw [mul_zero, mul_zero]
      | exact absurd ‹g = _› (key _ (by simp; omega))

section
variable (w0 w1 w2 w3 : FVec Ideal S1x128x128 .f32) (bt : FVec Ideal S128x256 .f32) (n : FVec Ideal S256x256 .bf16) (u : FVec Ideal S256x256 .f32)

/-- A chunk of the block, read at a row's number. -/
def rowAt (o : ℕ) (m : Fin 256) (k : ℕ) : EReal := if h : o + k < 256 then n (ix2 ⟨o + k, h⟩ m) else 0

theorem pay83 (r m : Fin 256) : k0_pay83 (F := Ideal) n (k0_pay69 (k0_pay66 w0) (k0_pay67 w1) (k0_pay68 w2) w3)
    (k0_pay71 k0_pay19) (k0_pay72 (k0_pay20 k0_pay18 1#32)) (k0_pay73 (k0_pay21 k0_pay18)) (k0_pay74 (k0_pay22 k0_pay18)) (k0_pay75 bt) (ix2 r m)
    = mixB w0 w1 w2 w3 bt n (ix2 r m) := by
  pointwise [k0_pay83, k0_pay75, k0_pay71, k0_pay72, k0_pay73, k0_pay74]
  have e0 : ∀ (k : ℕ) (h : k < 256), n (ix2 ⟨k, h⟩ m) = rowAt n 0 m k := fun k h => by
    unfold rowAt; rw [dif_pos (by omega)]; exact congrArg (fun z => n (ix2 z m)) (Fin.ext (by simp))
  have e1 : ∀ (k : ℕ) (h : 128 + k < 256), n (ix2 ⟨128 + k, h⟩ m) = rowAt n 128 m k := fun k h => by
    unfold rowAt; rw [dif_pos h]
  split
  case isTrue h =>
    simp only [e0, dite_eq_ite, sum_masked, wcat]
    refine congrArg₂ (· + ·) (congrArg (fun z => bt (ix2 z m)) (Fin.ext ?_)) (Finset.sum_congr rfl fun k _ => ?_)
    · show r.val = r.val % 128
      omega
    · rw [← e0 k.val (by omega)]
      refine congrArg₂ (· * ·) (congrArg (fun z => wsel w0 w1 w2 w3 (grp m) z k) (Fin.ext ?_)) (congrArg (fun z => n (ix2 z m)) (Fin.ext ?_))
      · show r.val = r.val % 128
        omega
      · show k.val = 128 * (r.val / 128) + k.val
        omega
  case isFalse h =>
    simp only [e1, dite_eq_ite, sum_masked, wcat]
    refine congrArg₂ (· + ·) (congrArg (fun z => bt (ix2 z m)) (Fin.ext ?_)) (Finset.sum_congr rfl fun k _ => ?_)
    · show r.val - 128 = r.val % 128
      omega
    · rw [← e1 k.val (by omega)]
      refine congrArg₂ (· * ·) (congrArg (fun z => wsel w0 w1 w2 w3 (grp m) z k) (Fin.ext ?_)) (congrArg (fun z => n (ix2 z m)) (Fin.ext ?_))
      · show r.val - 128 = r.val % 128
        omega
      · show 128 + k.val = 128 * (r.val / 128) + k.val
        omega

theorem pay85 : k0_pay85 (F := Ideal) u n (k0_pay69 (k0_pay66 w0) (k0_pay67 w1) (k0_pay68 w2) w3)
    (k0_pay71 k0_pay19) (k0_pay72 (k0_pay20 k0_pay18 1#32)) (k0_pay73 (k0_pay21 k0_pay18)) (k0_pay74 (k0_pay22 k0_pay18)) (k0_pay75 bt)
    = mulB u (mixB w0 w1 w2 w3 bt n) := by
  funext y; idx_vars y
  exact congrArg (fun z : EReal => (u (ix2 y0 y1) : EReal) * z) (pay83 w0 w1 w2 w3 bt n y0 y1)

/-- The first half's text of the mixing is the second half's. -/
theorem pay82 : k0_pay82 (F := Ideal) (k0_pay69 (k0_pay66 w0) (k0_pay67 w1) (k0_pay68 w2) w3) (k0_pay75 bt)
    (k0_pay76 k0_pay19 (k0_pay20 k0_pay18 1#32) (k0_pay21 k0_pay18) (k0_pay22 k0_pay18) n (k0_pay66 w0) (k0_pay67 w1) (k0_pay68 w2) w3 bt)
    (k0_pay77 n) (k0_pay78 k0_pay19 n) (k0_pay79 (k0_pay20 k0_pay18 1#32) n) (k0_pay80 (k0_pay21 k0_pay18) n) (k0_pay81 (k0_pay22 k0_pay18))
    = k0_pay83 (F := Ideal) n (k0_pay69 (k0_pay66 w0) (k0_pay67 w1) (k0_pay68 w2) w3)
    (k0_pay71 k0_pay19) (k0_pay72 (k0_pay20 k0_pay18 1#32)) (k0_pay73 (k0_pay21 k0_pay18)) (k0_pay74 (k0_pay22 k0_pay18)) (k0_pay75 bt) := rfl

theorem pay84 : k0_pay84 (F := Ideal) u (k0_pay69 (k0_pay66 w0) (k0_pay67 w1) (k0_pay68 w2) w3) (k0_pay75 bt)
    (k0_pay76 k0_pay19 (k0_pay20 k0_pay18 1#32) (k0_pay21 k0_pay18) (k0_pay22 k0_pay18) n (k0_pay66 w0) (k0_pay67 w1) (k0_pay68 w2) w3 bt)
    (k0_pay77 n) (k0_pay78 k0_pay19 n) (k0_pay79 (k0_pay20 k0_pay18 1#32) n) (k0_pay80 (k0_pay21 k0_pay18) n) (k0_pay81 (k0_pay22 k0_pay18))
    = mulB u (mixB w0 w1 w2 w3 bt n) := by
  rw [← pay85]
  unfold k0_pay84 k0_pay85
  rw [pay82]
end

/-! The attention. -/

def scoreB (q : FVec Ideal S256x256 .f32) (kv : FVec Ideal S256x512 .f32) (h : Fin 4) : FVec Ideal S256x256 .f32 :=
  fun y => score (fun j => q (ix2 (y 0) j)) (fun m j => kv (ix2 m j)) h (y 1)

def weightB (q : FVec Ideal S256x256 .f32) (kv : FVec Ideal S256x512 .f32) (h : Fin 4) : FVec Ideal S256x256 .f32 :=
  fun y => weight (score (fun j => q (ix2 (y 0) j)) (fun m j => kv (ix2 m j)) h) (y 1)

def readB (q : FVec Ideal S256x256 .f32) (kv : FVec Ideal S256x512 .f32) : FVec Ideal S256x256 .f32 :=
  fun y => readout (fun j => q (ix2 (y 0) j)) (fun m j => kv (ix2 m j)) (y 1)

/-- A scaled product over 128 lanes of which the mask keeps the lower half. -/
theorem score_low (q k : Fin 128 → EReal) :
    (∑ x, q x * (k0_pay16 (F := Ideal) (ix2 0 x) * word 0x3E000000#32) * k x)
      = (∑ e : Fin 64, q ⟨e.val, by omega⟩ * k ⟨e.val, by omega⟩) * word 0x3E000000#32 := by
  rw [sum_low, ceighth, ← Norm.sum_mul_coe _ _ _ (by norm_num)]
  · refine Finset.sum_congr rfl fun e _ => ?_
    rw [low_lane, if_pos e.2, one_mul, mul_right_comm]
  · intro e he
    rw [low_lane, if_neg he, zero_mul, mul_zero, zero_mul]

/-- A scaled product over 128 lanes of which the mask keeps the upper half. -/
theorem score_high (q k : Fin 128 → EReal) :
    (∑ x, q x * (k0_pay17 (F := Ideal) (ix2 0 x) * word 0x3E000000#32) * k x)
      = (∑ e : Fin 64, q ⟨64 + e.val, by omega⟩ * k ⟨64 + e.val, by omega⟩) * word 0x3E000000#32 := by
  rw [sum_high, ceighth, ← Norm.sum_mul_coe _ _ _ (by norm_num)]
  · refine Finset.sum_congr rfl fun e _ => ?_
    rw [high_lane, if_neg (by simp), one_mul, mul_right_comm]
  · intro e he
    rw [high_lane, if_pos he, zero_mul, mul_zero, zero_mul]

/-- Scores whose places agree with the head's are the head's scores. -/
theorem score_of (q : FVec Ideal S256x256 .f32) (kv : FVec Ideal S256x512 .f32) (h : Fin 4) (r m : Fin 256)
    (a : Fin 64 → Fin 256) (b : Fin 64 → Fin 512) (ha : ∀ e, (a e).val = 64 * h.val + e.val) (hb : ∀ e, (b e).val = 64 * h.val + e.val) :
    (∑ e, q (ix2 r (a e)) * kv (ix2 m (b e)) : EReal) * word 0x3E000000#32 = scoreB q kv h (ix2 r m) := by
  refine congrArg (fun z : EReal => z * word 0x3E000000#32) (Finset.sum_congr rfl fun e _ => ?_)
  exact congrArg₂ (fun x y : EReal => x * y) (congrArg (fun z => q (ix2 r z)) (Fin.ext (ha e))) (congrArg (fun z => kv (ix2 m z)) (Fin.ext (hb e)))

section
variable (q : FVec Ideal S256x256 .f32) (kv : FVec Ideal S256x512 .f32)

/-! The scores of the second half's heads. -/

theorem pay109 : k0_pay109 (F := Ideal) (k0_pay96 kv) (k0_pay105 k0_pay17 q) = scoreB q kv 1 := by
  funext y; idx_vars y; pointwise [k0_pay109, k0_pay96, k0_pay95, k0_pay105]
  exact (score_high _ _).trans (score_of q kv 1 y0 y1 _ _ (fun e => rfl) fun e => rfl)
theorem pay110 : k0_pay110 (F := Ideal) k0_pay16 (k0_pay97 kv) (k0_pay106 q) = scoreB q kv 2 := by
  funext y; idx_vars y; pointwise [k0_pay110, k0_pay97, k0_pay95, k0_pay107, k0_pay106]
  exact (score_low _ _).trans (score_of q kv 2 y0 y1 _ _ (fun e => rfl) fun e => rfl)
theorem pay111 : k0_pay111 (F := Ideal) k0_pay17 (k0_pay97 kv) q = scoreB q kv 3 := by
  funext y; idx_vars y; pointwise [k0_pay111, k0_pay97, k0_pay95, k0_pay108]
  exact (score_high _ _).trans (score_of q kv 3 y0 y1 _ _ (fun e => by show 128 + (64 + e.val) = 64 * 3 + e.val; omega) fun e => by show 128 + (64 + e.val) = 64 * 3 + e.val; omega)

/-- The score of the first head, as the first product of either half computes it. -/
theorem head0 (r m : Fin 256) :
    (∑ x : Fin 128, q (ix2 r ⟨x.val, by omega⟩) * (k0_pay16 (F := Ideal) (ix2 0 x) * word 0x3E000000#32) * kv (ix2 m ⟨x.val, by omega⟩) : EReal)
      = scoreB q kv 0 (ix2 r m) :=
  (score_low _ _).trans (score_of q kv 0 r m _ _ (fun e => by show e.val = 64 * 0 + e.val; omega) fun e => by show e.val = 64 * 0 + e.val; omega)

/-- The weights from the scores. -/
theorem pay120 (h : Fin 4) : k0_pay120 (F := Ideal) (k0_pay117 (scoreB q kv h)) = weightB q kv h := by
  funext y; idx_vars y; pointwise [k0_pay120, k0_pay117]; rfl

/-! The weights of the first half's heads. -/

theorem pay112 : k0_pay120 (F := Ideal) (k0_pay112 (k0_pay96 kv) (k0_pay100 k0_pay16 q)) = weightB q kv 0 := by
  rw [← pay120]
  refine congrArg k0_pay120 (show k0_pay117 (k0_pay109 (F := Ideal) (k0_pay96 kv) (k0_pay100 k0_pay16 q)) = _ from congrArg k0_pay117 ?_)
  funext y; idx_vars y; pointwise [k0_pay109, k0_pay96, k0_pay95, k0_pay100]
  exact head0 q kv y0 y1
theorem pay113 : k0_pay121 (F := Ideal) (k0_pay113 (k0_pay96 kv) (k0_pay101 k0_pay17 q)) = weightB q kv 1 := by
  rw [← pay120, ← pay109]; rfl
theorem pay114 : k0_pay122 (F := Ideal) (k0_pay114 (k0_pay97 kv) (k0_pay102 k0_pay16 q)) = weightB q kv 2 := by
  rw [← pay120, ← pay110]; rfl
theorem pay115 : k0_pay123 (F := Ideal) (k0_pay115 (k0_pay97 kv) (k0_pay103 k0_pay17 q)) = weightB q kv 3 := by
  rw [← pay120, ← pay111]; rfl

/-! What the rows read from the values. -/

theorem pay137 : k0_pay137 (F := Ideal) k0_pay16 k0_pay17 (k0_pay98 kv) (k0_pay99 kv) (weightB q kv 0) (weightB q kv 1) (weightB q kv 2) (weightB q kv 3) = readB q kv := by
  funext y; idx_vars y; pointwise [k0_pay137, k0_pay129, k0_pay130, k0_pay131, k0_pay132, k0_pay98, k0_pay99, k0_pay95]
  have key : ∀ (h : Fin 4) (c : Fin 512), h.val = y1.val / 64 → c.val = 256 + y1.val →
      (∑ x, weightB q kv h (ix2 y0 x) * kv (ix2 x c) : EReal) = readB q kv (ix2 y0 y1) := fun h c hh hc => by
    obtain rfl : h = grp y1 := Fin.ext hh
    obtain rfl : c = y1.natAdd 256 := Fin.ext hc
    rfl
  split
  case isTrue h =>
    rw [low_lane, high_lane]
    split
    case isTrue h' =>
      replace h' : y1.val < 64 := h'
      rw [mul_one, mul_zero, add_zero]
      exact key 0 _ (by show 0 = _; omega) rfl
    case isFalse h' =>
      replace h' : ¬y1.val < 64 := h'
      rw [mul_one, mul_zero, zero_add]
      exact key 1 _ (by show 1 = _; omega) rfl
  case isFalse h =>
    rw [low_lane, high_lane]
    split
    case isTrue h' =>
      replace h' : y1.val - 128 < 64 := h'
      rw [mul_one, mul_zero, add_zero]
      exact key 2 _ (by show 2 = _; omega) (by show 384 + (y1.val - 128) = _; omega)
    case isFalse h' =>
      replace h' : ¬y1.val - 128 < 64 := h'
      rw [mul_one, mul_zero, zero_add]
      exact key 3 _ (by show 3 = _; omega) (by show 384 + (y1.val - 128) = _; omega)
end

/-! The three branches side by side. -/

def joinB (a : FVec Ideal S256x512 .f32) (b c : FVec Ideal S256x256 .f32) : FVec Ideal S256x1024 .bf16 :=
  fun y => join (fun j => a (ix2 (y 0) j)) (fun j => b (ix2 (y 0) j)) (fun j => c (ix2 (y 0) j)) (y 1)

section
variable (a : FVec Ideal S256x512 .f32) (b c z q : FVec Ideal S256x256 .f32) (kv : FVec Ideal S256x512 .f32)

theorem pay147 : k0_pay147 (F := Ideal) a b c z = joinB a b (mulB (siluB z) c) := by
  funext y; idx_vars y; pointwise [k0_pay147, k0_pay142, k0_pay141]; rfl

theorem pay148 : k0_pay148 (F := Ideal) k0_pay16 k0_pay17 a b (k0_pay98 kv) (k0_pay99 kv)
    (k0_pay134 (k0_pay117 (scoreB q kv 1)) (k0_pay125 (scoreB q kv 1)))
    (k0_pay135 (k0_pay118 (scoreB q kv 2))) (k0_pay136 (k0_pay119 (scoreB q kv 3)))
    (k0_pay138 k0_pay16 (k0_pay98 kv) (k0_pay124 (k0_pay116 (k0_pay96 kv) (k0_pay104 k0_pay16 q)))) k0_pay139 z
      = joinB a b (mulB (siluB z) (readB q kv)) := by
  rw [← pay147, ← pay137, ← pay112, ← pay120, ← pay120, ← pay120]
  rfl
end

/-! The gradients from the joined branches. -/

def residB (g : FVec Ideal S256x1024 .bf16) (w : FVec Ideal S1024x1024 .bf16) (x : FVec Ideal S256x1024 .f32) (r : Fin 256) : Fin 1024 → EReal :=
  resid (fun j => x (ix2 r j)) (fun j => g (ix2 r j)) (fun k j => w (ix2 k j))

def dx2B (g : FVec Ideal S256x1024 .bf16) (w : FVec Ideal S1024x1024 .bf16) (x tg : FVec Ideal S256x1024 .f32) (gf : FVec Ideal S1x1024 .f32) : FVec Ideal S256x1024 .f32 :=
  fun y => dx2 (residB g w x (y 0)) (fun j => gf (ix2 0 j)) (fun j => tg (ix2 (y 0) j)) (y 1)

def daB (g : FVec Ideal S256x1024 .bf16) (w : FVec Ideal S1024x1024 .bf16) (x tg : FVec Ideal S256x1024 .f32) (gf : FVec Ideal S1x1024 .f32) (za : FVec Ideal S256x512 .f32) : FVec Ideal S256x512 .f32 :=
  fun y => da (residB g w x (y 0)) (fun j => gf (ix2 0 j)) (fun j => tg (ix2 (y 0) j)) (fun k j => w (ix2 k j)) (fun j => za (ix2 (y 0) j)) (y 1)

section
variable (g : FVec Ideal S256x1024 .bf16) (w : FVec Ideal S1024x1024 .bf16) (x tg : FVec Ideal S256x1024 .f32) (gf : FVec Ideal S1x1024 .f32) (za : FVec Ideal S256x512 .f32)

theorem pay169 : k0_pay169 (F := Ideal) (k0_pay153 g (k0_pay149 w) (k0_pay150 x)) (k0_pay166 (k0_pay157 gf) (k0_pay158 g (k0_pay149 w) (k0_pay150 x) gf tg))
    (k0_pay168 (k0_pay154 g (k0_pay149 w) (k0_pay150 x)) (k0_pay157 gf) (k0_pay158 g (k0_pay149 w) (k0_pay150 x) gf tg)) = dx2B g w x tg gf := by
  funext y; idx_vars y
  pointwise [k0_pay169, k0_pay168, k0_pay166, k0_pay163, k0_pay158, k0_pay157, k0_pay154, k0_pay153, k0_pay151, k0_pay150, k0_pay149]
  rfl

theorem pay170 : k0_pay170 (F := Ideal) (k0_pay155 g (k0_pay149 w) x) (k0_pay156 g (k0_pay149 w) x) (k0_pay167 (k0_pay157 gf) (k0_pay159 g (k0_pay149 w) x gf tg)) = dx2B g w x tg gf := by
  funext y; idx_vars y
  pointwise [k0_pay170, k0_pay167, k0_pay164, k0_pay159, k0_pay157, k0_pay156, k0_pay155, k0_pay152, k0_pay149]
  rfl

theorem pay182 : k0_pay182 (F := Ideal) (siluB za) (k0_pay149 w) (k0_pay153 g (k0_pay149 w) (k0_pay150 x)) (k0_pay166 (k0_pay157 gf) (k0_pay158 g (k0_pay149 w) (k0_pay150 x) gf tg))
    (k0_pay168 (k0_pay154 g (k0_pay149 w) (k0_pay150 x)) (k0_pay157 gf) (k0_pay158 g (k0_pay149 w) (k0_pay150 x) gf tg)) = daB g w x tg gf za := by
  funext y; idx_vars y
  unfold k0_pay182 k0_pay176 k0_pay173 k0_pay171
  rw [pay169]
  pointwise [k0_pay149]
  rfl

theorem pay183 : k0_pay183 (F := Ideal) (siluB za) (k0_pay149 w) (k0_pay155 g (k0_pay149 w) x) (k0_pay156 g (k0_pay149 w) x) (k0_pay167 (k0_pay157 gf) (k0_pay159 g (k0_pay149 w) x gf tg)) = daB g w x tg gf za := by
  funext y; idx_vars y
  unfold k0_pay183 k0_pay177 k0_pay174 k0_pay172
  rw [pay170]
  pointwise [k0_pay149]
  rfl
end

end Cert.Mid
end
-- ==== Proof.MidCase.lean ====
module

public import proofs.«01_k».proof.Proof.MidOuts
public import proofs.«01_k».proof.Proof.MidBlk
public import Idealize.ShloMosaic.Lib.Pointwise
public import Idealize.ShloMosaic.Lib.Pipeline.ValueKit
public import Idealize.ShloMosaic.Lib.Pipeline.ReadBack

@[expose] public section

set_option maxRecDepth 16384

noncomputable section

/-! What a grid point leaves in the blocks of the two gradients, row by row. -/

namespace Cert.Mid

open Cert.Kernel6Ideal Cert.Kernel6Ideal.Gen Idealize.ShloMosaic Idealize.ShloMosaic.TcCoe Idealize.SL.Sem
open Idealize.ShloMosaic.Pipeline (Dat)

/-- The joined branches of a row of the point's blocks. -/
def gateRow (A2 Z3 : Vec Ideal S512x512 .f32) (A4 A5 A6 A7 A8 : Vec Ideal S512x256 .f32) (A9 : Vec Ideal S256x512 .f32)
    (A10 : Vec Ideal S4x128x128 .f32) (A12 : Vec Ideal S128x256 .f32) (A13 : Vec Ideal S1x256 .f32) (r : Fin 512) : Fin 1024 → EReal :=
  join (fun j => silu (Z3 (ix2 r j)) * A2 (ix2 r j))
    (fun j => silu (A6 (ix2 r j)) * (gelu (A4 (ix2 r j)) * mixed (fun g k => A10 (ix3 g ⟨r.val % 128, by omega⟩ k)) (A12 (ix2 ⟨r.val % 128, by omega⟩ j))
      (fun k => vn (fun j => A5 (ix2 ⟨128 * (r.val / 128) + k.val, by omega⟩ j)) (fun j => A13 (ix2 0 j))) j))
    (fun j => silu (A8 (ix2 r j)) * readout (fun j => A7 (ix2 r j)) (fun m j => A9 (ix2 m j)) j)

/-- Rows of a block from row `o` on. -/
abbrev rowsFrom {W : ℕ} (A : Vec Ideal ⟨2, ![512, W]⟩ .f32) (o : ℕ)
    (inb : ∀ a, (![o, 0] : Fin 2 → Nat) a + (![256, W] : Fin 2 → Nat) a ≤ (⟨2, ![512, W]⟩ : Shape).size a) : FVec Ideal ⟨2, ![256, W]⟩ .f32 :=
  View.ld (Val := Elt Ideal) (e' := .f32) A (Rect.unit (s := ⟨2, ![512, W]⟩) ![o, 0] ![256, W] inb)

theorem ld_rows {W : ℕ} (A : Vec Ideal ⟨2, ![512, W]⟩ .f32) (o : ℕ)
    (inb : ∀ a, (![o, 0] : Fin 2 → Nat) a + (![256, W] : Fin 2 → Nat) a ≤ (⟨2, ![512, W]⟩ : Shape).size a)
    (i : Fin 256) (j : Fin W) (h : o + i.val < 512) : rowsFrom A o inb (ix2 i j) = A (ix2 ⟨o + i.val, h⟩ j) := by
  refine congrArg A (funext fun a => Fin.ext ?_)
  match a with
  | ⟨0, _⟩ => simp [Rect.emb, Rect.unit]
  | ⟨1, _⟩ => simp [Rect.emb, Rect.unit]

/-- One of the four mixing matrices. -/
abbrev groupAt (A : Vec Ideal S4x128x128 .f32) (o : ℕ)
    (inb : ∀ a, (![o, 0, 0] : Fin 3 → Nat) a + (![1, 128, 128] : Fin 3 → Nat) a ≤ S4x128x128.size a) : FVec Ideal S1x128x128 .f32 :=
  View.ld (Val := Elt Ideal) (e' := .f32) A (Rect.unit (s := S4x128x128) ![o, 0, 0] ![1, 128, 128] inb)

theorem ld_group (A : Vec Ideal S4x128x128 .f32) (o : ℕ)
    (inb : ∀ a, (![o, 0, 0] : Fin 3 → Nat) a + (![1, 128, 128] : Fin 3 → Nat) a ≤ S4x128x128.size a)
    (i j : Fin 128) (h : o < 4) : groupAt A o inb (ix3 0 i j) = A (ix3 ⟨o, h⟩ i j) := by
  refine congrArg A (funext fun a => Fin.ext ?_)
  match a with
  | ⟨0, _⟩ => simp [Rect.emb, Rect.unit]
  | ⟨1, _⟩ => simp [Rect.emb, Rect.unit]
  | ⟨2, _⟩ => simp [Rect.emb, Rect.unit]

section
variable (A0 A1 : Vec Ideal S512x1024 .f32) (A2 Z3 : Vec Ideal S512x512 .f32) (A4 A5 A6 A7 A8 : Vec Ideal S512x256 .f32) (A9 : Vec Ideal S256x512 .f32)
    (A10 : Vec Ideal S4x128x128 .f32) (A12 : Vec Ideal S128x256 .f32) (A13 : Vec Ideal S1x256 .f32) (A14 : Vec Ideal S1024x1024 .bf16) (A15 : Vec Ideal S1x1024 .f32)
    (o : ℕ) (ho : o = 0 ∨ o = 256)
    (i1 : ∀ a, (![o, 0] : Fin 2 → Nat) a + (![256, 1024] : Fin 2 → Nat) a ≤ S512x1024.size a)
    (i2 : ∀ a, (![o, 0] : Fin 2 → Nat) a + (![256, 512] : Fin 2 → Nat) a ≤ S512x512.size a)
    (i3 : ∀ a, (![o, 0] : Fin 2 → Nat) a + (![256, 256] : Fin 2 → Nat) a ≤ S512x256.size a)
    (g0 : ∀ a, (![0, 0, 0] : Fin 3 → Nat) a + (![1, 128, 128] : Fin 3 → Nat) a ≤ S4x128x128.size a)
    (g1 : ∀ a, (![1, 0, 0] : Fin 3 → Nat) a + (![1, 128, 128] : Fin 3 → Nat) a ≤ S4x128x128.size a)
    (g2 : ∀ a, (![2, 0, 0] : Fin 3 → Nat) a + (![1, 128, 128] : Fin 3 → Nat) a ≤ S4x128x128.size a)
    (g3 : ∀ a, (![3, 0, 0] : Fin 3 → Nat) a + (![1, 128, 128] : Fin 3 → Nat) a ≤ S4x128x128.size a)

/-- The joined branches of a half of the block. -/
abbrev halfB : FVec Ideal S256x1024 .bf16 :=
  joinB (mulB (siluB (rowsFrom Z3 o i2)) (rowsFrom A2 o i2))
    (mulB (siluB (rowsFrom A6 o i3))
      (mulB (geluB (rowsFrom A4 o i3))
        (mixB (groupAt A10 0 g0) (groupAt A10 1 g1)
          (groupAt A10 2 g2) (groupAt A10 3 g3) A12
          (vnB (rowsFrom A5 o i3) A13))))
    (mulB (siluB (rowsFrom A8 o i3)) (readB (rowsFrom A7 o i3) A9))

theorem half_join (i : Fin 256) (j : Fin 1024) :
    halfB A2 Z3 A4 A5 A6 A7 A8 A9 A10 A12 A13 o i2 i3 g0 g1 g2 g3 (ix2 i j)
      = gateRow A2 Z3 A4 A5 A6 A7 A8 A9 A10 A12 A13 ⟨o + i.val, by omega⟩ j := by
  refine congrFun (congr (congr (congrArg join (funext fun k => ?_)) (funext fun k => ?_)) (funext fun k => ?_)) j
  · exact congrArg₂ (fun x y : EReal => silu x * y) (ld_rows Z3 o i2 i k (by omega)) (ld_rows A2 o i2 i k (by omega))
  · refine congrArg₂ (fun x y : EReal => silu x * y) (ld_rows A6 o i3 i k (by omega)) ?_
    refine congrArg₂ (fun x y : EReal => gelu x * y) (ld_rows A4 o i3 i k (by omega)) ?_
    refine congrFun (congr (congr (congrArg mixed (funext fun g => funext fun q => ?_)) ?_) (funext fun q => ?_)) k
    · have hp : place i = ⟨(o + i.val) % 128, by omega⟩ := Fin.ext (by show i.val % 128 = _; rcases ho with rfl | rfl <;> simp <;> omega)
      show wsel _ _ _ _ g (place i) q = _
      rw [hp]
      fin_cases g
      · exact ld_group A10 0 g0 _ q (by omega)
      · exact ld_group A10 1 g1 _ q (by omega)
      · exact ld_group A10 2 g2 _ q (by omega)
      · exact ld_group A10 3 g3 _ q (by omega)
    · exact congrArg (fun z => A12 (ix2 z k)) (Fin.ext (by show i.val % 128 = (o + i.val) % 128; rcases ho with rfl | rfl <;> omega))
    · refine congrFun (congrArg vn (funext fun e => ?_)) _
      refine (ld_rows A5 o i3 _ e (by have := (chunkRow i q).2; omega)).trans (congrArg (fun z => A5 (ix2 z e)) (Fin.ext ?_))
      show o + (128 * (i.val / 128) + q.val) = 128 * ((o + i.val) / 128) + q.val
      rcases ho with rfl | rfl <;> omega
  · refine congrArg₂ (fun x y : EReal => silu x * y) (ld_rows A8 o i3 i k (by omega)) ?_
    exact congrArg (fun z => readout z _ k) (funext fun e => ld_rows A7 o i3 i e (by omega))

/-- The row after the residual step, of the point's blocks. -/
def residRow (r : Fin 512) : Fin 1024 → EReal :=
  resid (fun j => A0 (ix2 r j)) (gateRow A2 Z3 A4 A5 A6 A7 A8 A9 A10 A12 A13 r) (fun k j => A14 (ix2 k j))

theorem half_resid (i : Fin 256) :
    residB (halfB A2 Z3 A4 A5 A6 A7 A8 A9 A10 A12 A13 o i2 i3 g0 g1 g2 g3) A14 (rowsFrom A0 o i1) i
      = residRow A0 A2 Z3 A4 A5 A6 A7 A8 A9 A10 A12 A13 A14 ⟨o + i.val, by omega⟩ := by
  unfold residB residRow
  refine congrFun (congr (congrArg resid (funext fun k => ?_)) (funext fun k => ?_)) _
  · exact ld_rows A0 o i1 i k (by omega)
  · exact half_join _ _ _ _ _ _ _ _ _ _ _ o ho i2 i3 g0 g1 g2 g3 i k

theorem half_dx2 (i : Fin 256) (j : Fin 1024) :
    dx2B (halfB A2 Z3 A4 A5 A6 A7 A8 A9 A10 A12 A13 o i2 i3 g0 g1 g2 g3) A14 (rowsFrom A0 o i1)
        (rowsFrom A1 o i1) A15 (ix2 i j)
      = dx2 (residRow A0 A2 Z3 A4 A5 A6 A7 A8 A9 A10 A12 A13 A14 ⟨o + i.val, by omega⟩) (fun j => A15 (ix2 0 j)) (fun j => A1 (ix2 ⟨o + i.val, by omega⟩ j)) j := by
  refine congrFun (congr (congrFun (congrArg dx2 (half_resid A0 _ _ _ _ _ _ _ _ _ _ _ _ o ho i1 i2 i3 g0 g1 g2 g3 i)) _) (funext fun k => ?_)) j
  exact ld_rows A1 o i1 i k (by omega)

theorem half_da (i : Fin 256) (j : Fin 512) :
    daB (halfB A2 Z3 A4 A5 A6 A7 A8 A9 A10 A12 A13 o i2 i3 g0 g1 g2 g3) A14 (rowsFrom A0 o i1)
        (rowsFrom A1 o i1) A15 (rowsFrom Z3 o i2) (ix2 i j)
      = da (residRow A0 A2 Z3 A4 A5 A6 A7 A8 A9 A10 A12 A13 A14 ⟨o + i.val, by omega⟩) (fun j => A15 (ix2 0 j)) (fun j => A1 (ix2 ⟨o + i.val, by omega⟩ j))
          (fun k j => A14 (ix2 k j)) (fun j => Z3 (ix2 ⟨o + i.val, by omega⟩ j)) j := by
  refine congrFun (congr (congrFun (congr (congrFun (congrArg da (half_resid A0 _ _ _ _ _ _ _ _ _ _ _ _ o ho i1 i2 i3 g0 g1 g2 g3 i)) _) (funext fun k => ?_)) _) (funext fun k => ?_)) j
  · exact ld_rows A1 o i1 i k (by omega)
  · exact ld_rows Z3 o i2 i k (by omega)
end

variable (m : (ℓ : Loc nD τ sig) → Buf (Elt Ideal) ℓ)

/-- The row after the residual step, at a point. -/
def x2At (c : Dev nD) (t : Fin cfg0.N) (r : Fin 512) : Fin 1024 → EReal :=
  residRow (iblk m c 0 t) (iblk m c 2 t) (X0_3 m c t) (iblk m c 4 t) (iblk m c 5 t) (iblk m c 6 t) (iblk m c 7 t) (iblk m c 8 t) (iblk m c 9 t)
    (iblk m c 10 t) (iblk m c 12 t) (iblk m c 13 t) (iblk m c 14 t) r

/-- The row's gradient, at a point. -/
def dx2At (c : Dev nD) (t : Fin cfg0.N) (r : Fin 512) : Fin 1024 → EReal :=
  dx2 (x2At m c t r) (fun j => (iblk m c 15 t : Vec Ideal S1x1024 .f32) (ix2 0 j)) (fun j => (iblk m c 1 t : Vec Ideal S512x1024 .f32) (ix2 r j))

/-- The gradient of the first branch's factor, at a point. -/
def daAt (c : Dev nD) (t : Fin cfg0.N) (r : Fin 512) : Fin 512 → EReal :=
  da (x2At m c t r) (fun j => (iblk m c 15 t : Vec Ideal S1x1024 .f32) (ix2 0 j)) (fun j => (iblk m c 1 t : Vec Ideal S512x1024 .f32) (ix2 r j))
    (fun k j => (iblk m c 14 t : Vec Ideal S1024x1024 .bf16) (ix2 k j)) (fun j => X0_3 m c t (ix2 r j))

set_option maxHeartbeats 4000000 in
/-- The first point leaves the row's gradient. -/
theorem outA16 (c : Dev nD) (t : Fin cfg0.N) (h0 : t.val % 8 = 0) (h1 : t.val % 4 = 0) (h2 : ¬t.val % 8 = 7) (r : Fin 512) (j : Fin 1024) :
    (leftA m c t h0 h1 h2).1 (ix2 r j) = dx2At m c t r j := by
  unfold leftA runA kernelRun0_A
  dsimp only
  frame_out
  canon_tiles y hy
  · idx_vars y
    obtain ⟨r, hr⟩ := r
    obtain rfl : r = 256 + y0.val := hy0
    obtain rfl : j = y1 := Fin.ext hy1
    simp only [pay32, pay35, pay37, pay38, pay41, pay45, pay51, pay55, pay64, pay65, pay84, pay85, pay87, pay90, pay93, pay94, pay109, pay110, pay111,
      pay112, pay113, pay114, pay115, pay137, pay147, pay148, pay169, pay170]
    exact half_dx2 _ _ _ _ _ _ _ _ _ _ _ _ _ _ _ 256 (.inr rfl) _ _ _ _ _ _ _ y0 j
  · idx_vars y
    obtain ⟨r, hr⟩ := r
    obtain rfl : r = y0.val := hy0
    obtain rfl : j = y1 := Fin.ext hy1
    simp only [pay32, pay35, pay37, pay38, pay41, pay45, pay51, pay55, pay64, pay65, pay84, pay85, pay87, pay90, pay93, pay94, pay109, pay110, pay111,
      pay112, pay113, pay114, pay115, pay137, pay147, pay148, pay169, pay170]
    refine (half_dx2 _ _ _ _ _ _ _ _ _ _ _ _ _ _ _ 0 (.inl rfl) _ _ _ _ _ _ _ y0 j).trans ?_
    simp only [Nat.zero_add]
    rfl

set_option maxHeartbeats 4000000 in
/-- The middle point leaves the row's gradient. -/
theorem outB16 (c : Dev nD) (t : Fin cfg0.N) (h0 : ¬t.val % 8 = 0) (h1 : ¬t.val % 4 = 0) (h2 : ¬t.val % 8 = 7) (p : Left Ideal) (r : Fin 512) (j : Fin 1024) :
    (leftB m c t h0 h1 h2 p).1 (ix2 r j) = dx2At m c t r j := by
  unfold leftB runB kernelRun0_B
  dsimp only
  frame_out
  canon_tiles y hy
  · idx_vars y
    obtain ⟨r, hr⟩ := r
    obtain rfl : r = 256 + y0.val := hy0
    obtain rfl : j = y1 := Fin.ext hy1
    simp only [pay32, pay35, pay37, pay38, pay41, pay45, pay51, pay55, pay64, pay65, pay84, pay85, pay87, pay90, pay93, pay94, pay109, pay110, pay111,
      pay112, pay113, pay114, pay115, pay137, pay147, pay148, pay169, pay170]
    exact half_dx2 _ _ _ _ _ _ _ _ _ _ _ _ _ _ _ 256 (.inr rfl) _ _ _ _ _ _ _ y0 j
  · idx_vars y
    obtain ⟨r, hr⟩ := r
    obtain rfl : r = y0.val := hy0
    obtain rfl : j = y1 := Fin.ext hy1
    simp only [pay32, pay35, pay37, pay38, pay41, pay45, pay51, pay55, pay64, pay65, pay84, pay85, pay87, pay90, pay93, pay94, pay109, pay110, pay111,
      pay112, pay113, pay114, pay115, pay137, pay147, pay148, pay169, pay170]
    refine (half_dx2 _ _ _ _ _ _ _ _ _ _ _ _ _ _ _ 0 (.inl rfl) _ _ _ _ _ _ _ y0 j).trans ?_
    simp only [Nat.zero_add]
    rfl

set_option maxHeartbeats 4000000 in
/-- The second batch entry's first point leaves the row's gradient. -/
theorem outC16 (c : Dev nD) (t : Fin cfg0.N) (h0 : ¬t.val % 8 = 0) (h1 : t.val % 4 = 0) (h2 : ¬t.val % 8 = 7) (p : Left Ideal) (r : Fin 512) (j : Fin 1024) :
    (leftC m c t h0 h1 h2 p).1 (ix2 r j) = dx2At m c t r j := by
  unfold leftC runC kernelRun0_C
  dsimp only
  frame_out
  canon_tiles y hy
  · idx_vars y
    obtain ⟨r, hr⟩ := r
    obtain rfl : r = 256 + y0.val := hy0
    obtain rfl : j = y1 := Fin.ext hy1
    simp only [pay32, pay35, pay37, pay38, pay41, pay45, pay51, pay55, pay64, pay65, pay84, pay85, pay87, pay90, pay93, pay94, pay109, pay110, pay111,
      pay112, pay113, pay114, pay115, pay137, pay147, pay148, pay169, pay170]
    exact half_dx2 _ _ _ _ _ _ _ _ _ _ _ _ _ _ _ 256 (.inr rfl) _ _ _ _ _ _ _ y0 j
  · idx_vars y
    obtain ⟨r, hr⟩ := r
    obtain rfl : r = y0.val := hy0
    obtain rfl : j = y1 := Fin.ext hy1
    simp only [pay32, pay35, pay37, pay38, pay41, pay45, pay51, pay55, pay64, pay65, pay84, pay85, pay87, pay90, pay93, pay94, pay109, pay110, pay111,
      pay112, pay113, pay114, pay115, pay137, pay147, pay148, pay169, pay170]
    refine (half_dx2 _ _ _ _ _ _ _ _ _ _ _ _ _ _ _ 0 (.inl rfl) _ _ _ _ _ _ _ y0 j).trans ?_
    simp only [Nat.zero_add]
    rfl

set_option maxHeartbeats 4000000 in
/-- The last point leaves the row's gradient. -/
theorem outD16 (c : Dev nD) (t : Fin cfg0.N) (h0 : ¬t.val % 8 = 0) (h1 : ¬t.val % 4 = 0) (h2 : t.val % 8 = 7) (p : Left Ideal) (r : Fin 512) (j : Fin 1024) :
    (leftD m c t h0 h1 h2 p).1 (ix2 r j) = dx2At m c t r j := by
  unfold leftD runD kernelRun0_D
  dsimp only
  frame_out
  canon_tiles y hy
  · idx_vars y
    obtain ⟨r, hr⟩ := r
    obtain rfl : r = 256 + y0.val := hy0
    obtain rfl : j = y1 := Fin.ext hy1
    simp only [pay32, pay35, pay37, pay38, pay41, pay45, pay51, pay55, pay64, pay65, pay84, pay85, pay87, pay90, pay93, pay94, pay109, pay110, pay111,
      pay112, pay113, pay114, pay115, pay137, pay147, pay148, pay169, pay170]
    exact half_dx2 _ _ _ _ _ _ _ _ _ _ _ _ _ _ _ 256 (.inr rfl) _ _ _ _ _ _ _ y0 j
  · idx_vars y
    obtain ⟨r, hr⟩ := r
    obtain rfl : r = y0.val := hy0
    obtain rfl : j = y1 := Fin.ext hy1
    simp only [pay32, pay35, pay37, pay38, pay41, pay45, pay51, pay55, pay64, pay65, pay84, pay85, pay87, pay90, pay93, pay94, pay109, pay110, pay111,
      pay112, pay113, pay114, pay115, pay137, pay147, pay148, pay169, pay170]
    refine (half_dx2 _ _ _ _ _ _ _ _ _ _ _ _ _ _ _ 0 (.inl rfl) _ _ _ _ _ _ _ y0 j).trans ?_
    simp only [Nat.zero_add]
    rfl

set_option maxHeartbeats 4000000 in
/-- The first point leaves the gradient of the first branch's factor. -/
theorem outA17 (c : Dev nD) (t : Fin cfg0.N) (h0 : t.val % 8 = 0) (h1 : t.val % 4 = 0) (h2 : ¬t.val % 8 = 7) (r : Fin 512) (j : Fin 512) :
    (leftA m c t h0 h1 h2).2.1 (ix2 r j) = daAt m c t r j := by
  unfold leftA runA kernelRun0_A
  dsimp only
  frame_out
  canon_tiles y hy
  · idx_vars y
    obtain ⟨r, hr⟩ := r
    obtain rfl : r = 256 + y0.val := hy0
    obtain rfl : j = y1 := Fin.ext hy1
    simp only [pay32, pay35, pay37, pay38, pay41, pay45, pay51, pay55, pay64, pay65, pay84, pay85, pay87, pay90, pay93, pay94, pay109, pay110, pay111,
      pay112, pay113, pay114, pay115, pay137, pay147, pay148, pay182, pay183]
    exact half_da _ _ _ _ _ _ _ _ _ _ _ _ _ _ _ 256 (.inr rfl) _ _ _ _ _ _ _ y0 j
  · idx_vars y
    obtain ⟨r, hr⟩ := r
    obtain rfl : r = y0.val := hy0
    obtain rfl : j = y1 := Fin.ext hy1
    simp only [pay32, pay35, pay37, pay38, pay41, pay45, pay51, pay55, pay64, pay65, pay84, pay85, pay87, pay90, pay93, pay94, pay109, pay110, pay111,
      pay112, pay113, pay114, pay115, pay137, pay147, pay148, pay182, pay183]
    refine (half_da _ _ _ _ _ _ _ _ _ _ _ _ _ _ _ 0 (.inl rfl) _ _ _ _ _ _ _ y0 j).trans ?_
    simp only [Nat.zero_add]
    rfl

set_option maxHeartbeats 4000000 in
/-- The middle point leaves the gradient of the first branch's factor. -/
theorem outB17 (c : Dev nD) (t : Fin cfg0.N) (h0 : ¬t.val % 8 = 0) (h1 : ¬t.val % 4 = 0) (h2 : ¬t.val % 8 = 7) (p : Left Ideal) (r : Fin 512) (j : Fin 512) :
    (leftB m c t h0 h1 h2 p).2.1 (ix2 r j) = daAt m c t r j := by
  unfold leftB runB kernelRun0_B
  dsimp only
  frame_out
  canon_tiles y hy
  · idx_vars y
    obtain ⟨r, hr⟩ := r
    obtain rfl : r = 256 + y0.val := hy0
    obtain rfl : j = y1 := Fin.ext hy1
    simp only [pay32, pay35, pay37, pay38, pay41, pay45, pay51, pay55, pay64, pay65, pay84, pay85, pay87, pay90, pay93, pay94, pay109, pay110, pay111,
      pay112, pay113, pay114, pay115, pay137, pay147, pay148, pay182, pay183]
    exact half_da _ _ _ _ _ _ _ _ _ _ _ _ _ _ _ 256 (.inr rfl) _ _ _ _ _ _ _ y0 j
  · idx_vars y
    obtain ⟨r, hr⟩ := r
    obtain rfl : r = y0.val := hy0
    obtain rfl : j = y1 := Fin.ext hy1
    simp only [pay32, pay35, pay37, pay38, pay41, pay45, pay51, pay55, pay64, pay65, pay84, pay85, pay87, pay90, pay93, pay94, pay109, pay110, pay111,
      pay112, pay113, pay114, pay115, pay137, pay147, pay148, pay182, pay183]
    refine (half_da _ _ _ _ _ _ _ _ _ _ _ _ _ _ _ 0 (.inl rfl) _ _ _ _ _ _ _ y0 j).trans ?_
    simp only [Nat.zero_add]
    rfl

set_option maxHeartbeats 4000000 in
/-- The second batch entry's first point leaves the gradient of the first branch's factor. -/
theorem outC17 (c : Dev nD) (t : Fin cfg0.N) (h0 : ¬t.val % 8 = 0) (h1 : t.val % 4 = 0) (h2 : ¬t.val % 8 = 7) (p : Left Ideal) (r : Fin 512) (j : Fin 512) :
    (leftC m c t h0 h1 h2 p).2.1 (ix2 r j) = daAt m c t r j := by
  unfold leftC runC kernelRun0_C
  dsimp only
  frame_out
  canon_tiles y hy
  · idx_vars y
    obtain ⟨r, hr⟩ := r
    obtain rfl : r = 256 + y0.val := hy0
    obtain rfl : j = y1 := Fin.ext hy1
    simp only [pay32, pay35, pay37, pay38, pay41, pay45, pay51, pay55, pay64, pay65, pay84, pay85, pay87, pay90, pay93, pay94, pay109, pay110, pay111,
      pay112, pay113, pay114, pay115, pay137, pay147, pay148, pay182, pay183]
    exact half_da _ _ _ _ _ _ _ _ _ _ _ _ _ _ _ 256 (.inr rfl) _ _ _ _ _ _ _ y0 j
  · idx_vars y
    obtain ⟨r, hr⟩ := r
    obtain rfl : r = y0.val := hy0
    obtain rfl : j = y1 := Fin.ext hy1
    simp only [pay32, pay35, pay37, pay38, pay41, pay45, pay51, pay55, pay64, pay65, pay84, pay85, pay87, pay90, pay93, pay94, pay109, pay110, pay111,
      pay112, pay113, pay114, pay115, pay137, pay147, pay148, pay182, pay183]
    refine (half_da _ _ _ _ _ _ _ _ _ _ _ _ _ _ _ 0 (.inl rfl) _ _ _ _ _ _ _ y0 j).trans ?_
    simp only [Nat.zero_add]
    rfl

set_option maxHeartbeats 4000000 in
/-- The last point leaves the gradient of the first branch's factor. -/
theorem outD17 (c : Dev nD) (t : Fin cfg0.N) (h0 : ¬t.val % 8 = 0) (h1 : ¬t.val % 4 = 0) (h2 : t.val % 8 = 7) (p : Left Ideal) (r : Fin 512) (j : Fin 512) :
    (leftD m c t h0 h1 h2 p).2.1 (ix2 r j) = daAt m c t r j := by
  unfold leftD runD kernelRun0_D
  dsimp only
  frame_out
  canon_tiles y hy
  · idx_vars y
    obtain ⟨r, hr⟩ := r
    obtain rfl : r = 256 + y0.val := hy0
    obtain rfl : j = y1 := Fin.ext hy1
    simp only [pay32, pay35, pay37, pay38, pay41, pay45, pay51, pay55, pay64, pay65, pay84, pay85, pay87, pay90, pay93, pay94, pay109, pay110, pay111,
      pay112, pay113, pay114, pay115, pay137, pay147, pay148, pay182, pay183]
    exact half_da _ _ _ _ _ _ _ _ _ _ _ _ _ _ _ 256 (.inr rfl) _ _ _ _ _ _ _ y0 j
  · idx_vars y
    obtain ⟨r, hr⟩ := r
    obtain rfl : r = y0.val := hy0
    obtain rfl : j = y1 := Fin.ext hy1
    simp only [pay32, pay35, pay37, pay38, pay41, pay45, pay51, pay55, pay64, pay65, pay84, pay85, pay87, pay90, pay93, pay94, pay109, pay110, pay111,
      pay112, pay113, pay114, pay115, pay137, pay147, pay148, pay182, pay183]
    refine (half_da _ _ _ _ _ _ _ _ _ _ _ _ _ _ _ 0 (.inl rfl) _ _ _ _ _ _ _ y0 j).trans ?_
    simp only [Nat.zero_add]
    rfl

/-- The two gradients a point leaves, whichever the point. -/
theorem out16 (c : Dev nD) (t : Fin cfg0.N) (r : Fin 512) (j : Fin 1024) : (outsAt0 m c t.val t.isLt).1 (ix2 r j) = dx2At m c t r j := by
  by_cases h0 : t.val % 8 = 0
  · rw [outsAt0_A m c t h0 (by omega) (by omega)]; exact outA16 m c t h0 _ _ r j
  · by_cases h1 : t.val % 4 = 0
    · rw [outsAt0_C m c t h0 h1 (by omega)]; exact outC16 m c t h0 h1 _ _ r j
    · by_cases h2 : t.val % 8 = 7
      · rw [outsAt0_D m c t h0 h1 h2]; exact outD16 m c t h0 h1 h2 _ r j
      · rw [outsAt0_B m c t h0 h1 h2]; exact outB16 m c t h0 h1 h2 _ r j

theorem out17 (c : Dev nD) (t : Fin cfg0.N) (r j : Fin 512) : (outsAt0 m c t.val t.isLt).2.1 (ix2 r j) = daAt m c t r j := by
  by_cases h0 : t.val % 8 = 0
  · rw [outsAt0_A m c t h0 (by omega) (by omega)]; exact outA17 m c t h0 _ _ r j
  · by_cases h1 : t.val % 4 = 0
    · rw [outsAt0_C m c t h0 h1 (by omega)]; exact outC17 m c t h0 h1 _ _ r j
    · by_cases h2 : t.val % 8 = 7
      · rw [outsAt0_D m c t h0 h1 h2]; exact outD17 m c t h0 h1 h2 _ r j
      · rw [outsAt0_B m c t h0 h1 h2]; exact outB17 m c t h0 h1 h2 _ r j

end Cert.Mid

end
-- ==== Proof.MidFrame.lean ====
module

public import proofs.«01_k».proof.Proof.MidOuts
public import Idealize.ShloMosaic.Lib.Claim

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.2.1) ∗ owns (c : Thread nD τ) scM0_1 fullShare ((outsAt0 m c n hn).2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2.2.1) ∗ owns (c : Thread nD τ) scM0_1 fullShare ((outsAt0 m c n hn).2.2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.1) ∗ owns (c : Thread nD τ) scM0_1 fullShare ((outsAt0 m c (n - 1) (by omega)).2.2.2.2.2.2.2.2.2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨18, _⟩ => (outsAt0 m c t.val t.isLt).2.2.1
    | ⟨19, _⟩ => (outsAt0 m c t.val t.isLt).2.2.2.1
    | ⟨20, _⟩ => (outsAt0 m c t.val t.isLt).2.2.2.2.1
    | ⟨21, _⟩ => (outsAt0 m c t.val t.isLt).2.2.2.2.2.1
    | ⟨22, _⟩ => (outsAt0 m c t.val t.isLt).2.2.2.2.2.2.1
    | ⟨23, _⟩ => (outsAt0 m c t.val t.isLt).2.2.2.2.2.2.2.1
    | ⟨24, _⟩ => (outsAt0 m c t.val t.isLt).2.2.2.2.2.2.2.2.1
    | ⟨25, _⟩ => (outsAt0 m c t.val t.isLt).2.2.2.2.2.2.2.2.2.1
    | ⟨_ + 26, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2.1 := by dsimp only [dats]
theorem after0_18 (c : Dev nD) (t : Fin cfg0.N) : (dats m 0 c).after 18 t = (outsAt0 m c t.val t.isLt).2.2.1 := by dsimp only [dats]
theorem after0_19 (c : Dev nD) (t : Fin cfg0.N) : (dats m 0 c).after 19 t = (outsAt0 m c t.val t.isLt).2.2.2.1 := by dsimp only [dats]
theorem after0_20 (c : Dev nD) (t : Fin cfg0.N) : (dats m 0 c).after 20 t = (outsAt0 m c t.val t.isLt).2.2.2.2.1 := by dsimp only [dats]
theorem after0_21 (c : Dev nD) (t : Fin cfg0.N) : (dats m 0 c).after 21 t = (outsAt0 m c t.val t.isLt).2.2.2.2.2.1 := by dsimp only [dats]
theorem after0_22 (c : Dev nD) (t : Fin cfg0.N) : (dats m 0 c).after 22 t = (outsAt0 m c t.val t.isLt).2.2.2.2.2.2.1 := by dsimp only [dats]
theorem after0_23 (c : Dev nD) (t : Fin cfg0.N) : (dats m 0 c).after 23 t = (outsAt0 m c t.val t.isLt).2.2.2.2.2.2.2.1 := by dsimp only [dats]
theorem after0_24 (c : Dev nD) (t : Fin cfg0.N) : (dats m 0 c).after 24 t = (outsAt0 m c t.val t.isLt).2.2.2.2.2.2.2.2.1 := by dsimp only [dats]
theorem after0_25 (c : Dev nD) (t : Fin cfg0.N) : (dats m 0 c).after 25 t = (outsAt0 m c t.val t.isLt).2.2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem kept0_19 (c : Dev nD) (t : Fin cfg0.N) (hz : t.val ≠ 0) (d) :
    (dats m 0 c).before 19 t d = (outsAt0 m c (t.val - 1) (Nat.lt_of_le_of_lt (Nat.sub_le _ _) t.isLt)).2.2.2.1 := by
  have hN : t.val < 8 := lt_of_lt_of_eq t.isLt (show cfg0.N = 8 from N_0)
  rw [Dat.before_out_kept _ 19 rfl t (by omega) (Bool.eq_false_iff.mpr fun h => by have := (flush0_19 _).mp h; dsimp only at this; omega)
    (fun _ => rfl) (fun _ _ => rfl)]
  dsimp only [dats]

theorem kept0_21 (c : Dev nD) (t : Fin cfg0.N) (hz : t.val ≠ 0) (d) :
    (dats m 0 c).before 21 t d = (outsAt0 m c (t.val - 1) (Nat.lt_of_le_of_lt (Nat.sub_le _ _) t.isLt)).2.2.2.2.2.1 := by
  have hN : t.val < 8 := lt_of_lt_of_eq t.isLt (show cfg0.N = 8 from N_0)
  rw [Dat.before_out_kept _ 21 rfl t (by omega) (Bool.eq_false_iff.mpr fun h => by have := (flush0_21 _).mp h; dsimp only at this; omega)
    (fun _ => rfl) (fun _ _ => rfl)]
  dsimp only [dats]

theorem kept0_23 (c : Dev nD) (t : Fin cfg0.N) (hz : t.val ≠ 0) (d) :
    (dats m 0 c).before 23 t d = (outsAt0 m c (t.val - 1) (Nat.lt_of_le_of_lt (Nat.sub_le _ _) t.isLt)).2.2.2.2.2.2.2.1 := by
  have hN : t.val < 8 := lt_of_lt_of_eq t.isLt (show cfg0.N = 8 from N_0)
  rw [Dat.before_out_kept _ 23 rfl t (by omega) (Bool.eq_false_iff.mpr fun h => by have := (flush0_23 _).mp h; dsimp only at this; omega)
    (fun _ => rfl) (fun _ _ => rfl)]
  dsimp only [dats]

theorem kept0_24 (c : Dev nD) (t : Fin cfg0.N) (hz : t.val ≠ 0) (d) :
    (dats m 0 c).before 24 t d = (outsAt0 m c (t.val - 1) (Nat.lt_of_le_of_lt (Nat.sub_le _ _) t.isLt)).2.2.2.2.2.2.2.2.1 := by
  have hN : t.val < 8 := lt_of_lt_of_eq t.isLt (show cfg0.N = 8 from N_0)
  rw [Dat.before_out_kept _ 24 rfl t (by omega) (Bool.eq_false_iff.mpr fun h => by have := (flush0_24 _).mp h; dsimp only at this; omega)
    (fun _ => rfl) (fun _ _ => rfl)]
  dsimp only [dats]

theorem kept0_25 (c : Dev nD) (t : Fin cfg0.N) (hz : t.val ≠ 0) (h1 : ¬t.val % 4 = 0) (d) :
    (dats m 0 c).before 25 t d = (outsAt0 m c (t.val - 1) (Nat.lt_of_le_of_lt (Nat.sub_le _ _) t.isLt)).2.2.2.2.2.2.2.2.2.1 := by
  have hN : t.val < 8 := lt_of_lt_of_eq t.isLt (show cfg0.N = 8 from N_0)
  rw [Dat.before_out_kept _ 25 rfl t (by omega) (Bool.eq_false_iff.mpr fun h => by have := (flush0_25 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t)

/-- The results that a point stores into and the operands are handed back at named contents. -/
theorem handed (c : Dev nD) (t : Fin cfg0.N) :
    (dats m 0 c).leavesExact 0 t = owns (c : Thread nD τ) (ms0_0 t) fullShare ((dats m 0 c).after 0 t)
    ∧ (dats m 0 c).leavesExact 1 t = owns (c : Thread nD τ) (ms0_1 t) fullShare ((dats m 0 c).after 1 t)
    ∧ (dats m 0 c).leavesExact 2 t = owns (c : Thread nD τ) (ms0_2 t) fullShare ((dats m 0 c).after 2 t)
    ∧ (dats m 0 c).leavesExact 3 t = owns (c : Thread nD τ) (ms0_3 t) fullShare ((dats m 0 c).after 3 t)
    ∧ (dats m 0 c).leavesExact 4 t = owns (c : Thread nD τ) (ms0_4 t) fullShare ((dats m 0 c).after 4 t)
    ∧ (dats m 0 c).leavesExact 5 t = owns (c : Thread nD τ) (ms0_5 t) fullShare ((dats m 0 c).after 5 t)
    ∧ (dats m 0 c).leavesExact 6 t = owns (c : Thread nD τ) (ms0_6 t) fullShare ((dats m 0 c).after 6 t)
    ∧ (dats m 0 c).leavesExact 7 t = owns (c : Thread nD τ) (ms0_7 t) fullShare ((dats m 0 c).after 7 t)
    ∧ (dats m 0 c).leavesExact 8 t = owns (c : Thread nD τ) (ms0_8 t) fullShare ((dats m 0 c).after 8 t)
    ∧ (dats m 0 c).leavesExact 9 t = owns (c : Thread nD τ) (ms0_9 t) fullShare ((dats m 0 c).after 9 t)
    ∧ (dats m 0 c).leavesExact 10 t = owns (c : Thread nD τ) (ms0_10 t) fullShare ((dats m 0 c).after 10 t)
    ∧ (dats m 0 c).leavesExact 11 t = owns (c : Thread nD τ) (ms0_11 t) fullShare ((dats m 0 c).after 11 t)
    ∧ (dats m 0 c).leavesExact 12 t = owns (c : Thread nD τ) (ms0_12 t) fullShare ((dats m 0 c).after 12 t)
    ∧ (dats m 0 c).leavesExact 13 t = owns (c : Thread nD τ) (ms0_13 t) fullShare ((dats m 0 c).after 13 t)
    ∧ (dats m 0 c).leavesExact 14 t = owns (c : Thread nD τ) (ms0_14 t) fullShare ((dats m 0 c).after 14 t)
    ∧ (dats m 0 c).leavesExact 15 t = owns (c : Thread nD τ) (ms0_15 t) fullShare ((dats m 0 c).after 15 t)
    ∧ (dats m 0 c).leavesExact 16 t = owns (c : Thread nD τ) (ms0_16 t) fullShare ((dats m 0 c).after 16 t)
    ∧ (dats m 0 c).leavesExact 17 t = owns (c : Thread nD τ) (ms0_17 t) fullShare ((dats m 0 c).after 17 t)
    ∧ (dats m 0 c).leavesExact 18 t = owns (c : Thread nD τ) (ms0_18 t) fullShare ((dats m 0 c).after 18 t)
    ∧ (dats m 0 c).leavesExact 19 t = owns (c : Thread nD τ) (ms0_19 t) fullShare ((dats m 0 c).after 19 t)
    ∧ (dats m 0 c).leavesExact 21 t = owns (c : Thread nD τ) (ms0_21 t) fullShare ((dats m 0 c).after 21 t)
    ∧ (dats m 0 c).leavesExact 23 t = owns (c : Thread nD τ) (ms0_23 t) fullShare ((dats m 0 c).after 23 t)
    ∧ (dats m 0 c).leavesExact 24 t = owns (c : Thread nD τ) (ms0_24 t) fullShare ((dats m 0 c).after 24 t)
    ∧ (dats m 0 c).leavesExact 25 t = owns (c : Thread nD τ) (ms0_25 t) fullShare ((dats m 0 c).after 25 t) := by
  refine ⟨?_, ?_, ?_, ?_, ?_, ?_, ?_, ?_, ?_, ?_, ?_, ?_, ?_, ?_, ?_, ?_, ?_, ?_, ?_, ?_, ?_, ?_, ?_, ?_⟩
  · unfold Dat.leavesExact; rw [liveAt0_0 t]
  · unfold Dat.leavesExact; rw [liveAt0_1 t]
  · unfold Dat.leavesExact; rw [liveAt0_2 t]
  · unfold Dat.leavesExact; rw [liveAt0_3 t]
  · unfold Dat.leavesExact; rw [liveAt0_4 t]
  · unfold Dat.leavesExact; rw [liveAt0_5 t]
  · unfold Dat.leavesExact; rw [liveAt0_6 t]
  · unfold Dat.leavesExact; rw [liveAt0_7 t]
  · unfold Dat.leavesExact; rw [liveAt0_8 t]
  · unfold Dat.leavesExact; rw [liveAt0_9 t]
  · unfold Dat.leavesExact; rw [liveAt0_10 t]
  · unfold Dat.leavesExact; rw [liveAt0_11 t]
  · unfold Dat.leavesExact; rw [liveAt0_12 t]
  · unfold Dat.leavesExact; rw [liveAt0_13 t]
  · unfold Dat.leavesExact; rw [liveAt0_14 t]
  · unfold Dat.leavesExact; rw [liveAt0_15 t]
  · unfold Dat.leavesExact; rw [liveAt0_16 t]
  · unfold Dat.leavesExact; rw [liveAt0_17 t]
  · unfold Dat.leavesExact; rw [liveAt0_18 t]
  · unfold Dat.leavesExact; rw [liveAt0_19 t]
  · unfold Dat.leavesExact; rw [liveAt0_21 t]
  · unfold Dat.leavesExact; rw [liveAt0_23 t]
  · unfold Dat.leavesExact; rw [liveAt0_24 t]
  · unfold Dat.leavesExact; rw [liveAt0_25 t]

set_option maxHeartbeats 12000000 in
/-- The body at the first point. -/
theorem bodyA (c : Dev nD) (t : Fin cfg0.N) (h0 : t.val % 8 = 0) (h1 : t.val % 4 = 0) (h2 : ¬t.val % 8 = 7) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have hz : t.val = 0 := by omega
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  obtain ⟨l0, l1, l2, l3, l4, l5, l6, l7, l8, l9, l10, l11, l12, l13, l14, l15, l16, l17, l18, l19, l21, l23, l24, l25⟩ := handed m c t
  rw [l0, after0_0, l1, after0_1, l2, after0_2, l3, after0_3, l4, after0_4, l5, after0_5, l6, after0_6, l7, after0_7, l8, after0_8, l9, after0_9, l10, after0_10, l11, after0_11, l12, after0_12, l13, after0_13, l14, after0_14, l15, after0_15, l16, after0_16, l17, after0_17, l18, after0_18, l19, after0_19, l21, after0_21, l23, after0_23, l24, after0_24, l25, after0_25]
  rw [Dat.leavesExact_idle (dats m 0 c) 20 t (idleAt0_20_A t ((hcond0_0 t).mpr h0) ((hcond0_1 t).mpr h1) (fun h => h2 ((hcond0_2 t).mp h))) (noFlush0_20_A t ((hcond0_0 t).mpr h0) ((hcond0_1 t).mpr h1) (fun h => h2 ((hcond0_2 t).mp h)))]
  rw [show (dats m 0 c).leavesExact 22 t = owns (c : Thread nD τ) (ms0_22 t) fullShare ((dats m 0 c).after 22 t) from by
      unfold Dat.leavesExact; rw [liveAt0_22_A t ((hcond0_0 t).mpr h0) ((hcond0_1 t).mpr h1) (fun h => h2 ((hcond0_2 t).mp h))], after0_22]
  rw [PhiS_castSucc m c t, PhiS_zero m c _ _ hz, PhiA0_eq]
  rw [outsAt0_A m c t h0 h1 h2]
  unfold leftA; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((runA m c t h0 h1 h2).2.2.2.2.2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [HS0]; · iexact HS0
  isplitl [HS1]; · iexact HS1
  iintro ⟨H0, H1, H2, H3, H4, H5, H6, H7, H8, H9, H10, H11, H12, H13, H14, H15, ⟨%e16, H16⟩, ⟨%e17, H17⟩, ⟨%e18, H18⟩, ⟨%e19, H19⟩, H20, ⟨%e21, H21⟩, ⟨%e22, H22⟩, ⟨%e23, H23⟩, ⟨%e24, H24⟩, ⟨%e25, H25⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (coverA_s0 m c t h0 h1 h2)
      unfold owns; iexists _; isplitr
      swap; · iexact HS1
      ipureintro; exact View.read_writes_of_cover _ _ _ _ _ (coverA_s1 m c t h0 h1 h2)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (coverA_16 m c t h0 h1 h2)
  isplitl [H17]
  · unfold owns; iexists _; isplitr
    swap; · iexact H17
    ipureintro; exact View.read_writes_of_cover _ _ _ _ _ (coverA_17 m c t h0 h1 h2)
  isplitl [H18]
  · unfold owns; iexists _; isplitr
    swap; · iexact H18
    ipureintro; exact View.read_writes_of_cover _ _ _ _ _ (coverA_18 m c t h0 h1 h2)
  isplitl [H19]
  · unfold owns; iexists _; isplitr
    swap; · iexact H19
    ipureintro; exact View.read_writes_of_cover _ _ _ _ _ (coverA_19 m c t h0 h1 h2)
  isplitl [H20]; · iexists _; iexact H20
  isplitl [H21]
  · unfold owns; iexists _; isplitr
    swap; · iexact H21
    ipureintro; exact View.read_writes_of_cover _ _ _ _ _ (coverA_21 m c t h0 h1 h2)
  isplitl [H22]
  · unfold owns; iexists _; isplitr
    swap; · iexact H22
    ipureintro; exact View.read_writes_of_cover _ _ _ _ _ (coverA_22 m c t h0 h1 h2)
  isplitl [H23]
  · unfold owns; iexists _; isplitr
    swap; · iexact H23
    ipureintro; exact View.read_writes_of_cover _ _ _ _ _ (coverA_23 m c t h0 h1 h2)
  isplitl [H24]
  · unfold owns; iexists _; isplitr
    swap; · iexact H24
    ipureintro; exact View.read_writes_of_cover _ _ _ _ _ (coverA_24 m c t h0 h1 h2)
  unfold owns; iexists _; isplitr
  swap; · iexact H25
  ipureintro; exact View.read_writes_of_cover _ _ _ _ _ (coverA_25 m c t h0 h1 h2)

set_option maxHeartbeats 12000000 in
/-- The body at a point that only adds. -/
theorem bodyB (c : Dev nD) (t : Fin cfg0.N) (h0 : ¬t.val % 8 = 0) (h1 : ¬t.val % 4 = 0) (h2 : ¬t.val % 8 = 7) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have hz : t.val ≠ 0 := by omega
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  obtain ⟨l0, l1, l2, l3, l4, l5, l6, l7, l8, l9, l10, l11, l12, l13, l14, l15, l16, l17, l18, l19, l21, l23, l24, l25⟩ := handed m c t
  rw [l0, after0_0, l1, after0_1, l2, after0_2, l3, after0_3, l4, after0_4, l5, after0_5, l6, after0_6, l7, after0_7, l8, after0_8, l9, after0_9, l10, after0_10, l11, after0_11, l12, after0_12, l13, after0_13, l14, after0_14, l15, after0_15, l16, after0_16, l17, after0_17, l18, after0_18, l19, after0_19, l21, after0_21, l23, after0_23, l24, after0_24, l25, after0_25]
  rw [Dat.leavesExact_idle (dats m 0 c) 20 t (idleAt0_20_B t (fun h => h0 ((hcond0_0 t).mp h)) (fun h => h1 ((hcond0_1 t).mp h)) (fun h => h2 ((hcond0_2 t).mp h))) (noFlush0_20_B t (fun h => h0 ((hcond0_0 t).mp h)) (fun h => h1 ((hcond0_1 t).mp h)) (fun h => h2 ((hcond0_2 t).mp h)))]
  rw [Dat.leavesExact_idle (dats m 0 c) 22 t (idleAt0_22_B t (fun h => h0 ((hcond0_0 t).mp h)) (fun h => h1 ((hcond0_1 t).mp h)) (fun h => h2 ((hcond0_2 t).mp h))) (noFlush0_22_B t (fun h => h0 ((hcond0_0 t).mp h)) (fun h => h1 ((hcond0_1 t).mp h)) (fun h => h2 ((hcond0_2 t).mp h)))]
  rw [PhiS_castSucc m c t, PhiS_pos m c _ _ hz]
  rw [outsAt0_B m c t h0 h1 h2]
  simp only [kept0_19 m c t hz, kept0_21 m c t hz, kept0_23 m c t hz, kept0_24 m c t hz, kept0_25 m c t hz h1]
  unfold leftB; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((runB m c t h0 h1 h2 (outsAt0 m c (t.val - 1) (Nat.lt_of_le_of_lt (Nat.sub_le _ _) t.isLt))).2.2.2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [HS0]; · iexact HS0
  isplitl [HS1]; · iexact HS1
  iintro ⟨H0, H1, H2, H3, H4, H5, H6, H7, H8, H9, H10, H11, H12, H13, H14, H15, ⟨%e16, H16⟩, ⟨%e17, H17⟩, ⟨%e18, H18⟩, ⟨%e19, H19⟩, H20, ⟨%e21, H21⟩, H22, ⟨%e23, H23⟩, ⟨%e24, H24⟩, ⟨%e25, H25⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (coverB_s0 m c t h0 h1 h2 (outsAt0 m c (t.val - 1) (Nat.lt_of_le_of_lt (Nat.sub_le _ _) t.isLt)))
      unfold owns; iexists _; isplitr
      swap; · iexact HS1
      ipureintro; exact View.read_writes_of_cover _ _ _ _ _ (coverB_s1 m c t h0 h1 h2 (outsAt0 m c (t.val - 1) (Nat.lt_of_le_of_lt (Nat.sub_le _ _) t.isLt)))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (coverB_16 m c t h0 h1 h2 (outsAt0 m c (t.val - 1) (Nat.lt_of_le_of_lt (Nat.sub_le _ _) t.isLt)))
  isplitl [H17]
  · unfold owns; iexists _; isplitr
    swap; · iexact H17
    ipureintro; exact View.read_writes_of_cover _ _ _ _ _ (coverB_17 m c t h0 h1 h2 (outsAt0 m c (t.val - 1) (Nat.lt_of_le_of_lt (Nat.sub_le _ _) t.isLt)))
  isplitl [H18]
  · unfold owns; iexists _; isplitr
    swap; · iexact H18
    ipureintro; exact View.read_writes_of_cover _ _ _ _ _ (coverB_18 m c t h0 h1 h2 (outsAt0 m c (t.val - 1) (Nat.lt_of_le_of_lt (Nat.sub_le _ _) t.isLt)))
  isplitl [H19]
  · unfold owns; iexists _; isplitr
    swap; · iexact H19
    ipureintro; exact View.read_writes_of_cover _ _ _ _ _ (coverB_19 m c t h0 h1 h2 (outsAt0 m c (t.val - 1) (Nat.lt_of_le_of_lt (Nat.sub_le _ _) t.isLt)))
  isplitl [H20]; · iexists _; iexact H20
  isplitl [H21]
  · unfold owns; iexists _; isplitr
    swap; · iexact H21
    ipureintro; exact View.read_writes_of_cover _ _ _ _ _ (coverB_21 m c t h0 h1 h2 (outsAt0 m c (t.val - 1) (Nat.lt_of_le_of_lt (Nat.sub_le _ _) t.isLt)))
  isplitl [H22]; · iexists _; iexact H22
  isplitl [H23]
  · unfold owns; iexists _; isplitr
    swap; · iexact H23
    ipureintro; exact View.read_writes_of_cover _ _ _ _ _ (coverB_23 m c t h0 h1 h2 (outsAt0 m c (t.val - 1) (Nat.lt_of_le_of_lt (Nat.sub_le _ _) t.isLt)))
  isplitl [H24]
  · unfold owns; iexists _; isplitr
    swap; · iexact H24
    ipureintro; exact View.read_writes_of_cover _ _ _ _ _ (coverB_24 m c t h0 h1 h2 (outsAt0 m c (t.val - 1) (Nat.lt_of_le_of_lt (Nat.sub_le _ _) t.isLt)))
  unfold owns; iexists _; isplitr
  swap; · iexact H25
  ipureintro; exact View.read_writes_of_cover _ _ _ _ _ (coverB_25 m c t h0 h1 h2 (outsAt0 m c (t.val - 1) (Nat.lt_of_le_of_lt (Nat.sub_le _ _) t.isLt)))

set_option maxHeartbeats 12000000 in
/-- The body at the first point of the second batch entry. -/
theorem bodyC (c : Dev nD) (t : Fin cfg0.N) (h0 : ¬t.val % 8 = 0) (h1 : t.val % 4 = 0) (h2 : ¬t.val % 8 = 7) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have hz : t.val ≠ 0 := by omega
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  obtain ⟨l0, l1, l2, l3, l4, l5, l6, l7, l8, l9, l10, l11, l12, l13, l14, l15, l16, l17, l18, l19, l21, l23, l24, l25⟩ := handed m c t
  rw [l0, after0_0, l1, after0_1, l2, after0_2, l3, after0_3, l4, after0_4, l5, after0_5, l6, after0_6, l7, after0_7, l8, after0_8, l9, after0_9, l10, after0_10, l11, after0_11, l12, after0_12, l13, after0_13, l14, after0_14, l15, after0_15, l16, after0_16, l17, after0_17, l18, after0_18, l19, after0_19, l21, after0_21, l23, after0_23, l24, after0_24, l25, after0_25]
  rw [Dat.leavesExact_idle (dats m 0 c) 20 t (idleAt0_20_C t (fun h => h0 ((hcond0_0 t).mp h)) ((hcond0_1 t).mpr h1) (fun h => h2 ((hcond0_2 t).mp h))) (noFlush0_20_C t (fun h => h0 ((hcond0_0 t).mp h)) ((hcond0_1 t).mpr h1) (fun h => h2 ((hcond0_2 t).mp h)))]
  rw [Dat.leavesExact_idle (dats m 0 c) 22 t (idleAt0_22_C t (fun h => h0 ((hcond0_0 t).mp h)) ((hcond0_1 t).mpr h1) (fun h => h2 ((hcond0_2 t).mp h))) (noFlush0_22_C t (fun h => h0 ((hcond0_0 t).mp h)) ((hcond0_1 t).mpr h1) (fun h => h2 ((hcond0_2 t).mp h)))]
  rw [PhiS_castSucc m c t, PhiS_pos m c _ _ hz]
  rw [outsAt0_C m c t h0 h1 h2]
  simp only [kept0_19 m c t hz, kept0_21 m c t hz, kept0_23 m c t hz, kept0_24 m c t hz]
  unfold leftC; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((runC m c t h0 h1 h2 (outsAt0 m c (t.val - 1) (Nat.lt_of_le_of_lt (Nat.sub_le _ _) t.isLt))).2.2.2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [HS0]; · iexact HS0
  isplitl [HS1]; · iexact HS1
  iintro ⟨H0, H1, H2, H3, H4, H5, H6, H7, H8, H9, H10, H11, H12, H13, H14, H15, ⟨%e16, H16⟩, ⟨%e17, H17⟩, ⟨%e18, H18⟩, ⟨%e19, H19⟩, H20, ⟨%e21, H21⟩, H22, ⟨%e23, H23⟩, ⟨%e24, H24⟩, ⟨%e25, H25⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (coverC_s0 m c t h0 h1 h2 (outsAt0 m c (t.val - 1) (Nat.lt_of_le_of_lt (Nat.sub_le _ _) t.isLt)))
      unfold owns; iexists _; isplitr
      swap; · iexact HS1
      ipureintro; exact View.read_writes_of_cover _ _ _ _ _ (coverC_s1 m c t h0 h1 h2 (outsAt0 m c (t.val - 1) (Nat.lt_of_le_of_lt (Nat.sub_le _ _) t.isLt)))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (coverC_16 m c t h0 h1 h2 (outsAt0 m c (t.val - 1) (Nat.lt_of_le_of_lt (Nat.sub_le _ _) t.isLt)))
  isplitl [H17]
  · unfold owns; iexists _; isplitr
    swap; · iexact H17
    ipureintro; exact View.read_writes_of_cover _ _ _ _ _ (coverC_17 m c t h0 h1 h2 (outsAt0 m c (t.val - 1) (Nat.lt_of_le_of_lt (Nat.sub_le _ _) t.isLt)))
  isplitl [H18]
  · unfold owns; iexists _; isplitr
    swap; · iexact H18
    ipureintro; exact View.read_writes_of_cover _ _ _ _ _ (coverC_18 m c t h0 h1 h2 (outsAt0 m c (t.val - 1) (Nat.lt_of_le_of_lt (Nat.sub_le _ _) t.isLt)))
  isplitl [H19]
  · unfold owns; iexists _; isplitr
    swap; · iexact H19
    ipureintro; exact View.read_writes_of_cover _ _ _ _ _ (coverC_19 m c t h0 h1 h2 (outsAt0 m c (t.val - 1) (Nat.lt_of_le_of_lt (Nat.sub_le _ _) t.isLt)))
  isplitl [H20]; · iexists _; iexact H20
  isplitl [H21]
  · unfold owns; iexists _; isplitr
    swap; · iexact H21
    ipureintro; exact View.read_writes_of_cover _ _ _ _ _ (coverC_21 m c t h0 h1 h2 (outsAt0 m c (t.val - 1) (Nat.lt_of_le_of_lt (Nat.sub_le _ _) t.isLt)))
  isplitl [H22]; · iexists _; iexact H22
  isplitl [H23]
  · unfold owns; iexists _; isplitr
    swap; · iexact H23
    ipureintro; exact View.read_writes_of_cover _ _ _ _ _ (coverC_23 m c t h0 h1 h2 (outsAt0 m c (t.val - 1) (Nat.lt_of_le_of_lt (Nat.sub_le _ _) t.isLt)))
  isplitl [H24]
  · unfold owns; iexists _; isplitr
    swap; · iexact H24
    ipureintro; exact View.read_writes_of_cover _ _ _ _ _ (coverC_24 m c t h0 h1 h2 (outsAt0 m c (t.val - 1) (Nat.lt_of_le_of_lt (Nat.sub_le _ _) t.isLt)))
  unfold owns; iexists _; isplitr
  swap; · iexact H25
  ipureintro; exact View.read_writes_of_cover _ _ _ _ _ (coverC_25 m c t h0 h1 h2 (outsAt0 m c (t.val - 1) (Nat.lt_of_le_of_lt (Nat.sub_le _ _) t.isLt)))

set_option maxHeartbeats 12000000 in
/-- The body at the last point. -/
theorem bodyD (c : Dev nD) (t : Fin cfg0.N) (h0 : ¬t.val % 8 = 0) (h1 : ¬t.val % 4 = 0) (h2 : t.val % 8 = 7) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have hz : t.val ≠ 0 := by omega
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  obtain ⟨l0, l1, l2, l3, l4, l5, l6, l7, l8, l9, l10, l11, l12, l13, l14, l15, l16, l17, l18, l19, l21, l23, l24, l25⟩ := handed m c t
  rw [l0, after0_0, l1, after0_1, l2, after0_2, l3, after0_3, l4, after0_4, l5, after0_5, l6, after0_6, l7, after0_7, l8, after0_8, l9, after0_9, l10, after0_10, l11, after0_11, l12, after0_12, l13, after0_13, l14, after0_14, l15, after0_15, l16, after0_16, l17, after0_17, l18, after0_18, l19, after0_19, l21, after0_21, l23, after0_23, l24, after0_24, l25, after0_25]
  rw [show (dats m 0 c).leavesExact 20 t = owns (c : Thread nD τ) (ms0_20 t) fullShare ((dats m 0 c).after 20 t) from by
      unfold Dat.leavesExact; rw [liveAt0_20_D t (fun h => h0 ((hcond0_0 t).mp h)) (fun h => h1 ((hcond0_1 t).mp h)) ((hcond0_2 t).mpr h2)], after0_20]
  rw [show (dats m 0 c).leavesExact 22 t = owns (c : Thread nD τ) (ms0_22 t) fullShare ((dats m 0 c).after 22 t) from by
      unfold Dat.leavesExact; rw [liveAt0_22_D t (fun h => h0 ((hcond0_0 t).mp h)) (fun h => h1 ((hcond0_1 t).mp h)) ((hcond0_2 t).mpr h2)], after0_22]
  rw [PhiS_castSucc m c t, PhiS_pos m c _ _ hz]
  rw [outsAt0_D m c t h0 h1 h2]
  simp only [kept0_19 m c t hz, kept0_21 m c t hz, kept0_23 m c t hz, kept0_24 m c t hz, kept0_25 m c t hz h1]
  unfold leftD; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((runD m c t h0 h1 h2 (outsAt0 m c (t.val - 1) (Nat.lt_of_le_of_lt (Nat.sub_le _ _) t.isLt))).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexact H19
  isplitl [H20]; · iexists _; iexact H20
  isplitl [H21]; · iexact H21
  isplitl [H22]; · iexists _; iexact H22
  isplitl [H23]; · iexact H23
  isplitl [H24]; · iexact H24
  isplitl [H25]; · iexact H25
  isplitl [HS0]; · iexact HS0
  isplitl [HS1]; · iexact HS1
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (coverD_s0 m c t h0 h1 h2 (outsAt0 m c (t.val - 1) (Nat.lt_of_le_of_lt (Nat.sub_le _ _) t.isLt)))
      unfold owns; iexists _; isplitr
      swap; · iexact HS1
      ipureintro; exact View.read_writes_of_cover _ _ _ _ _ (coverD_s1 m c t h0 h1 h2 (outsAt0 m c (t.val - 1) (Nat.lt_of_le_of_lt (Nat.sub_le _ _) t.isLt)))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (coverD_16 m c t h0 h1 h2 (outsAt0 m c (t.val - 1) (Nat.lt_of_le_of_lt (Nat.sub_le _ _) t.isLt)))
  isplitl [H17]
  · unfold owns; iexists _; isplitr
    swap; · iexact H17
    ipureintro; exact View.read_writes_of_cover _ _ _ _ _ (coverD_17 m c t h0 h1 h2 (outsAt0 m c (t.val - 1) (Nat.lt_of_le_of_lt (Nat.sub_le _ _) t.isLt)))
  isplitl [H18]
  · unfold owns; iexists _; isplitr
    swap; · iexact H18
    ipureintro; exact View.read_writes_of_cover _ _ _ _ _ (coverD_18 m c t h0 h1 h2 (outsAt0 m c (t.val - 1) (Nat.lt_of_le_of_lt (Nat.sub_le _ _) t.isLt)))
  isplitl [H19]
  · unfold owns; iexists _; isplitr
    swap; · iexact H19
    ipureintro; exact View.read_writes_of_cover _ _ _ _ _ (coverD_19 m c t h0 h1 h2 (outsAt0 m c (t.val - 1) (Nat.lt_of_le_of_lt (Nat.sub_le _ _) t.isLt)))
  isplitl [H20]
  · unfold owns; iexists _; isplitr
    swap; · iexact H20
    ipureintro; exact View.read_writes_of_cover _ _ _ _ _ (coverD_20 m c t h0 h1 h2 (outsAt0 m c (t.val - 1) (Nat.lt_of_le_of_lt (Nat.sub_le _ _) t.isLt)))
  isplitl [H21]
  · unfold owns; iexists _; isplitr
    swap; · iexact H21
    ipureintro; exact View.read_writes_of_cover _ _ _ _ _ (coverD_21 m c t h0 h1 h2 (outsAt0 m c (t.val - 1) (Nat.lt_of_le_of_lt (Nat.sub_le _ _) t.isLt)))
  isplitl [H22]
  · unfold owns; iexists _; isplitr
    swap; · iexact H22
    ipureintro; exact View.read_writes_of_cover _ _ _ _ _ (coverD_22 m c t h0 h1 h2 (outsAt0 m c (t.val - 1) (Nat.lt_of_le_of_lt (Nat.sub_le _ _) t.isLt)))
  isplitl [H23]
  · unfold owns; iexists _; isplitr
    swap; · iexact H23
    ipureintro; exact View.read_writes_of_cover _ _ _ _ _ (coverD_23 m c t h0 h1 h2 (outsAt0 m c (t.val - 1) (Nat.lt_of_le_of_lt (Nat.sub_le _ _) t.isLt)))
  isplitl [H24]
  · unfold owns; iexists _; isplitr
    swap; · iexact H24
    ipureintro; exact View.read_writes_of_cover _ _ _ _ _ (coverD_24 m c t h0 h1 h2 (outsAt0 m c (t.val - 1) (Nat.lt_of_le_of_lt (Nat.sub_le _ _) t.isLt)))
  unfold owns; iexists _; isplitr
  swap; · iexact H25
  ipureintro; exact View.read_writes_of_cover _ _ _ _ _ (coverD_25 m c t h0 h1 h2 (outsAt0 m c (t.val - 1) (Nat.lt_of_le_of_lt (Nat.sub_le _ _) t.isLt)))

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  by_cases h1 : t.val % 4 = 0
  · by_cases h0 : t.val % 8 = 0
    · exact bodyA m c t h0 h1 (by omega)
    · exact bodyC m c t h0 h1 (by omega)
  · by_cases h2 : t.val % 8 = 7
    · exact bodyD m c t (by omega) h1 h2
    · exact bodyB m c t (by omega) h1 h2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel6Ideal.Gen

end
-- ==== Proof.MidRow.lean ====
module

public import proofs.«01_k».proof.Proof.MidSpec
public import Idealize.ShloMosaic.Lib.Pointwise

@[expose] public section

noncomputable section

/-! The two gradients of the middle of the step, row by row, as functions of the whole arrays. -/

namespace Cert.Mid

open Idealize.ShloMosaic

variable (x0 x1 : FVec Ideal ⟨3, ![2, 2048, 1024]⟩ .f32) (x2 : FVec Ideal ⟨2, ![4096, 512]⟩ .f32) (x3 : FVec Ideal ⟨2, ![4096, 3328]⟩ .f32)
  (x4 : FVec Ideal ⟨2, ![512, 512]⟩ .f32) (x5 : FVec Ideal ⟨3, ![4, 128, 128]⟩ .f32) (x6 : FVec Ideal ⟨2, ![4, 128]⟩ .f32)
  (x7 : FVec Ideal ⟨2, ![1, 256]⟩ .f32) (x8 : FVec Ideal ⟨2, ![1024, 1024]⟩ .f32) (x9 : FVec Ideal ⟨1, ![1024]⟩ .f32)

/-- Row `R` of an array given by batch entries. -/
def tokenM (x : FVec Ideal ⟨3, ![2, 2048, 1024]⟩ .f32) (R : Fin 4096) (j : Fin 1024) : EReal :=
  x (ix3 ⟨R.val / 2048, by omega⟩ ⟨R.val % 2048, by omega⟩ j)

/-- The columns of row `R` of the projection from column `o` on. -/
def colsM (W o : ℕ) (h : o + W ≤ 3328) (R : Fin 4096) (j : Fin W) : EReal := x3 (ix2 R ⟨o + j.val, by omega⟩)

/-- The branch mixed along the chunk of row `R`. -/
def mixM (R : Fin 4096) (j : Fin 256) : EReal :=
  mixed (fun g k => x5 (ix3 g ⟨R.val % 128, by omega⟩ k)) (x6 (ix2 (grp j) ⟨R.val % 128, by omega⟩))
    (fun k => vn (colsM x3 256 2304 (by decide) ⟨128 * (R.val / 128) + k.val, by omega⟩) (fun j => x7 (ix2 0 j))) j

/-- What row `R` reads from the values of its batch entry. -/
def readM (R : Fin 4096) (j : Fin 256) : EReal :=
  readout (colsM x3 256 2816 (by decide) R) (fun m j => x4 (ix2 ⟨256 * (R.val / 2048) + m.val, by omega⟩ j)) j

/-- The joined branches of row `R`. -/
def gateM (R : Fin 4096) : Fin 1024 → EReal :=
  join (fun j => silu (colsM x3 512 1536 (by decide) R j) * x2 (ix2 R j))
    (fun j => silu (colsM x3 256 2560 (by decide) R j) * (gelu (colsM x3 256 2048 (by decide) R j) * mixM x3 x5 x6 x7 R j))
    (fun j => silu (colsM x3 256 3072 (by decide) R j) * readM x3 x4 R j)

/-- Row `R` after the residual step. -/
def residM (R : Fin 4096) : Fin 1024 → EReal :=
  resid (tokenM x0 R) (gateM x2 x3 x4 x5 x6 x7 R) (fun k j => x8 (ix2 k j))

/-- The gradient with respect to row `R`. -/
def dxM (R : Fin 4096) (j : Fin 1024) : EReal :=
  dx2 (residM x0 x2 x3 x4 x5 x6 x7 x8 R) (fun j => x9 (ix1 j)) (tokenM x1 R) j

/-- The gradient with respect to the first branch's factor at row `R`. -/
def daM (R : Fin 4096) (j : Fin 512) : EReal :=
  da (residM x0 x2 x3 x4 x5 x6 x7 x8 R) (fun j => x9 (ix1 j)) (tokenM x1 R) (fun k j => x8 (ix2 k j)) (colsM x3 512 1536 (by decide) R) j

end Cert.Mid

end
-- ==== Proof.MidArr.lean ====
module

public import proofs.«01_k».proof.Proof.MidCase
public import proofs.«01_k».proof.Proof.MidFrame
public import proofs.«01_k».proof.Proof.MidRow
public import Idealize.ShloMosaic.Lib.Pointwise
public import Idealize.ShloMosaic.Lib.Pipeline.ValueKit
public import Idealize.ShloMosaic.Lib.Pipeline.ReadBack

@[expose] public section

set_option maxRecDepth 16384

noncomputable section

/-! The arrays of the two gradients after the run. -/

namespace Cert.Mid

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin grid0.N,
    win0_0.index t = ![t.val, 0] ∧ win0_1.index t = ![t.val, 0] ∧ win0_2.index t = ![t.val, 0] ∧ win0_3.index t = ![t.val, 3]
    ∧ win0_4.index t = ![t.val, 8] ∧ win0_5.index t = ![t.val, 9] ∧ win0_6.index t = ![t.val, 10] ∧ win0_7.index t = ![t.val, 11]
    ∧ win0_8.index t = ![t.val, 12] ∧ win0_9.index t = ![t.val / 4, 0] ∧ win0_10.index t = ![0, 0, 0] ∧ win0_12.index t = ![0, 0]
    ∧ win0_13.index t = ![0, 0] ∧ win0_14.index t = ![0, 0] ∧ win0_15.index t = ![0, 0] ∧ win0_16.index t = ![t.val, 0]
    ∧ win0_17.index t = ![t.val, 0] := by
  decide +kernel

section Blocks
variable (c : Dev nD) (t : Fin cfg0.N)

theorem iblk0 (r : Fin 512) (j : Fin 1024) (R : Fin 4096) (hR : R.val = 512 * t.val + r.val) :
    (iblk m c 0 t : Vec Ideal S512x1024 .f32) (ix2 r j) = tokenM (m (c.tc.loc main_arg0)) R j := by
  unfold tokenM
  blk_simp [iblk, idx t]
  entry_read
  pointwise
  blk_ext [idx t]

theorem iblk1 (r : Fin 512) (j : Fin 1024) (R : Fin 4096) (hR : R.val = 512 * t.val + r.val) :
    (iblk m c 1 t : Vec Ideal S512x1024 .f32) (ix2 r j) = tokenM (m (c.tc.loc main_arg1)) R j := by
  unfold tokenM
  blk_simp [iblk, idx t]
  entry_read
  pointwise
  blk_ext [idx t]

theorem iblk2 (r j : Fin 512) (R : Fin 4096) (hR : R.val = 512 * t.val + r.val) :
    (iblk m c 2 t : Vec Ideal S512x512 .f32) (ix2 r j) = m (c.tc.loc main_arg2) (ix2 R j) := by
  blk_ext [iblk, V, idx t]

theorem iblk3 (r j : Fin 512) (R : Fin 4096) (hR : R.val = 512 * t.val + r.val) :
    X0_3 m c t (ix2 r j) = colsM (m (c.tc.loc main_arg3)) 512 1536 (by decide) R j := by
  unfold X0_3 Pipeline.Window.fill colsM
  rw [dif_pos (moved0_3 t (ix2 r j))]
  blk_ext [iblk, V, idx t]

theorem iblk4 (r : Fin 512) (j : Fin 256) (R : Fin 4096) (hR : R.val = 512 * t.val + r.val) :
    (iblk m c 4 t : Vec Ideal S512x256 .f32) (ix2 r j) = colsM (m (c.tc.loc main_arg3)) 256 2048 (by decide) R j := by
  unfold colsM
  blk_ext [iblk, V, idx t]

theorem iblk5 (r : Fin 512) (j : Fin 256) (R : Fin 4096) (hR : R.val = 512 * t.val + r.val) :
    (iblk m c 5 t : Vec Ideal S512x256 .f32) (ix2 r j) = colsM (m (c.tc.loc main_arg3)) 256 2304 (by decide) R j := by
  unfold colsM
  blk_ext [iblk, V, idx t]

theorem iblk6 (r : Fin 512) (j : Fin 256) (R : Fin 4096) (hR : R.val = 512 * t.val + r.val) :
    (iblk m c 6 t : Vec Ideal S512x256 .f32) (ix2 r j) = colsM (m (c.tc.loc main_arg3)) 256 2560 (by decide) R j := by
  unfold colsM
  blk_ext [iblk, V, idx t]

theorem iblk7 (r : Fin 512) (j : Fin 256) (R : Fin 4096) (hR : R.val = 512 * t.val + r.val) :
    (iblk m c 7 t : Vec Ideal S512x256 .f32) (ix2 r j) = colsM (m (c.tc.loc main_arg3)) 256 2816 (by decide) R j := by
  unfold colsM
  blk_ext [iblk, V, idx t]

theorem iblk8 (r : Fin 512) (j : Fin 256) (R : Fin 4096) (hR : R.val = 512 * t.val + r.val) :
    (iblk m c 8 t : Vec Ideal S512x256 .f32) (ix2 r j) = colsM (m (c.tc.loc main_arg3)) 256 3072 (by decide) R j := by
  unfold colsM
  blk_ext [iblk, V, idx t]

theorem iblk9 (k : Fin 256) (j K : Fin 512) (hK : K.val = 256 * (t.val / 4) + k.val) :
    (iblk m c 9 t : Vec Ideal S256x512 .f32) (ix2 k j) = m (c.tc.loc main_arg4) (ix2 K j) := by
  blk_ext [iblk, V, idx t]

theorem iblk10 (g : Fin 4) (i k : Fin 128) :
    (iblk m c 10 t : Vec Ideal S4x128x128 .f32) (ix3 g i k) = m (c.tc.loc main_arg5) (ix3 g i k) := by
  blk_ext [iblk, V, idx t]

theorem iblk12 (i : Fin 128) (j : Fin 256) :
    (iblk m c 12 t : Vec Ideal S128x256 .f32) (ix2 i j) = m (c.tc.loc main_arg6) (ix2 (grp j) i) := by
  unfold grp
  blk_simp [iblk, idx t]
  entry_read
  pointwise
  blk_ext [idx t]

theorem iblk13 (j : Fin 256) :
    (iblk m c 13 t : Vec Ideal S1x256 .f32) (ix2 0 j) = m (c.tc.loc main_arg7) (ix2 0 j) := by
  blk_ext [iblk, V, idx t]

theorem iblk14 (k j : Fin 1024) :
    (iblk m c 14 t : Vec Ideal S1024x1024 .bf16) (ix2 k j) = m (c.tc.loc main_arg8) (ix2 k j) := by
  blk_simp [iblk, idx t]
  entry_read
  pointwise
  blk_ext [idx t]

theorem iblk15 (j : Fin 1024) :
    (iblk m c 15 t : Vec Ideal S1x1024 .f32) (ix2 0 j) = m (c.tc.loc main_arg9) (ix1 j) := by
  blk_simp [iblk, idx t]
  entry_read
  pointwise
  blk_ext [idx t]

end Blocks

/-- A point's rows after the residual step are the array's. -/
theorem x2At_eq (c : Dev nD) (t : Fin cfg0.N) (r : Fin 512) (R : Fin 4096) (hR : R.val = 512 * t.val + r.val) :
    x2At m c t r = residM (m (c.tc.loc main_arg0)) (m (c.tc.loc main_arg2)) (m (c.tc.loc main_arg3)) (m (c.tc.loc main_arg4))
      (m (c.tc.loc main_arg5)) (m (c.tc.loc main_arg6)) (m (c.tc.loc main_arg7)) (m (c.tc.loc main_arg8)) R := by
  have hN : cfg0.N = 8 := N_0
  have ht := t.isLt
  have hm : r.val % 128 = R.val % 128 := by omega
  have hb : R.val / 2048 = t.val / 4 := by omega
  unfold x2At residRow residM
  refine congr (congr (congrArg resid (funext fun j => iblk0 m c t r j R hR)) ?_) (funext fun k => funext fun j => iblk14 m c t k j)
  unfold gateRow gateM
  refine congr (congr (congrArg join (funext fun j => ?_)) (funext fun j => ?_)) (funext fun j => ?_)
  · exact congrArg₂ (fun x y : EReal => silu x * y) (iblk3 m c t r j R hR) (iblk2 m c t r j R hR)
  · refine congrArg₂ (fun x y : EReal => silu x * y) (iblk6 m c t r j R hR) ?_
    refine congrArg₂ (fun x y : EReal => gelu x * y) (iblk4 m c t r j R hR) ?_
    unfold mixM
    refine congrFun (congr (congr (congrArg mixed (funext fun g => funext fun k => ?_)) ?_) (funext fun k => ?_)) j
    · simp only [hm]
      exact iblk10 m c t g _ k
    · simp only [hm]
      exact iblk12 m c t _ j
    · refine congr (congrArg vn (funext fun i => ?_)) (funext fun i => iblk13 m c t i)
      exact iblk5 m c t _ i _ (by show 128 * (R.val / 128) + k.val = 512 * t.val + (128 * (r.val / 128) + k.val); omega)
  · refine congrArg₂ (fun x y : EReal => silu x * y) (iblk8 m c t r j R hR) ?_
    unfold readM
    refine congrFun (congr (congrArg readout (funext fun i => iblk7 m c t r i R hR)) (funext fun k => funext fun i => ?_)) j
    exact iblk9 m c t k i _ (by show 256 * (R.val / 2048) + k.val = 256 * (t.val / 4) + k.val; omega)

/-- What a point leaves of the rows' gradient. -/
theorem point16 (c : Dev nD) (t : Fin cfg0.N) (r : Fin 512) (j : Fin 1024) (R : Fin 4096) (hR : R.val = 512 * t.val + r.val) :
    (outsAt0 m c t.val t.isLt).1 (ix2 r j) = dxM (m (c.tc.loc main_arg0)) (m (c.tc.loc main_arg1)) (m (c.tc.loc main_arg2))
      (m (c.tc.loc main_arg3)) (m (c.tc.loc main_arg4)) (m (c.tc.loc main_arg5)) (m (c.tc.loc main_arg6)) (m (c.tc.loc main_arg7))
      (m (c.tc.loc main_arg8)) (m (c.tc.loc main_arg9)) R j := by
  rw [out16]
  unfold dx2At dxM
  rw [x2At_eq m c t r R hR]
  exact congrFun (congr (congrArg (dx2 _) (funext fun k => iblk15 m c t k)) (funext fun k => iblk1 m c t r k R hR)) j

/-- What a point leaves of the gradient of the first branch's factor. -/
theorem point17 (c : Dev nD) (t : Fin cfg0.N) (r j : Fin 512) (R : Fin 4096) (hR : R.val = 512 * t.val + r.val) :
    (outsAt0 m c t.val t.isLt).2.1 (ix2 r j) = daM (m (c.tc.loc main_arg0)) (m (c.tc.loc main_arg1)) (m (c.tc.loc main_arg2))
      (m (c.tc.loc main_arg3)) (m (c.tc.loc main_arg4)) (m (c.tc.loc main_arg5)) (m (c.tc.loc main_arg6)) (m (c.tc.loc main_arg7))
      (m (c.tc.loc main_arg8)) (m (c.tc.loc main_arg9)) R j := by
  rw [out17]
  unfold daAt daM
  rw [x2At_eq m c t r R hR]
  exact congrFun (congr (congr (congr (congrArg (da _) (funext fun k => iblk15 m c t k)) (funext fun k => iblk1 m c t r k R hR))
    (funext fun k => funext fun i => iblk14 m c t k i)) (funext fun k => iblk3 m c t r k R hR)) j

/-- The array of the rows' gradient after the run. -/
theorem final16 (c : Dev nD) : (dats m 0 c).arrAt 16 cfg0.N = fun y => dxM (m (c.tc.loc main_arg0)) (m (c.tc.loc main_arg1))
    (m (c.tc.loc main_arg2)) (m (c.tc.loc main_arg3)) (m (c.tc.loc main_arg4)) (m (c.tc.loc main_arg5)) (m (c.tc.loc main_arg6))
    (m (c.tc.loc main_arg7)) (m (c.tc.loc main_arg8)) (m (c.tc.loc main_arg9)) (y 0) (y 1) := by
  refine (dats m 0 c).arrAt_eq_of_covers 16 _ (by decide +kernel) fun t hf y => ?_
  blk_simp
  rw [after0_16]
  idx_vars y
  rw [point16 m c t y0 y1 (((View.whole main_v8_0).slice (win0_16.rect t)).emb (ix2 y0 y1) 0) (by blk_simp [idx t]; omega)]
  refine congrArg _ (Fin.ext ?_)
  blk_simp [idx t]

/-- The array of the gradient of the first branch's factor after the run. -/
theorem final17 (c : Dev nD) : (dats m 0 c).arrAt 17 cfg0.N = fun y => daM (m (c.tc.loc main_arg0)) (m (c.tc.loc main_arg1))
    (m (c.tc.loc main_arg2)) (m (c.tc.loc main_arg3)) (m (c.tc.loc main_arg4)) (m (c.tc.loc main_arg5)) (m (c.tc.loc main_arg6))
    (m (c.tc.loc main_arg7)) (m (c.tc.loc main_arg8)) (m (c.tc.loc main_arg9)) (y 0) (y 1) := by
  refine (dats m 0 c).arrAt_eq_of_covers 17 _ (by decide +kernel) fun t hf y => ?_
  blk_simp
  rw [after0_17]
  idx_vars y
  rw [point17 m c t y0 y1 (((View.whole main_v8_1).slice (win0_17.rect t)).emb (ix2 y0 y1) 0) (by blk_simp [idx t]; omega)]
  refine congrArg _ (Fin.ext ?_)
  blk_simp [idx t]

end Cert.Mid

end
-- ==== Proof.MidMath.lean ====
module

public import proofs.«01_k».proof.Proof.MidRow

@[expose] public section

noncomputable section

/-! The steps between the two ways of writing the middle of the step: the smooth gate by the hyperbolic tangent, the
weights of the keys as quotients, the gradient of the loss. -/

namespace Cert.Mid

open Idealize.ShloMosaic

/-- The two words of the smooth gate's scale: one is twice the other. -/
theorem cgelu : ∃ a : ℝ, 0 < a ∧ word 0x3F4C422A#32 = (a : EReal) ∧ word 0x3FCC422A#32 = ((2 * a : ℝ) : EReal) := by
  refine ⟨_, ?_, by simp [Ideal.ofBits, Ideal.ieee, -EReal.coe_mul]; rfl, ?_⟩
  · norm_num
  · simp [Ideal.ofBits, Ideal.ieee, -EReal.coe_mul]; norm_num

theorem chalf : word 0x3F000000#32 = ((1 / 2 : ℝ) : EReal) := by
  simp [Ideal.ofBits, Ideal.ieee, -EReal.coe_mul]; norm_num

theorem cone : word 0x3F800000#32 = 1 := by
  simp [Ideal.ofBits, Ideal.ieee, -EReal.coe_mul]

theorem ctwo : word 0x40000000#32 = ((2 : ℝ) : EReal) := by
  simp [Ideal.ofBits, Ideal.ieee, -EReal.coe_mul]; norm_num

theorem cinv1024 : word 0x3A800000#32 = ((1024⁻¹ : ℝ) : EReal) := by
  simp [Ideal.ofBits, Ideal.ieee, -EReal.coe_mul]; norm_num

theorem cbot : word 0xFF800000#32 = ⊥ := by
  simp [Ideal.ofBits, Ideal.ieee]

/-- The logistic function of twice a number, by the hyperbolic tangent. -/
theorem logistic_two (u : EReal) : Ideal.logistic (((2 : ℝ) : EReal) * u) = ((1 / 2 : ℝ) : EReal) * (1 + Ideal.tanh u) := by
  induction u with
  | bot =>
    rw [EReal.coe_mul_bot_of_pos (by norm_num), Ideal.logistic_bot, Ideal.tanh_bot]
    rw [← EReal.coe_one, ← EReal.coe_neg, ← EReal.coe_add, ← EReal.coe_mul]
    norm_num
  | top =>
    rw [EReal.coe_mul_top_of_pos (by norm_num), Ideal.logistic_top, Ideal.tanh_top]
    rw [show (1 : EReal) + 1 = ((2 : ℝ) : EReal) by norm_cast, ← EReal.coe_mul]
    norm_num
  | coe r =>
    rw [← EReal.coe_mul, Ideal.logistic_coe, Ideal.tanh_coe, ← EReal.coe_one, ← EReal.coe_add, ← EReal.coe_mul]
    congr 1
    have h1 : 0 < Real.exp r := Real.exp_pos r
    have h2 : Real.exp (-(2 * r)) = Real.exp (-r) * Real.exp (-r) := by rw [← Real.exp_add]; ring_nf
    have h3 : Real.exp (-r) = (Real.exp r)⁻¹ := Real.exp_neg r
    rw [Real.tanh_eq_sinh_div_cosh, Real.sinh_eq, Real.cosh_eq, h2, h3]
    field_simp
    ring

/-- The smooth gate by the hyperbolic tangent. -/
theorem gelu_tanh (x : EReal) :
    x * (word 0x3F000000#32 * (1
      + Ideal.tanh (word 0x3F4C422A#32 * (x + word 0x3D372713#32 * ((x * x) * x))))) = gelu x := by
  obtain ⟨a, ha, h1, h2⟩ := cgelu
  unfold gelu
  rw [h1, h2, chalf, mul_assoc x x x, ← logistic_two, EReal.coe_mul, mul_assoc]

/-- The greatest of a row of real scores is real. -/
theorem top_real (s : Fin 256 → EReal) (hs : ∀ m, ∃ a : ℝ, s m = (a : EReal)) : ∃ a : ℝ, top s = (a : EReal) := by
  have h1 : top s ≠ ⊤ := by
    refine ne_of_lt ((Finset.fold_max_lt _).mpr ⟨by rw [cbot]; exact bot_lt_top, fun m _ => ?_⟩)
    obtain ⟨a, ha⟩ := hs m
    rw [ha]; exact EReal.coe_lt_top a
  have h2 : top s ≠ ⊥ := by
    obtain ⟨a, ha⟩ := hs 0
    intro h
    have : s 0 ≤ top s := (Finset.le_fold_max _).mpr (.inr ⟨0, Finset.mem_univ _, le_rfl⟩)
    rw [h, ha] at this
    exact EReal.coe_ne_bot a (le_bot_iff.mp this)
  exact ⟨(top s).toReal, (EReal.coe_toReal h1 h2).symm⟩

/-- The weight of a key as a quotient, for real scores. -/
theorem weight_div (s : Fin 256 → EReal) (hs : ∀ m, ∃ a : ℝ, s m = (a : EReal)) (m : Fin 256) :
    Ideal.div (Ideal.exp (s m - top s)) (∑ i, Ideal.exp (s i - top s)) = weight s m := by
  obtain ⟨t, ht⟩ := top_real s hs
  choose a ha using hs
  have hsum : ∑ i, Ideal.exp (s i - top s) = ((∑ i, Real.exp (a i - t) : ℝ) : EReal) := by
    rw [Norm.coe_sum]
    exact Finset.sum_congr rfl fun i _ => by rw [ha i, ht, ← EReal.coe_sub, Ideal.exp_coe]
  have hpos : (∑ i, Real.exp (a i - t)) ≠ 0 :=
    (Finset.sum_pos (fun i _ => Real.exp_pos _) ⟨0, Finset.mem_univ _⟩).ne'
  unfold weight
  rw [hsum, Norm.div_coe _ _ hpos, Norm.div_coe _ _ hpos, one_mul]

/-- A score of real factors is real. -/
theorem score_real (q : Fin 256 → EReal) (kv : Fin 256 → Fin 512 → EReal) (hq : ∀ j, ∃ a : ℝ, q j = (a : EReal))
    (hk : ∀ (m : Fin 256) (j : Fin 256), ∃ a : ℝ, kv m (j.castLE (by decide)) = (a : EReal)) (h : Fin 4) (m : Fin 256) :
    ∃ a : ℝ, score q kv h m = (a : EReal) := by
  choose a ha using hq
  choose b hb using hk
  refine ⟨(∑ e, a (lane h e) * b m (lane h e)) * (1 / 8), ?_⟩
  unfold score
  rw [ceighth, EReal.coe_mul, Norm.coe_sum]
  refine congrArg (· * _) (Finset.sum_congr rfl fun e _ => ?_)
  rw [ha, hb, EReal.coe_mul]

/-- A number that is less than infinity in magnitude is real. -/
theorem real_of_lt (x : EReal) (h : max x (-x) < ⊤) : ∃ a : ℝ, x = (a : EReal) := by
  induction x with
  | coe a => exact ⟨a, rfl⟩
  | top => simp at h
  | bot => simp at h

/-- The factor of the loss's gradient. -/
theorem loss_factor (e : EReal) :
    Ideal.div (word 0x3F000000#32) (word 0x44800000#32) * (word 0x40000000#32 * e) = e * word 0x3A800000#32 := by
  rw [chalf, ctwo, cinv1024, show word 0x44800000#32 = ((1024 : ℝ) : EReal) from Norm.c1024, Norm.div_coe _ _ (by norm_num),
    ← mul_assoc, mul_comm e, ← EReal.coe_mul, ← EReal.coe_mul]
  congr 2
  norm_num

end Cert.Mid

end
-- ==== Proof.MidMax.lean ====
module

public import Idealize.ShloMosaic.Lib.StableHlo
public import Idealize.ShloMosaic.Lib.Pointwise
public import proofs.«01_k».proof.Proof.MidMath

@[expose] public section

noncomputable section

namespace Cert.Mid.Ref

open Idealize.ShloMosaic

/-- The greatest entry along the last axis, as the reference takes it. -/
theorem hostMax {n0 n1 n2 n3 : ℕ} (y : FVec Ideal ⟨4, ![n0, n1, n2, n3]⟩ .f32) (c : FVec Ideal ⟨0, ![]⟩ .f32)
    (hr : (⟨4, ![n0, n1, n2, n3]⟩ : Shape).ReducesTo [3] ⟨3, ![n0, n1, n2]⟩) (h0 : 0 < (⟨0, ![]⟩ : Shape).numel)
    (a : Fin n0) (b : Fin n1) (d : Fin n2) :
    Host.reduce FloatOps.maximumf y c hr h0 (ix3 a b d)
      = Finset.fold max (c (Shape.Idx.first h0)) (fun k => y (ix4 a b d k)) Finset.univ := by
  simp only [pointwise]

end Cert.Mid.Ref

end
-- ==== Proof.MidRef.lean ====
module

public import proofs.«01_k».proof.Proof.MidMax
public import proofs.«01_k».proof.Proof.Gen.Reference6Ideal.Read
public import Idealize.ShloMosaic.Lib.Pointwise

@[expose] public section

set_option maxRecDepth 16384

noncomputable section

/-! The reference of the middle of the step, row by row. -/

namespace Cert.Mid.Ref

open Cert.Reference6Ideal Cert.Reference6Ideal.Gen Cert.Reference6Ideal.Read Idealize.ShloMosaic Idealize.ShloMosaic.TcCoe

variable (x0 x1 : (⟨S2x2048x1024, .f32⟩ : BufTy).Contents (Elt Ideal)) (x2 : (⟨S4096x512, .f32⟩ : BufTy).Contents (Elt Ideal))
  (x3 : (⟨S4096x3328, .f32⟩ : BufTy).Contents (Elt Ideal)) (x4 : (⟨S512x512, .f32⟩ : BufTy).Contents (Elt Ideal))
  (x5 : (⟨S4x128x128, .f32⟩ : BufTy).Contents (Elt Ideal)) (x6 : (⟨S4x128, .f32⟩ : BufTy).Contents (Elt Ideal))
  (x7 : (⟨S1x256, .f32⟩ : BufTy).Contents (Elt Ideal)) (x8 : (⟨S1024x1024, .f32⟩ : BufTy).Contents (Elt Ideal))
  (x9 : (⟨S1024, .f32⟩ : BufTy).Contents (Elt Ideal))

/-- The product of two extended reals. -/
abbrev mul (a b : EReal) : EReal := a * b

/-- The sum of two extended reals. -/
abbrev add (a b : EReal) : EReal := a + b

/-- The row of place `s` in batch entry `b`. -/
abbrev row (b : Fin 2) (s : Fin 2048) : Fin 4096 := ⟨2048 * b.val + s.val, by omega⟩

section Columns
variable (b : Fin 2) (s : Fin 2048)

theorem v2 (j : Fin 512) : val_main_v2 (F := Ideal) x3 (ix3 b s j) = colsM x3 512 1536 (by decide) (row b s) j := by
  pointwise [val_main_v2, val_main_v1, val_main_v0]
  exact congrArg x3 (congrArg₂ ix2 (Fin.ext (by simp only; omega)) (Fin.ext rfl))

theorem v3 (j : Fin 256) : val_main_v3 (F := Ideal) x3 (ix3 b s j) = colsM x3 256 2048 (by decide) (row b s) j := by
  pointwise [val_main_v3, val_main_v1, val_main_v0]
  exact congrArg x3 (congrArg₂ ix2 (Fin.ext (by simp only; omega)) (Fin.ext (by simp only; omega)))

theorem v4 (j : Fin 256) : val_main_v4 (F := Ideal) x3 (ix3 b s j) = colsM x3 256 2304 (by decide) (row b s) j := by
  pointwise [val_main_v4, val_main_v1, val_main_v0]
  exact congrArg x3 (congrArg₂ ix2 (Fin.ext (by simp only; omega)) (Fin.ext (by simp only; omega)))

theorem v5 (j : Fin 256) : val_main_v5 (F := Ideal) x3 (ix3 b s j) = colsM x3 256 2560 (by decide) (row b s) j := by
  pointwise [val_main_v5, val_main_v1, val_main_v0]
  exact congrArg x3 (congrArg₂ ix2 (Fin.ext (by simp only; omega)) (Fin.ext (by simp only; omega)))

theorem v6 (j : Fin 256) : val_main_v6 (F := Ideal) x3 (ix3 b s j) = colsM x3 256 2816 (by decide) (row b s) j := by
  pointwise [val_main_v6, val_main_v1, val_main_v0]
  exact congrArg x3 (congrArg₂ ix2 (Fin.ext (by simp only; omega)) (Fin.ext (by simp only; omega)))

theorem v7 (j : Fin 256) : val_main_v7 (F := Ideal) x3 (ix3 b s j) = colsM x3 256 3072 (by decide) (row b s) j := by
  pointwise [val_main_v7, val_main_v1, val_main_v0]
  exact congrArg x3 (congrArg₂ ix2 (Fin.ext (by simp only; omega)) (Fin.ext (by simp only; omega)))

/-- The smooth gates. -/
theorem v20 (j : Fin 256) : val_main_v20 (F := Ideal) x3 (ix3 b s j) = gelu (val_main_v3 (F := Ideal) x3 (ix3 b s j)) := by
  unfold val_main_v20 val_main_v19 val_main_v17 val_main_v15 val_main_v14 val_main_v12 val_main_v11 val_main_v9 val_main_v8
  generalize val_main_v3 (F := Ideal) x3 = d
  pointwise [val_main_v10, val_main_v13, val_main_v16, val_main_v18, val_main_cst, val_main_cst_0, val_main_cst_1, val_main_cst_2]
  exact gelu_tanh _

theorem v33 (j : Fin 256) : val_main_v33 (F := Ideal) x3 (ix3 b s j) = gelu (val_main_v4 (F := Ideal) x3 (ix3 b s j)) := by
  unfold val_main_v33 val_main_v32 val_main_v30 val_main_v28 val_main_v27 val_main_v25 val_main_v24 val_main_v22 val_main_v21
  generalize val_main_v4 (F := Ideal) x3 = d
  pointwise [val_main_v23, val_main_v26, val_main_v29, val_main_v31, val_main_cst_3, val_main_cst_4, val_main_cst_5, val_main_cst_6]
  exact gelu_tanh _

/-- The gates of the three branches. -/
theorem v79 (j : Fin 512) : val_main_v79 (F := Ideal) x3 (ix3 b s j) = silu (val_main_v2 (F := Ideal) x3 (ix3 b s j)) := by
  unfold val_main_v79 val_main_call0_v5 val_main_call0_v3 val_main_call0_v1 val_main_call0_v0
  generalize val_main_v2 (F := Ideal) x3 = d
  pointwise [val_main_call0_v4, val_main_call0_v2, val_main_call0_cst, val_main_call0_cst_0]
  rfl

theorem v82 (j : Fin 256) : val_main_v82 (F := Ideal) x3 (ix3 b s j) = silu (val_main_v5 (F := Ideal) x3 (ix3 b s j)) := by
  unfold val_main_v82 val_main_call1_v5 val_main_call1_v3 val_main_call1_v1 val_main_call1_v0
  generalize val_main_v5 (F := Ideal) x3 = d
  pointwise [val_main_call1_v4, val_main_call1_v2, val_main_call1_cst, val_main_call1_cst_0]
  rfl

theorem v84 (j : Fin 256) : val_main_v84 (F := Ideal) x3 (ix3 b s j) = silu (val_main_v7 (F := Ideal) x3 (ix3 b s j)) := by
  unfold val_main_v84 val_main_call2_v5 val_main_call2_v3 val_main_call2_v1 val_main_call2_v0
  generalize val_main_v7 (F := Ideal) x3 = d
  pointwise [val_main_call2_v4, val_main_call2_v2, val_main_call2_cst, val_main_call2_cst_0]
  rfl

/-- The normed branch. -/
theorem v46 (j : Fin 256) : val_main_v46 (F := Ideal) x3 x7 (ix3 b s j)
    = vn (colsM x3 256 2304 (by decide) (row b s)) (fun j => x7 (ix2 0 j)) j := by
  have h : val_main_v46 (F := Ideal) x3 x7 (ix3 b s j) = mul (mul (val_main_v33 (F := Ideal) x3 (ix3 b s j))
      (rs256 fun k => val_main_v33 (F := Ideal) x3 (ix3 b s k))) (x7 (ix2 0 j)) := by
    unfold val_main_v46 val_main_v43 val_main_v42 val_main_v41 val_main_v40 val_main_v38 val_main_v36 val_main_v35 val_main_v34
    generalize val_main_v33 (F := Ideal) x3 = d
    pointwise [val_main_v45, val_main_v44, val_main_v39, val_main_v37, val_main_cst_7, val_main_cst_8, val_main_cst_9]
    rfl
  rw [h]
  simp only [v33, v4]
  rfl

/-- The mixing along a chunk, chunk by chunk. -/
theorem v48 (g : Fin 4) (n : Fin 16) (e : Fin 64) (i : Fin 128) :
    val_main_v48 (F := Ideal) x3 x5 x7 (ix5 g b n e i) = ∑ k : Fin 128, mul (val_main_v46 (F := Ideal) x3 x7
      (ix3 b ⟨128 * n.val + k.val, by omega⟩ (lane g e))) (x5 (ix3 g i k)) := by
  unfold val_main_v48 val_main_v47
  generalize val_main_v46 (F := Ideal) x3 x7 = d
  pointwise
  refine Finset.sum_congr rfl fun k _ => congrArg (mul · _) (congrArg₂ (fun p q => d (ix3 b p q)) (Fin.ext ?_) (Fin.ext ?_))
  · show n.val * 128 + k.val = 128 * n.val + k.val
    omega
  · show g.val * 64 + e.val = 64 * g.val + e.val
    omega

/-- The mixed branch. -/
theorem v54 (j : Fin 256) : val_main_v54 (F := Ideal) x3 x5 x6 x7 (ix3 b s j) = mixM x3 x5 x6 x7 (row b s) j := by
  have h : val_main_v54 (F := Ideal) x3 x5 x6 x7 (ix3 b s j)
      = add (val_main_v48 (F := Ideal) x3 x5 x7 (ix5 (grp j) b ⟨s.val / 128, by omega⟩ ⟨j.val % 64, by omega⟩ ⟨s.val % 128, by omega⟩))
          (x6 (ix2 (grp j) ⟨s.val % 128, by omega⟩)) := by
    unfold val_main_v54 val_main_v53 val_main_v49
    generalize val_main_v48 (F := Ideal) x3 x5 x7 = d
    pointwise [val_main_v52, val_main_v51, val_main_v50]
    rfl
  have hl : lane (grp j) ⟨j.val % 64, by omega⟩ = j := Fin.ext (by simp only [lane, grp]; omega)
  have e1 : (⟨s.val % 128, by omega⟩ : Fin 128) = ⟨(row b s).val % 128, by omega⟩ := Fin.ext (by simp only [row]; omega)
  rw [h, v48, e1]
  simp only [hl, v46]
  unfold mixM mixed
  refine (add_comm _ _).trans (congrArg (add _) (Finset.sum_congr rfl fun k _ => (mul_comm _ _).trans
    (congrArg (fun R => mul _ (vn (colsM x3 256 2304 (by decide) R) _ j)) (Fin.ext ?_))))
  simp only [row]
  omega

/-- The queries, keys and values by heads. -/
theorem v61 (h : Fin 4) (e : Fin 64) : val_main_v61 (F := Ideal) x3 (ix4 b s h e) = val_main_v6 (F := Ideal) x3 (ix3 b s (lane h e)) := by
  unfold val_main_v61
  generalize val_main_v6 (F := Ideal) x3 = d
  pointwise
  refine congrArg (fun q => d (ix3 b s q)) (Fin.ext ?_)
  show h.val * 64 + e.val = 64 * h.val + e.val
  omega

theorem v59 (k : Fin 256) (h : Fin 4) (e : Fin 64) : val_main_v59 (F := Ideal) x4 (ix4 b k h e)
    = x4 (ix2 ⟨256 * b.val + k.val, by omega⟩ ((lane h e).castLE (by decide))) := by
  pointwise [val_main_v59, val_main_v57, val_main_v56]
  refine congrArg₂ (fun p q => x4 (ix2 p q)) (Fin.ext ?_) (Fin.ext ?_)
  · show b.val * 256 + k.val = 256 * b.val + k.val
    omega
  · show h.val * 64 + e.val = 64 * h.val + e.val
    omega

theorem v60 (k : Fin 256) (h : Fin 4) (e : Fin 64) : val_main_v60 (F := Ideal) x4 (ix4 b k h e)
    = x4 (ix2 ⟨256 * b.val + k.val, by omega⟩ ((lane h e).natAdd 256)) := by
  pointwise [val_main_v60, val_main_v58, val_main_v56]
  refine congrArg₂ (fun p q => x4 (ix2 p q)) (Fin.ext ?_) (Fin.ext ?_)
  · show b.val * 256 + k.val = 256 * b.val + k.val
    omega
  · show 256 + (h.val * 64 + e.val) = 256 + (64 * h.val + e.val)
    omega

/-- The scores. -/
theorem v64 (h : Fin 4) (k : Fin 256) : val_main_v64 (F := Ideal) x3 x4 (ix4 b h s k)
    = score (colsM x3 256 2816 (by decide) (row b s)) (fun m j => x4 (ix2 ⟨256 * b.val + m.val, by omega⟩ j)) h k := by
  have e : val_main_v64 (F := Ideal) x3 x4 (ix4 b h s k)
      = mul (∑ e : Fin 64, mul (val_main_v61 (F := Ideal) x3 (ix4 b s h e)) (val_main_v59 (F := Ideal) x4 (ix4 b k h e))) (word 0x3E000000#32) := by
    unfold val_main_v64 val_main_v62
    generalize val_main_v61 (F := Ideal) x3 = d
    generalize val_main_v59 (F := Ideal) x4 = d'
    pointwise [val_main_v63, val_main_cst_10]
  rw [e]
  simp only [v61, v59, v6]
  rfl

/-- The greatest score of a row. -/
theorem v67 (h : Fin 4) : val_main_v67 (F := Ideal) x3 x4 (ix3 b h s) = top fun k => val_main_v64 (F := Ideal) x3 x4 (ix4 b h s k) := by
  have e : val_main_v65 (F := Ideal) x3 x4 (ix3 b h s) = top fun k => val_main_v64 (F := Ideal) x3 x4 (ix4 b h s k) := by
    have hc : val_main_cst_11 (F := Ideal) (Shape.Idx.first h_S_) = word 0xFF800000#32 := by pointwise [val_main_cst_11]
    unfold val_main_v65 top
    rw [← hc]
    generalize val_main_v64 (F := Ideal) x3 x4 = d
    generalize val_main_cst_11 (F := Ideal) = c
    exact hostMax d c reducesTo_S2x4x2048x256_S2x4x2048_d3 h_S_ b h s
  have h66 : val_main_v66 (F := Ideal) (ix3 b h s) = word 0xFF800000#32 := by pointwise [val_main_v66, val_main_cst_12]
  rw [val_main_v67_apply, h66, e]
  generalize (top fun k => val_main_v64 (F := Ideal) x3 x4 (ix4 b h s k)) = t
  rw [Ideal.maximumf_def, cbot]
  exact max_eq_right bot_le

/-- The weight of a key. -/
theorem v75 (h : Fin 4) (k : Fin 256) : val_main_v75 (F := Ideal) x3 x4 (ix4 b h s k)
    = Ideal.div (Ideal.exp (val_main_v64 (F := Ideal) x3 x4 (ix4 b h s k) - val_main_v67 (F := Ideal) x3 x4 (ix3 b h s)))
        (∑ i : Fin 256, Ideal.exp (val_main_v64 (F := Ideal) x3 x4 (ix4 b h s i) - val_main_v67 (F := Ideal) x3 x4 (ix3 b h s))) := by
  unfold val_main_v75 val_main_v74 val_main_v73 val_main_v72 val_main_v71 val_main_v70 val_main_v69 val_main_v68
  generalize val_main_v64 (F := Ideal) x3 x4 = d
  generalize val_main_v67 (F := Ideal) x3 x4 = d'
  pointwise [val_main_cst_13]

/-- What a row reads from the values. -/
theorem v78_read (j : Fin 256) : val_main_v78 (F := Ideal) x3 x4 (ix3 b s j)
    = ∑ k : Fin 256, mul (val_main_v60 (F := Ideal) x4 (ix4 b k (grp j) ⟨j.val % 64, by omega⟩)) (val_main_v75 (F := Ideal) x3 x4 (ix4 b (grp j) s k)) := by
  unfold val_main_v78 val_main_v77 val_main_v76
  generalize val_main_v60 (F := Ideal) x4 = d
  generalize val_main_v75 (F := Ideal) x3 x4 = d'
  pointwise
  rfl

theorem v78 (hq : ∀ j, ∃ a : ℝ, colsM x3 256 2816 (by decide) (row b s) j = (a : EReal))
    (hk : ∀ (m : Fin 512) (j : Fin 256), ∃ a : ℝ, x4 (ix2 m (j.castLE (by decide))) = (a : EReal)) (j : Fin 256) :
    val_main_v78 (F := Ideal) x3 x4 (ix3 b s j) = readM x3 x4 (row b s) j := by
  have hl : lane (grp j) ⟨j.val % 64, by omega⟩ = j := Fin.ext (by simp only [lane, grp]; omega)
  have hkv : (fun (m : Fin 256) (j : Fin 512) => x4 (ix2 (⟨256 * b.val + m.val, by omega⟩ : Fin 512) j))
      = fun m j => x4 (ix2 ⟨256 * ((row b s).val / 2048) + m.val, by omega⟩ j) :=
    funext fun m => funext fun j => congrArg (fun p => x4 (ix2 p j)) (Fin.ext (by simp only [row]; omega))
  have hw : ∀ m, val_main_v75 (F := Ideal) x3 x4 (ix4 b (grp j) s m)
      = weight (score (colsM x3 256 2816 (by decide) (row b s)) (fun m j => x4 (ix2 ⟨256 * b.val + m.val, by omega⟩ j)) (grp j)) m := fun m => by
    rw [v75, v67]
    simp only [v64]
    exact weight_div _ (fun m => score_real _ _ hq (fun m j => hk _ j) _ m) m
  rw [v78_read]
  simp only [hw, v60, hl]
  unfold readM readout
  rw [← hkv]
  exact Finset.sum_congr rfl fun m _ => mul_comm _ _

end Columns

end Cert.Mid.Ref

end
-- ==== Proof.MidRefB.lean ====
module

public import proofs.«01_k».proof.Proof.MidRef
public import Idealize.ShloMosaic.Lib.Pointwise

@[expose] public section

set_option maxRecDepth 16384

noncomputable section

/-! The reference of the middle of the step, row by row: the residual step, its gradient and the two results. -/

namespace Cert.Mid.Ref

open Cert.Reference6Ideal Cert.Reference6Ideal.Gen Cert.Reference6Ideal.Read Idealize.ShloMosaic Idealize.ShloMosaic.TcCoe

variable (x0 x1 : (⟨S2x2048x1024, .f32⟩ : BufTy).Contents (Elt Ideal)) (x2 : (⟨S4096x512, .f32⟩ : BufTy).Contents (Elt Ideal))
  (x3 : (⟨S4096x3328, .f32⟩ : BufTy).Contents (Elt Ideal)) (x4 : (⟨S512x512, .f32⟩ : BufTy).Contents (Elt Ideal))
  (x5 : (⟨S4x128x128, .f32⟩ : BufTy).Contents (Elt Ideal)) (x6 : (⟨S4x128, .f32⟩ : BufTy).Contents (Elt Ideal))
  (x7 : (⟨S1x256, .f32⟩ : BufTy).Contents (Elt Ideal)) (x8 : (⟨S1024x1024, .f32⟩ : BufTy).Contents (Elt Ideal))
  (x9 : (⟨S1024, .f32⟩ : BufTy).Contents (Elt Ideal))

section Rows
variable (b : Fin 2) (s : Fin 2048)

/-- A row of an array given by batch entries. -/
theorem token_row (x : FVec Ideal ⟨3, ![2, 2048, 1024]⟩ .f32) : tokenM x (row b s) = fun j => x (ix3 b s j) :=
  funext fun j => congrArg₂ (fun p q => x (ix3 p q j)) (Fin.ext (by simp only [row]; omega)) (Fin.ext (by simp only [row]; omega))

theorem v81 (j : Fin 512) : val_main_v81 (F := Ideal) x2 x3 (ix3 b s j)
    = mul (silu (colsM x3 512 1536 (by decide) (row b s) j)) (x2 (ix2 (row b s) j)) := by
  have h : ∀ y : FVec Ideal S2x2048x512 .f32, mulf y (val_main_v80 (F := Ideal) x2) (ix3 b s j)
      = mul (y (ix3 b s j)) (x2 (ix2 (row b s) j)) := fun y => by
    pointwise [val_main_v80]
    refine congrArg (mul _) (congrArg (fun p => x2 (ix2 p j)) (Fin.ext ?_))
    show b.val * 2048 + s.val = 2048 * b.val + s.val
    omega
  rw [← v2, ← v79]
  exact h _

theorem v83 (j : Fin 256) : val_main_v83 (F := Ideal) x3 x5 x6 x7 (ix3 b s j)
    = mul (silu (colsM x3 256 2560 (by decide) (row b s) j))
        (mul (gelu (colsM x3 256 2048 (by decide) (row b s) j)) (mixM x3 x5 x6 x7 (row b s) j)) := by
  rw [← v3, ← v20, ← v54, ← v5, ← v82]
  rfl

theorem v85 (hq : ∀ j, ∃ a : ℝ, colsM x3 256 2816 (by decide) (row b s) j = (a : EReal))
    (hk : ∀ (m : Fin 512) (j : Fin 256), ∃ a : ℝ, x4 (ix2 m (j.castLE (by decide))) = (a : EReal)) (j : Fin 256) :
    val_main_v85 (F := Ideal) x3 x4 (ix3 b s j)
    = mul (silu (colsM x3 256 3072 (by decide) (row b s) j)) (readM x3 x4 (row b s) j) := by
  rw [← v7, ← v84, ← v78 x3 x4 b s hq hk]
  rfl

/-- The three branches side by side. -/
theorem v86 (k : Fin 1024) : val_main_v86 (F := Ideal) x2 x3 x4 x5 x6 x7 (ix3 b s k)
    = join (fun j => val_main_v81 (F := Ideal) x2 x3 (ix3 b s j)) (fun j => val_main_v83 (F := Ideal) x3 x5 x6 x7 (ix3 b s j))
        (fun j => val_main_v85 (F := Ideal) x3 x4 (ix3 b s j)) k := by
  unfold val_main_v86 join
  generalize val_main_v81 (F := Ideal) x2 x3 = p
  generalize val_main_v83 (F := Ideal) x3 x5 x6 x7 = q
  generalize val_main_v85 (F := Ideal) x3 x4 = r
  pointwise

/-- The residual step. -/
theorem v90_read (j : Fin 1024) : val_main_v90 (F := Ideal) x0 x2 x3 x4 x5 x6 x7 x8 (ix3 b s j)
    = add (x0 (ix3 b s j)) (∑ k, mul (val_main_v86 (F := Ideal) x2 x3 x4 x5 x6 x7 (ix3 b s k)) (x8 (ix2 k j))) := by
  unfold val_main_v90 val_main_v89
  generalize val_main_v86 (F := Ideal) x2 x3 x4 x5 x6 x7 = d
  pointwise

theorem v90 (hq : ∀ j, ∃ a : ℝ, colsM x3 256 2816 (by decide) (row b s) j = (a : EReal))
    (hk : ∀ (m : Fin 512) (j : Fin 256), ∃ a : ℝ, x4 (ix2 m (j.castLE (by decide))) = (a : EReal)) :
    (fun j => val_main_v90 (F := Ideal) x0 x2 x3 x4 x5 x6 x7 x8 (ix3 b s j)) = residM x0 x2 x3 x4 x5 x6 x7 x8 (row b s) := by
  funext j
  rw [v90_read]
  simp only [v86, v81, v83, v85 x3 x4 b s hq hk]
  unfold residM resid gateM
  rw [token_row]

/-- The mean square of a row. -/
theorem v97 (z : Fin 1) : val_main_v97 (F := Ideal) x0 x2 x3 x4 x5 x6 x7 x8 (ix3 b s z) = Norm.ms fun k => val_main_v90 (F := Ideal) x0 x2 x3 x4 x5 x6 x7 x8 (ix3 b s k) := by
  unfold val_main_v97 val_main_v95 val_main_v93 val_main_v92 val_main_v91
  generalize val_main_v90 (F := Ideal) x0 x2 x3 x4 x5 x6 x7 x8 = y
  pointwise [val_main_v96, val_main_v94, val_main_cst_16, val_main_cst_17, val_main_cst_18]
  rfl

/-- The inverse root of the mean square. -/
theorem v98 (z : Fin 1) : val_main_v98 (F := Ideal) x0 x2 x3 x4 x5 x6 x7 x8 (ix3 b s z) = Ideal.rsqrt (Norm.ms fun k => val_main_v90 (F := Ideal) x0 x2 x3 x4 x5 x6 x7 x8 (ix3 b s k)) := by
  rw [← v97 x0 x2 x3 x4 x5 x6 x7 x8 b s z]
  rfl

/-- The derivative of the inverse root. -/
theorem v101 (z : Fin 1) : val_main_v101 (F := Ideal) x0 x2 x3 x4 x5 x6 x7 x8 (ix3 b s z) = Ideal.ofBits FTy.f32 0xBF000000#32
    * Ideal.div (Ideal.rsqrt (Norm.ms fun k => val_main_v90 (F := Ideal) x0 x2 x3 x4 x5 x6 x7 x8 (ix3 b s k))) (Norm.ms fun k => val_main_v90 (F := Ideal) x0 x2 x3 x4 x5 x6 x7 x8 (ix3 b s k)) := by
  rw [← v98 x0 x2 x3 x4 x5 x6 x7 x8 b s z, ← v97 x0 x2 x3 x4 x5 x6 x7 x8 b s z]
  unfold val_main_v101 val_main_v99
  generalize val_main_v98 (F := Ideal) x0 x2 x3 x4 x5 x6 x7 x8 = w
  generalize val_main_v97 (F := Ideal) x0 x2 x3 x4 x5 x6 x7 x8 = y
  pointwise [val_main_v100, val_main_cst_19]

/-- The gradient of the loss with respect to the final norm's product. -/
theorem v123 (j : Fin 1024) : val_main_v123 (F := Ideal) x0 x1 x2 x3 x4 x5 x6 x7 x8 x9 (ix3 b s j)
    = upstream (fun k => val_main_v90 (F := Ideal) x0 x2 x3 x4 x5 x6 x7 x8 (ix3 b s k)) (fun k => x9 (ix1 k)) (fun k => x1 (ix3 b s k)) j := by
  have h : val_main_v123 (F := Ideal) x0 x1 x2 x3 x4 x5 x6 x7 x8 x9 (ix3 b s j) = mul (mul (val_main_v90 (F := Ideal) x0 x2 x3 x4 x5 x6 x7 x8 (ix3 b s j) * val_main_v98 (F := Ideal) x0 x2 x3 x4 x5 x6 x7 x8 (ix3 b s 0) * x9 (ix1 j) - x1 (ix3 b s j))
      (word 0x3A800000#32)) (x9 (ix1 j)) := by
    unfold val_main_v123 val_main_v122 val_main_v121 val_main_v110 val_main_v107 val_main_v106 val_main_v103 val_main_v102
    generalize val_main_v90 (F := Ideal) x0 x2 x3 x4 x5 x6 x7 x8 = y
    generalize val_main_v98 (F := Ideal) x0 x2 x3 x4 x5 x6 x7 x8 = w
    pointwise [val_main_v105, val_main_v104, val_main_v109, val_main_v116, val_main_v117, val_main_v118, val_main_v119, val_main_v120, val_main_cst_20, val_main_cst_25, val_main_cst_26, val_main_cst_27]
    exact congrArg (mul · _) (loss_factor _)
  rw [h, v98]
  rfl

/-- The gradient that goes through the mean square. -/
theorem v132 : val_main_v132 (F := Ideal) x0 x1 x2 x3 x4 x5 x6 x7 x8 x9 (ix2 b s)
    = Ideal.div (mul (∑ k, mul (val_main_v90 (F := Ideal) x0 x2 x3 x4 x5 x6 x7 x8 (ix3 b s k)) (val_main_v123 (F := Ideal) x0 x1 x2 x3 x4 x5 x6 x7 x8 x9 (ix3 b s k))) (val_main_v101 (F := Ideal) x0 x2 x3 x4 x5 x6 x7 x8 (ix3 b s 0))) (Ideal.ofBits FTy.f32 1149239296#32) := by
  unfold val_main_v132 val_main_v131 val_main_v129 val_main_v126 val_main_v125 val_main_v124
  generalize val_main_v123 (F := Ideal) x0 x1 x2 x3 x4 x5 x6 x7 x8 x9 = t
  generalize val_main_v101 (F := Ideal) x0 x2 x3 x4 x5 x6 x7 x8 = w
  generalize val_main_v90 (F := Ideal) x0 x2 x3 x4 x5 x6 x7 x8 = y
  pointwise [val_main_v130, val_main_cst_28, val_main_cst_29, val_main_cst_30]
  rw [Fin.sum_univ_one]

/-- The gradient of a row, as the reference adds it up. -/
theorem v137_read (j : Fin 1024) : val_main_v137 (F := Ideal) x0 x1 x2 x3 x4 x5 x6 x7 x8 x9 (ix3 b s j)
    = add (add (mul (val_main_v123 (F := Ideal) x0 x1 x2 x3 x4 x5 x6 x7 x8 x9 (ix3 b s j)) (val_main_v98 (F := Ideal) x0 x2 x3 x4 x5 x6 x7 x8 (ix3 b s 0))) (mul (val_main_v90 (F := Ideal) x0 x2 x3 x4 x5 x6 x7 x8 (ix3 b s j)) (val_main_v132 (F := Ideal) x0 x1 x2 x3 x4 x5 x6 x7 x8 x9 (ix2 b s))))
        (mul (val_main_v132 (F := Ideal) x0 x1 x2 x3 x4 x5 x6 x7 x8 x9 (ix2 b s)) (val_main_v90 (F := Ideal) x0 x2 x3 x4 x5 x6 x7 x8 (ix3 b s j))) := by
  unfold val_main_v137 val_main_v136 val_main_v135 val_main_v134 val_main_v133 val_main_v128 val_main_v127
  generalize val_main_v132 (F := Ideal) x0 x1 x2 x3 x4 x5 x6 x7 x8 x9 = z
  generalize val_main_v123 (F := Ideal) x0 x1 x2 x3 x4 x5 x6 x7 x8 x9 = t
  generalize val_main_v98 (F := Ideal) x0 x2 x3 x4 x5 x6 x7 x8 = w
  generalize val_main_v90 (F := Ideal) x0 x2 x3 x4 x5 x6 x7 x8 = y
  pointwise

theorem v137 (j : Fin 1024) : val_main_v137 (F := Ideal) x0 x1 x2 x3 x4 x5 x6 x7 x8 x9 (ix3 b s j)
    = dx2 (fun k => val_main_v90 (F := Ideal) x0 x2 x3 x4 x5 x6 x7 x8 (ix3 b s k)) (fun k => x9 (ix1 k)) (fun k => x1 (ix3 b s k)) j := by
  rw [v137_read, v132, v101, v98]
  simp only [mul, add, v123]
  unfold dx2
  exact (Norm.grad (fun k => val_main_v90 (F := Ideal) x0 x2 x3 x4 x5 x6 x7 x8 (ix3 b s k)) _ j).symm

/-- The gradient of the joined branches. -/
theorem v138 (j : Fin 1024) : val_main_v138 (F := Ideal) x0 x1 x2 x3 x4 x5 x6 x7 x8 x9 (ix3 b s j)
    = ∑ k, mul (val_main_v137 (F := Ideal) x0 x1 x2 x3 x4 x5 x6 x7 x8 x9 (ix3 b s k)) (x8 (ix2 j k)) := by
  unfold val_main_v138
  generalize val_main_v137 (F := Ideal) x0 x1 x2 x3 x4 x5 x6 x7 x8 x9 = d
  pointwise

theorem v143_read (j : Fin 512) : val_main_v143 (F := Ideal) x0 x1 x2 x3 x4 x5 x6 x7 x8 x9 (ix2 (row b s) j)
    = mul (val_main_v79 (F := Ideal) x3 (ix3 b s j)) (val_main_v138 (F := Ideal) x0 x1 x2 x3 x4 x5 x6 x7 x8 x9 (ix3 b s (j.castLE (by decide)))) := by
  unfold val_main_v143 val_main_v142 val_main_v139
  generalize val_main_v79 (F := Ideal) x3 = p
  generalize val_main_v138 (F := Ideal) x0 x1 x2 x3 x4 x5 x6 x7 x8 x9 = d
  pointwise
  have e1 : (⟨(2048 * b.val + s.val) / 2048, by omega⟩ : Fin 2) = b := Fin.ext (by show (2048 * b.val + s.val) / 2048 = b.val; omega)
  have e2 : (⟨(2048 * b.val + s.val) % 2048, by omega⟩ : Fin 2048) = s := Fin.ext (by show (2048 * b.val + s.val) % 2048 = s.val; omega)
  exact congrArg₂ (fun u v => mul (p (ix3 u v j)) (d (ix3 u v (j.castLE (by decide))))) e1 e2

theorem v144_read (j : Fin 1024) : val_main_v144 (F := Ideal) x0 x1 x2 x3 x4 x5 x6 x7 x8 x9 (ix2 (row b s) j) = val_main_v137 (F := Ideal) x0 x1 x2 x3 x4 x5 x6 x7 x8 x9 (ix3 b s j) := by
  unfold val_main_v144
  generalize val_main_v137 (F := Ideal) x0 x1 x2 x3 x4 x5 x6 x7 x8 x9 = d
  pointwise
  exact congrArg₂ (fun u v => d (ix3 u v j)) (Fin.ext (by show (2048 * b.val + s.val) / 2048 = b.val; omega))
    (Fin.ext (by show (2048 * b.val + s.val) % 2048 = s.val; omega))

end Rows

/-- Every row is a place of a batch entry. -/
theorem row_eq (R : Fin 4096) : R = row ⟨R.val / 2048, by omega⟩ ⟨R.val % 2048, by omega⟩ := Fin.ext (by simp only [row]; omega)

/-- The result: the gradient of the rows. -/
theorem v144 (hq : ∀ R j, ∃ a : ℝ, colsM x3 256 2816 (by decide) R j = (a : EReal))
    (hk : ∀ (m : Fin 512) (j : Fin 256), ∃ a : ℝ, x4 (ix2 m (j.castLE (by decide))) = (a : EReal)) (R : Fin 4096) (j : Fin 1024) :
    val_main_v144 (F := Ideal) x0 x1 x2 x3 x4 x5 x6 x7 x8 x9 (ix2 R j) = dxM x0 x1 x2 x3 x4 x5 x6 x7 x8 x9 R j := by
  rw [row_eq R, v144_read, v137, v90 x0 x2 x3 x4 x5 x6 x7 x8 _ _ (hq _) hk]
  unfold dxM
  rw [token_row]

/-- The result: the gradient of the first branch's factor. -/
theorem v143 (hq : ∀ R j, ∃ a : ℝ, colsM x3 256 2816 (by decide) R j = (a : EReal))
    (hk : ∀ (m : Fin 512) (j : Fin 256), ∃ a : ℝ, x4 (ix2 m (j.castLE (by decide))) = (a : EReal)) (R : Fin 4096) (j : Fin 512) :
    val_main_v143 (F := Ideal) x0 x1 x2 x3 x4 x5 x6 x7 x8 x9 (ix2 R j) = daM x0 x1 x2 x3 x4 x5 x6 x7 x8 x9 R j := by
  rw [row_eq R, v143_read, v138, v79, v2]
  simp only [v137]
  rw [v90 x0 x2 x3 x4 x5 x6 x7 x8 _ _ (hq _) hk]
  unfold daM da
  rw [token_row]
  exact mul_comm _ _

end Cert.Mid.Ref

end
-- ==== Proof.MidPre.lean ====
module

public import proofs.«01_k».proof.Proof.MidMath
public import proofs.«01_k».proof.Proof.Gen.Pre_finite_scores
public import Idealize.ShloMosaic.Lib.Pointwise

@[expose] public section

set_option maxRecDepth 16384

noncomputable section

/-! What the condition on the scores says: the queries and the keys are real numbers. -/

namespace Cert.Mid.Pre

open Cert.Pre_finite_scores Cert.Pre_finite_scores.Gen Idealize.ShloMosaic

variable (x0 x1 : FVec Ideal S2x2048x1024 .f32) (x2 : FVec Ideal S4096x512 .f32) (x3 : FVec Ideal S4096x3328 .f32)
  (x4 : FVec Ideal S512x512 .f32) (x5 : FVec Ideal S4x128x128 .f32) (x6 : FVec Ideal S4x128 .f32) (x7 : FVec Ideal S1x256 .f32)
  (x8 : FVec Ideal S1024x1024 .f32) (x9 : FVec Ideal S1024 .f32)

theorem cinf : word 0x7F800000#32 = ⊤ := by
  simp [Ideal.ofBits, Ideal.ieee]

/-- The truth value of a comparison that holds. -/
theorem holds {p : Prop} [Decidable p] (h : BitVec.ofBool (decide p) = 1#1) : p := by
  by_contra hp
  simp [hp] at h

/-- The queries are real numbers. -/
theorem query (h : fn (F := Ideal) x0 x1 x2 x3 x4 x5 x6 x7 x8 x9 = fun _ => 1#1) (R : Fin 4096) (j : Fin 256) :
    ∃ a : ℝ, x3 (ix2 R ⟨2816 + j.val, by omega⟩) = (a : EReal) := by
  have e : fn (F := Ideal) x0 x1 x2 x3 x4 x5 x6 x7 x8 x9 (ix2 ⟨R.val, by omega⟩ j) = BitVec.ofBool (decide
      (max (x3 (ix2 R ⟨2816 + j.val, by omega⟩)) (-x3 (ix2 R ⟨2816 + j.val, by omega⟩)) < word 0x7F800000#32)) := by
    have hR : R.val < 4096 := R.isLt
    pointwise [fn, hR]
    rfl
  rw [h] at e
  exact real_of_lt _ (cinf ▸ holds e.symm)

/-- The keys are real numbers. -/
theorem key (h : fn (F := Ideal) x0 x1 x2 x3 x4 x5 x6 x7 x8 x9 = fun _ => 1#1) (k : Fin 512) (j : Fin 256) :
    ∃ a : ℝ, x4 (ix2 k (j.castLE (by decide))) = (a : EReal) := by
  have e : fn (F := Ideal) x0 x1 x2 x3 x4 x5 x6 x7 x8 x9 (ix2 ⟨4096 + k.val, by omega⟩ j) = BitVec.ofBool (decide
      (max (x4 (ix2 k (j.castLE (by decide)))) (-x4 (ix2 k (j.castLE (by decide)))) < word 0x7F800000#32)) := by
    have hk : ¬4096 + k.val < 4096 := by omega
    pointwise [fn, hk]
    rfl
  rw [h] at e
  exact real_of_lt _ (cinf ▸ holds e.symm)

end Cert.Mid.Pre

end
-- ==== Proof.MidClaim.lean ====
module

public import proofs.«01_k».proof.Defs
public import proofs.«01_k».proof.Proof.MidArr
public import proofs.«01_k».proof.Proof.MidRefB
public import proofs.«01_k».proof.Proof.MidPre
public import proofs.«01_k».proof.Proof.Gen.Reference6Ideal.Run
public import Idealize.ShloMosaic.Lib.Claim

@[expose] public section

set_option maxRecDepth 16384

noncomputable section

/-! The middle of the step: the runs of the kernel and of its reference, and the equality of their results. -/

namespace Cert.Mid

open Cert.Kernel6Ideal Cert.Kernel6Ideal.Gen Idealize.ShloMosaic Idealize.ShloMosaic.TcCoe Idealize.SL.Sem

/-- The kernel over the extended reals runs, keeps its arguments and ends with every counter at zero. -/
theorem frame_ideal : Cert.quiescent_Kernel6Ideal := fun m ρ _ => frame (F := Ideal) m ρ

/-- The same under the condition on the scores. -/
theorem frame_ideal_pre : Cert.quiescent_Kernel6Ideal_pre_finite_scores := fun m ρ _ => frame (F := Ideal) m ρ

/-- The reference runs, keeps its arguments and ends with every counter at zero. -/
theorem frame_reference : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

/-- The same under the condition on the scores. -/
theorem frame_reference_pre : Cert.quiescent_Reference6Ideal_pre_finite_scores := fun m ρ _ => frame_reference m ρ trivial

section Values
variable (x0 x1 : FVec Ideal ⟨3, ![2, 2048, 1024]⟩ .f32) (x2 : FVec Ideal ⟨2, ![4096, 512]⟩ .f32) (x3 : FVec Ideal ⟨2, ![4096, 3328]⟩ .f32)
  (x4 : FVec Ideal ⟨2, ![512, 512]⟩ .f32) (x5 : FVec Ideal ⟨3, ![4, 128, 128]⟩ .f32) (x6 : FVec Ideal ⟨2, ![4, 128]⟩ .f32)
  (x7 : FVec Ideal ⟨2, ![1, 256]⟩ .f32) (x8 : FVec Ideal ⟨2, ![1024, 1024]⟩ .f32) (x9 : FVec Ideal ⟨1, ![1024]⟩ .f32)
  (h : Cert.Pre_finite_scores.fn (F := Ideal) x0 x1 x2 x3 x4 x5 x6 x7 x8 x9 = fun _ => 1#1)
include h

/-- The reference's gradient of the rows. -/
theorem value_dx : Cert.Reference6Ideal.Read.val_main_v144 (F := Ideal) x0 x1 x2 x3 x4 x5 x6 x7 x8 x9 = fun y => dxM x0 x1 x2 x3 x4 x5 x6 x7 x8 x9 (y 0) (y 1) := by
  funext y
  idx_vars y
  exact Ref.v144 x0 x1 x2 x3 x4 x5 x6 x7 x8 x9 (Pre.query x0 x1 x2 x3 x4 x5 x6 x7 x8 x9 h) (Pre.key x0 x1 x2 x3 x4 x5 x6 x7 x8 x9 h) y0 y1

/-- The reference's gradient of the first branch's factor. -/
theorem value_da : Cert.Reference6Ideal.Read.val_main_v143 (F := Ideal) x0 x1 x2 x3 x4 x5 x6 x7 x8 x9 = fun y => daM x0 x1 x2 x3 x4 x5 x6 x7 x8 x9 (y 0) (y 1) := by
  funext y
  idx_vars y
  exact Ref.v143 x0 x1 x2 x3 x4 x5 x6 x7 x8 x9 (Pre.query x0 x1 x2 x3 x4 x5 x6 x7 x8 x9 h) (Pre.key x0 x1 x2 x3 x4 x5 x6 x7 x8 x9 h) y0 y1

end Values

/-- The kernel's two results are the reference's where the queries and the keys are finite. -/
theorem algebraic : Cert.algebraic_Kernel6Ideal_Reference6Ideal_pre_finite_scores := by
  intro m g m' g' hpre hagree
  refine ⟨fun c y => dxM (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8))
      (m (c.tc.loc main_arg9)) (y 0) (y 1),
    fun c y => daM (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8))
      (m (c.tc.loc main_arg9)) (y 0) (y 1), ?_, ?_⟩
  · exact (θ_run _ _ _).mono (fun r h c => ⟨((h.2 c).1 16).trans (final16 m c), ((h.2 c).1 17).trans (final17 m c), h.1 c⟩)
      (θ_run_and (unchanged (F := Ideal) m g) (run_main (F := Ideal) m g))
  · run_from Cert.Reference6Ideal.Value.run m' g'
    · obtain ⟨h0, h1, h2, h3, h4, h5, h6, h7, h8, h9⟩ := hagree c
      rw [Cert.Reference6Ideal.Read.val_main_v144_eq]
      refine Eq.trans ?_ (value_dx _ _ _ _ _ _ _ _ _ _ (hpre c))
      rw [← h0, ← h1, ← h2, ← h3, ← h4, ← h5, ← h6, ← h7, ← h8, ← h9]
    · obtain ⟨h0, h1, h2, h3, h4, h5, h6, h7, h8, h9⟩ := hagree c
      rw [Cert.Reference6Ideal.Read.val_main_v143_eq]
      refine Eq.trans ?_ (value_da _ _ _ _ _ _ _ _ _ _ (hpre c))
      rw [← h0, ← h1, ← h2, ← h3, ← h4, ← h5, ← h6, ← h7, ← h8, ← h9]

end Cert.Mid

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.DxClaim
public import proofs.«01_k».proof.Proof.FwdClaim
public import proofs.«01_k».proof.Proof.DwClaim
public import proofs.«01_k».proof.Proof.KvFwdClaim
public import proofs.«01_k».proof.Proof.KvBwdClaim
public import proofs.«01_k».proof.Proof.MidClaim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6Ideal
public import proofs.«01_k».proof.Proof.Gen.Kernel6Ideal.Frame.Runs
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_scores
public import Idealize.ShloMosaic.Adequacy
public import Idealize.ShloMosaic.Init

@[expose] public section

noncomputable section

namespace Cert.Proof

open Idealize.ShloMosaic Idealize.SL.Sem

/-- The reference of the input's gradient runs, keeps its arguments and ends with every counter at zero. -/
theorem frame_reference_dx : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The reference of the input projection runs, keeps its arguments and ends with every counter at zero. -/
theorem frame_reference_fwd : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The reference of the weights' gradient runs, keeps its arguments and ends with every counter at zero. -/
theorem frame_reference_dw : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The reference of the memory's keys and values runs, keeps its arguments and ends with every counter at zero. -/
theorem frame_reference_kv : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The reference of the memory's gradients runs, keeps its arguments and ends with every counter at zero. -/
theorem frame_reference_kv_bwd : Cert.quiescent_Reference5Ideal := fun m ρ _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m ρ)

/-- The claim of this certificate: the six calls, each with its reference. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6Ideal.Gen.facts, Cert.Reference6Ideal.Gen.facts, Cert.Pre_finite_scores.Gen.facts,
  fun m ρ _ => Cert.Kernel.Gen.frame m ρ, fun m ρ _ => Cert.KernelIdeal.Gen.frame m ρ, frame_reference_dx,
  fun m ρ _ => Cert.Kernel2.Gen.frame m ρ, fun m ρ _ => Cert.Kernel2Ideal.Gen.frame m ρ, frame_reference_fwd,
  fun m ρ _ => Cert.Kernel3.Gen.frame m ρ, fun m ρ _ => Cert.Kernel3Ideal.Gen.frame m ρ, frame_reference_dw,
  fun m ρ _ => Cert.Kernel4.Gen.frame m ρ, fun m ρ _ => Cert.Kernel4Ideal.Gen.frame m ρ, frame_reference_kv,
  fun m ρ _ => Cert.Kernel5.Gen.frame m ρ, fun m ρ _ => Cert.Kernel5Ideal.Gen.frame m ρ, frame_reference_kv_bwd,
  Cert.Mid.frame_ideal, Cert.Mid.frame_ideal_pre, Cert.Mid.frame_reference, Cert.Mid.frame_reference_pre,
  trivial, Cert.Dx.Claim.algebraic, trivial, Cert.Fwd.algebraic, trivial, Cert.Dw.algebraic,
  trivial, Cert.KvFwd.algebraic, trivial, Cert.KvBwd.algebraic, Cert.Mid.algebraic⟩

end Cert.Proof

end
